-- ==== Defs.lean ====
def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelBias (m : (ℓ : Loc Cert.KernelBias.nD Cert.KernelBias.τ Cert.KernelBias.sig) → Buf (Elt Bits) ℓ) : Prop :=
  True

def Pre_KernelBiasIdeal (m : (ℓ : Loc Cert.KernelBiasIdeal.nD Cert.KernelBiasIdeal.τ Cert.KernelBiasIdeal.sig) → Buf (Elt Ideal) ℓ) : Prop :=
  True

def Pre_ReferenceBiasIdeal (m : (ℓ : Loc Cert.ReferenceBiasIdeal.nD Cert.ReferenceBiasIdeal.τ Cert.ReferenceBiasIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite [hPre_finite : Cert.Pre_finite.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3))) = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite [hPre_finite : Cert.Pre_finite.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3))) = (fun _ => 1#1)

def Pre_KernelRwkv (m : (ℓ : Loc Cert.KernelRwkv.nD Cert.KernelRwkv.τ Cert.KernelRwkv.sig) → Buf (Elt Bits) ℓ) : Prop :=
  True

def Pre_KernelRwkvIdeal (m : (ℓ : Loc Cert.KernelRwkvIdeal.nD Cert.KernelRwkvIdeal.τ Cert.KernelRwkvIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_KernelMergeIdeal_bounded [hPre_bounded : Cert.Pre_bounded.Facts] (m : (ℓ : Loc Cert.KernelMergeIdeal.nD Cert.KernelMergeIdeal.τ Cert.KernelMergeIdeal.sig) → Buf (Elt Ideal) ℓ) : Prop :=
  ∀ c : Dev Cert.KernelMergeIdeal.nD,
    (Cert.Pre_bounded.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11))) = (fun _ => 1#1)

def Pre_ReferenceMergeIdeal (m : (ℓ : Loc Cert.ReferenceMergeIdeal.nD Cert.ReferenceMergeIdeal.τ Cert.ReferenceMergeIdeal.sig) → Buf (Elt Ideal) ℓ) : Prop :=
  True

def Pre_ReferenceMergeIdeal_bounded [hPre_bounded : Cert.Pre_bounded.Facts] (m : (ℓ : Loc Cert.ReferenceMergeIdeal.nD Cert.ReferenceMergeIdeal.τ Cert.ReferenceMergeIdeal.sig) → Buf (Elt Ideal) ℓ) : Prop :=
  ∀ c : Dev Cert.ReferenceMergeIdeal.nD,
    (Cert.Pre_bounded.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11))) = (fun _ => 1#1)

def Pre_KernelMoe (m : (ℓ : Loc Cert.KernelMoe.nD Cert.KernelMoe.τ Cert.KernelMoe.sig) → Buf (Elt Bits) ℓ) : Prop :=
  True

def Pre_KernelMoeIdeal (m : (ℓ : Loc Cert.KernelMoeIdeal.nD Cert.KernelMoeIdeal.τ Cert.KernelMoeIdeal.sig) → Buf (Elt Ideal) ℓ) : Prop :=
  True

def Pre_ReferenceMoeIdeal (m : (ℓ : Loc Cert.ReferenceMoeIdeal.nD Cert.ReferenceMoeIdeal.τ Cert.ReferenceMoeIdeal.sig) → Buf (Elt Ideal) ℓ) : Prop :=
  True

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3))
      ∧ r.2.sem = fun _ => 0)

def quiescent_KernelBias [hKernelBias : Cert.KernelBias.Facts] : Prop :=
  ∀ (m : (ℓ : Loc Cert.KernelBias.nD Cert.KernelBias.τ Cert.KernelBias.sig) → Buf (Elt Bits) ℓ) (g : Dev Cert.KernelBias.nD → PrngReg), Pre_KernelBias m →
    θ_run (Cert.KernelBias.defs (F := Bits)) (onTc (τ := Cert.KernelBias.τ) (Cert.KernelBias.main (F := Bits))) ⟨m, fun _ => 0, g⟩ (fun r => (∀ c : Dev Cert.KernelBias.nD,
      r.2.mem ((c.tc : Thread Cert.KernelBias.nD Cert.KernelBias.τ).loc Cert.KernelBias.main_arg0) = m ((c.tc : Thread Cert.KernelBias.nD Cert.KernelBias.τ).loc Cert.KernelBias.main_arg0))
      ∧ r.2.sem = fun _ => 0)

def quiescent_KernelBiasIdeal [hKernelBiasIdeal : Cert.KernelBiasIdeal.Facts] : Prop :=
  ∀ (m : (ℓ : Loc Cert.KernelBiasIdeal.nD Cert.KernelBiasIdeal.τ Cert.KernelBiasIdeal.sig) → Buf (Elt Ideal) ℓ) (g : Dev Cert.KernelBiasIdeal.nD → PrngReg), Pre_KernelBiasIdeal m →
    θ_run (Cert.KernelBiasIdeal.defs (F := Ideal)) (onTc (τ := Cert.KernelBiasIdeal.τ) (Cert.KernelBiasIdeal.main (F := Ideal))) ⟨m, fun _ => 0, g⟩ (fun r => (∀ c : Dev Cert.KernelBiasIdeal.nD,
      r.2.mem ((c.tc : Thread Cert.KernelBiasIdeal.nD Cert.KernelBiasIdeal.τ).loc Cert.KernelBiasIdeal.main_arg0) = m ((c.tc : Thread Cert.KernelBiasIdeal.nD Cert.KernelBiasIdeal.τ).loc Cert.KernelBiasIdeal.main_arg0))
      ∧ r.2.sem = fun _ => 0)

def quiescent_ReferenceBiasIdeal [hReferenceBiasIdeal : Cert.ReferenceBiasIdeal.Facts] : Prop :=
  ∀ (m : (ℓ : Loc Cert.ReferenceBiasIdeal.nD Cert.ReferenceBiasIdeal.τ Cert.ReferenceBiasIdeal.sig) → Buf (Elt Ideal) ℓ) (g : Dev Cert.ReferenceBiasIdeal.nD → PrngReg), Pre_ReferenceBiasIdeal m →
    θ_run (Cert.ReferenceBiasIdeal.defs (F := Ideal)) (onTc (τ := Cert.ReferenceBiasIdeal.τ) (Cert.ReferenceBiasIdeal.main (F := Ideal))) ⟨m, fun _ => 0, g⟩ (fun r => (∀ c : Dev Cert.ReferenceBiasIdeal.nD,
      r.2.mem ((c.tc : Thread Cert.ReferenceBiasIdeal.nD Cert.ReferenceBiasIdeal.τ).loc Cert.ReferenceBiasIdeal.main_arg0) = m ((c.tc : Thread Cert.ReferenceBiasIdeal.nD Cert.ReferenceBiasIdeal.τ).loc Cert.ReferenceBiasIdeal.main_arg0))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ r.2.sem = fun _ => 0)

def quiescent_KernelAttnIdeal_pre_finite [hKernelAttnIdeal : Cert.KernelAttnIdeal.Facts] [hPre_finite : Cert.Pre_finite.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3))
      ∧ r.2.sem = fun _ => 0)

def quiescent_ReferenceAttnIdeal_pre_finite [hReferenceAttnIdeal : Cert.ReferenceAttnIdeal.Facts] [hPre_finite : Cert.Pre_finite.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3))
      ∧ r.2.sem = fun _ => 0)

def quiescent_KernelRwkv [hKernelRwkv : Cert.KernelRwkv.Facts] : Prop :=
  ∀ (m : (ℓ : Loc Cert.KernelRwkv.nD Cert.KernelRwkv.τ Cert.KernelRwkv.sig) → Buf (Elt Bits) ℓ) (g : Dev Cert.KernelRwkv.nD → PrngReg), Pre_KernelRwkv m →
    θ_run (Cert.KernelRwkv.defs (F := Bits)) (onTc (τ := Cert.KernelRwkv.τ) (Cert.KernelRwkv.main (F := Bits))) ⟨m, fun _ => 0, g⟩ (fun r => (∀ c : Dev Cert.KernelRwkv.nD,
      r.2.mem ((c.tc : Thread Cert.KernelRwkv.nD Cert.KernelRwkv.τ).loc Cert.KernelRwkv.main_arg0) = m ((c.tc : Thread Cert.KernelRwkv.nD Cert.KernelRwkv.τ).loc Cert.KernelRwkv.main_arg0)
      ∧ r.2.mem ((c.tc : Thread Cert.KernelRwkv.nD Cert.KernelRwkv.τ).loc Cert.KernelRwkv.main_arg1) = m ((c.tc : Thread Cert.KernelRwkv.nD Cert.KernelRwkv.τ).loc Cert.KernelRwkv.main_arg1)
      ∧ r.2.mem ((c.tc : Thread Cert.KernelRwkv.nD Cert.KernelRwkv.τ).loc Cert.KernelRwkv.main_arg2) = m ((c.tc : Thread Cert.KernelRwkv.nD Cert.KernelRwkv.τ).loc Cert.KernelRwkv.main_arg2)
      ∧ r.2.mem ((c.tc : Thread Cert.KernelRwkv.nD Cert.KernelRwkv.τ).loc Cert.KernelRwkv.main_arg3) = m ((c.tc : Thread Cert.KernelRwkv.nD Cert.KernelRwkv.τ).loc Cert.KernelRwkv.main_arg3)
      ∧ r.2.mem ((c.tc : Thread Cert.KernelRwkv.nD Cert.KernelRwkv.τ).loc Cert.KernelRwkv.main_arg4) = m ((c.tc : Thread Cert.KernelRwkv.nD Cert.KernelRwkv.τ).loc Cert.KernelRwkv.main_arg4)
      ∧ r.2.mem ((c.tc : Thread Cert.KernelRwkv.nD Cert.KernelRwkv.τ).loc Cert.KernelRwkv.main_arg5) = m ((c.tc : Thread Cert.KernelRwkv.nD Cert.KernelRwkv.τ).loc Cert.KernelRwkv.main_arg5)
      ∧ r.2.mem ((c.tc : Thread Cert.KernelRwkv.nD Cert.KernelRwkv.τ).loc Cert.KernelRwkv.main_arg6) = m ((c.tc : Thread Cert.KernelRwkv.nD Cert.KernelRwkv.τ).loc Cert.KernelRwkv.main_arg6)
      ∧ r.2.mem ((c.tc : Thread Cert.KernelRwkv.nD Cert.KernelRwkv.τ).loc Cert.KernelRwkv.main_arg7) = m ((c.tc : Thread Cert.KernelRwkv.nD Cert.KernelRwkv.τ).loc Cert.KernelRwkv.main_arg7)
      ∧ r.2.mem ((c.tc : Thread Cert.KernelRwkv.nD Cert.KernelRwkv.τ).loc Cert.KernelRwkv.main_arg8) = m ((c.tc : Thread Cert.KernelRwkv.nD Cert.KernelRwkv.τ).loc Cert.KernelRwkv.main_arg8)
      ∧ r.2.mem ((c.tc : Thread Cert.KernelRwkv.nD Cert.KernelRwkv.τ).loc Cert.KernelRwkv.main_arg9) = m ((c.tc : Thread Cert.KernelRwkv.nD Cert.KernelRwkv.τ).loc Cert.KernelRwkv.main_arg9)
      ∧ r.2.mem ((c.tc : Thread Cert.KernelRwkv.nD Cert.KernelRwkv.τ).loc Cert.KernelRwkv.main_arg10) = m ((c.tc : Thread Cert.KernelRwkv.nD Cert.KernelRwkv.τ).loc Cert.KernelRwkv.main_arg10))
      ∧ r.2.sem = fun _ => 0)

def quiescent_KernelRwkvIdeal [hKernelRwkvIdeal : Cert.KernelRwkvIdeal.Facts] : Prop :=
  ∀ (m : (ℓ : Loc Cert.KernelRwkvIdeal.nD Cert.KernelRwkvIdeal.τ Cert.KernelRwkvIdeal.sig) → Buf (Elt Ideal) ℓ) (g : Dev Cert.KernelRwkvIdeal.nD → PrngReg), Pre_KernelRwkvIdeal m →
    θ_run (Cert.KernelRwkvIdeal.defs (F := Ideal)) (onTc (τ := Cert.KernelRwkvIdeal.τ) (Cert.KernelRwkvIdeal.main (F := Ideal))) ⟨m, fun _ => 0, g⟩ (fun r => (∀ c : Dev Cert.KernelRwkvIdeal.nD,
      r.2.mem ((c.tc : Thread Cert.KernelRwkvIdeal.nD Cert.KernelRwkvIdeal.τ).loc Cert.KernelRwkvIdeal.main_arg0) = m ((c.tc : Thread Cert.KernelRwkvIdeal.nD Cert.KernelRwkvIdeal.τ).loc Cert.KernelRwkvIdeal.main_arg0)
      ∧ r.2.mem ((c.tc : Thread Cert.KernelRwkvIdeal.nD Cert.KernelRwkvIdeal.τ).loc Cert.KernelRwkvIdeal.main_arg1) = m ((c.tc : Thread Cert.KernelRwkvIdeal.nD Cert.KernelRwkvIdeal.τ).loc Cert.KernelRwkvIdeal.main_arg1)
      ∧ r.2.mem ((c.tc : Thread Cert.KernelRwkvIdeal.nD Cert.KernelRwkvIdeal.τ).loc Cert.KernelRwkvIdeal.main_arg2) = m ((c.tc : Thread Cert.KernelRwkvIdeal.nD Cert.KernelRwkvIdeal.τ).loc Cert.KernelRwkvIdeal.main_arg2)
      ∧ r.2.mem ((c.tc : Thread Cert.KernelRwkvIdeal.nD Cert.KernelRwkvIdeal.τ).loc Cert.KernelRwkvIdeal.main_arg3) = m ((c.tc : Thread Cert.KernelRwkvIdeal.nD Cert.KernelRwkvIdeal.τ).loc Cert.KernelRwkvIdeal.main_arg3)
      ∧ r.2.mem ((c.tc : Thread Cert.KernelRwkvIdeal.nD Cert.KernelRwkvIdeal.τ).loc Cert.KernelRwkvIdeal.main_arg4) = m ((c.tc : Thread Cert.KernelRwkvIdeal.nD Cert.KernelRwkvIdeal.τ).loc Cert.KernelRwkvIdeal.main_arg4)
      ∧ r.2.mem ((c.tc : Thread Cert.KernelRwkvIdeal.nD Cert.KernelRwkvIdeal.τ).loc Cert.KernelRwkvIdeal.main_arg5) = m ((c.tc : Thread Cert.KernelRwkvIdeal.nD Cert.KernelRwkvIdeal.τ).loc Cert.KernelRwkvIdeal.main_arg5)
      ∧ r.2.mem ((c.tc : Thread Cert.KernelRwkvIdeal.nD Cert.KernelRwkvIdeal.τ).loc Cert.KernelRwkvIdeal.main_arg6) = m ((c.tc : Thread Cert.KernelRwkvIdeal.nD Cert.KernelRwkvIdeal.τ).loc Cert.KernelRwkvIdeal.main_arg6)
      ∧ r.2.mem ((c.tc : Thread Cert.KernelRwkvIdeal.nD Cert.KernelRwkvIdeal.τ).loc Cert.KernelRwkvIdeal.main_arg7) = m ((c.tc : Thread Cert.KernelRwkvIdeal.nD Cert.KernelRwkvIdeal.τ).loc Cert.KernelRwkvIdeal.main_arg7)
      ∧ r.2.mem ((c.tc : Thread Cert.KernelRwkvIdeal.nD Cert.KernelRwkvIdeal.τ).loc Cert.KernelRwkvIdeal.main_arg8) = m ((c.tc : Thread Cert.KernelRwkvIdeal.nD Cert.KernelRwkvIdeal.τ).loc Cert.KernelRwkvIdeal.main_arg8)
      ∧ r.2.mem ((c.tc : Thread Cert.KernelRwkvIdeal.nD Cert.KernelRwkvIdeal.τ).loc Cert.KernelRwkvIdeal.main_arg9) = m ((c.tc : Thread Cert.KernelRwkvIdeal.nD Cert.KernelRwkvIdeal.τ).loc Cert.KernelRwkvIdeal.main_arg9)
      ∧ r.2.mem ((c.tc : Thread Cert.KernelRwkvIdeal.nD Cert.KernelRwkvIdeal.τ).loc Cert.KernelRwkvIdeal.main_arg10) = m ((c.tc : Thread Cert.KernelRwkvIdeal.nD Cert.KernelRwkvIdeal.τ).loc Cert.KernelRwkvIdeal.main_arg10))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9)
      ∧ r.2.mem ((c.tc : Thread Cert.KernelMerge.nD Cert.KernelMerge.τ).loc Cert.KernelMerge.main_arg10) = m ((c.tc : Thread Cert.KernelMerge.nD Cert.KernelMerge.τ).loc Cert.KernelMerge.main_arg10)
      ∧ r.2.mem ((c.tc : Thread Cert.KernelMerge.nD Cert.KernelMerge.τ).loc Cert.KernelMerge.main_arg11) = m ((c.tc : Thread Cert.KernelMerge.nD Cert.KernelMerge.τ).loc Cert.KernelMerge.main_arg11))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
      ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
      ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11))
      ∧ r.2.sem = fun _ => 0)

def quiescent_KernelMergeIdeal_pre_bounded [hKernelMergeIdeal : Cert.KernelMergeIdeal.Facts] [hPre_bounded : Cert.Pre_bounded.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal_bounded m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
      ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
      ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10)
      ∧ r.2.mem ((c.tc : Thread Cert.ReferenceMergeIdeal.nD Cert.ReferenceMergeIdeal.τ).loc Cert.ReferenceMergeIdeal.main_arg11) = m ((c.tc : Thread Cert.ReferenceMergeIdeal.nD Cert.ReferenceMergeIdeal.τ).loc Cert.ReferenceMergeIdeal.main_arg11))
      ∧ r.2.sem = fun _ => 0)

def quiescent_ReferenceMergeIdeal_pre_bounded [hReferenceMergeIdeal : Cert.ReferenceMergeIdeal.Facts] [hPre_bounded : Cert.Pre_bounded.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal_bounded m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10)
      ∧ r.2.mem ((c.tc : Thread Cert.ReferenceMergeIdeal.nD Cert.ReferenceMergeIdeal.τ).loc Cert.ReferenceMergeIdeal.main_arg11) = m ((c.tc : Thread Cert.ReferenceMergeIdeal.nD Cert.ReferenceMergeIdeal.τ).loc Cert.ReferenceMergeIdeal.main_arg11))
      ∧ r.2.sem = fun _ => 0)

def quiescent_KernelMoe [hKernelMoe : Cert.KernelMoe.Facts] : Prop :=
  ∀ (m : (ℓ : Loc Cert.KernelMoe.nD Cert.KernelMoe.τ Cert.KernelMoe.sig) → Buf (Elt Bits) ℓ) (g : Dev Cert.KernelMoe.nD → PrngReg), Pre_KernelMoe m →
    θ_run (Cert.KernelMoe.defs (F := Bits)) (onTc (τ := Cert.KernelMoe.τ) (Cert.KernelMoe.main (F := Bits))) ⟨m, fun _ => 0, g⟩ (fun r => (∀ c : Dev Cert.KernelMoe.nD,
      r.2.mem ((c.tc : Thread Cert.KernelMoe.nD Cert.KernelMoe.τ).loc Cert.KernelMoe.main_arg0) = m ((c.tc : Thread Cert.KernelMoe.nD Cert.KernelMoe.τ).loc Cert.KernelMoe.main_arg0)
      ∧ r.2.mem ((c.tc : Thread Cert.KernelMoe.nD Cert.KernelMoe.τ).loc Cert.KernelMoe.main_arg1) = m ((c.tc : Thread Cert.KernelMoe.nD Cert.KernelMoe.τ).loc Cert.KernelMoe.main_arg1)
      ∧ r.2.mem ((c.tc : Thread Cert.KernelMoe.nD Cert.KernelMoe.τ).loc Cert.KernelMoe.main_arg2) = m ((c.tc : Thread Cert.KernelMoe.nD Cert.KernelMoe.τ).loc Cert.KernelMoe.main_arg2)
      ∧ r.2.mem ((c.tc : Thread Cert.KernelMoe.nD Cert.KernelMoe.τ).loc Cert.KernelMoe.main_arg3) = m ((c.tc : Thread Cert.KernelMoe.nD Cert.KernelMoe.τ).loc Cert.KernelMoe.main_arg3)
      ∧ r.2.mem ((c.tc : Thread Cert.KernelMoe.nD Cert.KernelMoe.τ).loc Cert.KernelMoe.main_arg4) = m ((c.tc : Thread Cert.KernelMoe.nD Cert.KernelMoe.τ).loc Cert.KernelMoe.main_arg4)
      ∧ r.2.mem ((c.tc : Thread Cert.KernelMoe.nD Cert.KernelMoe.τ).loc Cert.KernelMoe.main_arg5) = m ((c.tc : Thread Cert.KernelMoe.nD Cert.KernelMoe.τ).loc Cert.KernelMoe.main_arg5)
      ∧ r.2.mem ((c.tc : Thread Cert.KernelMoe.nD Cert.KernelMoe.τ).loc Cert.KernelMoe.main_arg6) = m ((c.tc : Thread Cert.KernelMoe.nD Cert.KernelMoe.τ).loc Cert.KernelMoe.main_arg6))
      ∧ r.2.sem = fun _ => 0)

def quiescent_KernelMoeIdeal [hKernelMoeIdeal : Cert.KernelMoeIdeal.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg), Pre_KernelMoeIdeal m →
    θ_run (Cert.KernelMoeIdeal.defs (F := Ideal)) (onTc (τ := Cert.KernelMoeIdeal.τ) (Cert.KernelMoeIdeal.main (F := Ideal))) ⟨m, fun _ => 0, g⟩ (fun r => (∀ c : Dev Cert.KernelMoeIdeal.nD,
      r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
      ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
      ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
      ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
      ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
      ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5)
      ∧ r.2.mem ((c.tc : Thread Cert.KernelMoeIdeal.nD Cert.KernelMoeIdeal.τ).loc Cert.KernelMoeIdeal.main_arg6) = m ((c.tc : Thread Cert.KernelMoeIdeal.nD Cert.KernelMoeIdeal.τ).loc Cert.KernelMoeIdeal.main_arg6))
      ∧ r.2.sem = fun _ => 0)

def quiescent_ReferenceMoeIdeal [hReferenceMoeIdeal : Cert.ReferenceMoeIdeal.Facts] : Prop :=
  ∀ (m : (ℓ : Loc Cert.ReferenceMoeIdeal.nD Cert.ReferenceMoeIdeal.τ Cert.ReferenceMoeIdeal.sig) → Buf (Elt Ideal) ℓ) (g : Dev Cert.ReferenceMoeIdeal.nD → PrngReg), Pre_ReferenceMoeIdeal m →
    θ_run (Cert.ReferenceMoeIdeal.defs (F := Ideal)) (onTc (τ := Cert.ReferenceMoeIdeal.τ) (Cert.ReferenceMoeIdeal.main (F := Ideal))) ⟨m, fun _ => 0, g⟩ (fun r => (∀ c : Dev Cert.ReferenceMoeIdeal.nD,
      r.2.mem ((c.tc : Thread Cert.ReferenceMoeIdeal.nD Cert.ReferenceMoeIdeal.τ).loc Cert.ReferenceMoeIdeal.main_arg0) = m ((c.tc : Thread Cert.ReferenceMoeIdeal.nD Cert.ReferenceMoeIdeal.τ).loc Cert.ReferenceMoeIdeal.main_arg0)
      ∧ r.2.mem ((c.tc : Thread Cert.ReferenceMoeIdeal.nD Cert.ReferenceMoeIdeal.τ).loc Cert.ReferenceMoeIdeal.main_arg1) = m ((c.tc : Thread Cert.ReferenceMoeIdeal.nD Cert.ReferenceMoeIdeal.τ).loc Cert.ReferenceMoeIdeal.main_arg1)
      ∧ r.2.mem ((c.tc : Thread Cert.ReferenceMoeIdeal.nD Cert.ReferenceMoeIdeal.τ).loc Cert.ReferenceMoeIdeal.main_arg2) = m ((c.tc : Thread Cert.ReferenceMoeIdeal.nD Cert.ReferenceMoeIdeal.τ).loc Cert.ReferenceMoeIdeal.main_arg2)
      ∧ r.2.mem ((c.tc : Thread Cert.ReferenceMoeIdeal.nD Cert.ReferenceMoeIdeal.τ).loc Cert.ReferenceMoeIdeal.main_arg3) = m ((c.tc : Thread Cert.ReferenceMoeIdeal.nD Cert.ReferenceMoeIdeal.τ).loc Cert.ReferenceMoeIdeal.main_arg3)
      ∧ r.2.mem ((c.tc : Thread Cert.ReferenceMoeIdeal.nD Cert.ReferenceMoeIdeal.τ).loc Cert.ReferenceMoeIdeal.main_arg4) = m ((c.tc : Thread Cert.ReferenceMoeIdeal.nD Cert.ReferenceMoeIdeal.τ).loc Cert.ReferenceMoeIdeal.main_arg4)
      ∧ r.2.mem ((c.tc : Thread Cert.ReferenceMoeIdeal.nD Cert.ReferenceMoeIdeal.τ).loc Cert.ReferenceMoeIdeal.main_arg5) = m ((c.tc : Thread Cert.ReferenceMoeIdeal.nD Cert.ReferenceMoeIdeal.τ).loc Cert.ReferenceMoeIdeal.main_arg5)
      ∧ r.2.mem ((c.tc : Thread Cert.ReferenceMoeIdeal.nD Cert.ReferenceMoeIdeal.τ).loc Cert.ReferenceMoeIdeal.main_arg6) = m ((c.tc : Thread Cert.ReferenceMoeIdeal.nD Cert.ReferenceMoeIdeal.τ).loc Cert.ReferenceMoeIdeal.main_arg6))
      ∧ r.2.sem = fun _ => 0)

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)) →
    ∃ (v0 : (c : Dev Cert.KernelProjIdeal.nD) → Buf (Elt Ideal) ((c.tc : Thread Cert.KernelProjIdeal.nD Cert.KernelProjIdeal.τ).loc Cert.KernelProjIdeal.main_v3_0)) (v1 : (c : Dev Cert.KernelProjIdeal.nD) → Buf (Elt Ideal) ((c.tc : Thread Cert.KernelProjIdeal.nD Cert.KernelProjIdeal.τ).loc Cert.KernelProjIdeal.main_v3_1)) (v2 : (c : Dev Cert.KernelProjIdeal.nD) → Buf (Elt Ideal) ((c.tc : Thread Cert.KernelProjIdeal.nD Cert.KernelProjIdeal.τ).loc Cert.KernelProjIdeal.main_v3_2)) (v3 : (c : Dev Cert.KernelProjIdeal.nD) → Buf (Elt Ideal) ((c.tc : Thread Cert.KernelProjIdeal.nD Cert.KernelProjIdeal.τ).loc Cert.KernelProjIdeal.main_v3_3)) (v4 : (c : Dev Cert.KernelProjIdeal.nD) → Buf (Elt Ideal) ((c.tc : Thread Cert.KernelProjIdeal.nD Cert.KernelProjIdeal.τ).loc Cert.KernelProjIdeal.main_v3_4)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v3_0) = v0 c
          ∧ r.2.mem ((c.tc : Thread Cert.KernelProjIdeal.nD Cert.KernelProjIdeal.τ).loc Cert.KernelProjIdeal.main_v3_1) = v1 c
          ∧ r.2.mem ((c.tc : Thread Cert.KernelProjIdeal.nD Cert.KernelProjIdeal.τ).loc Cert.KernelProjIdeal.main_v3_2) = v2 c
          ∧ r.2.mem ((c.tc : Thread Cert.KernelProjIdeal.nD Cert.KernelProjIdeal.τ).loc Cert.KernelProjIdeal.main_v3_3) = v3 c
          ∧ r.2.mem ((c.tc : Thread Cert.KernelProjIdeal.nD Cert.KernelProjIdeal.τ).loc Cert.KernelProjIdeal.main_v3_4) = v4 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v34) = v0 c
          ∧ r.2.mem ((c.tc : Thread Cert.ReferenceProjIdeal.nD Cert.ReferenceProjIdeal.τ).loc Cert.ReferenceProjIdeal.main_v36) = v1 c
          ∧ r.2.mem ((c.tc : Thread Cert.ReferenceProjIdeal.nD Cert.ReferenceProjIdeal.τ).loc Cert.ReferenceProjIdeal.main_v38) = v2 c
          ∧ r.2.mem ((c.tc : Thread Cert.ReferenceProjIdeal.nD Cert.ReferenceProjIdeal.τ).loc Cert.ReferenceProjIdeal.main_v39) = v3 c
          ∧ r.2.mem ((c.tc : Thread Cert.ReferenceProjIdeal.nD Cert.ReferenceProjIdeal.τ).loc Cert.ReferenceProjIdeal.main_v41) = v4 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3))

def preserves_KernelBias_KernelBiasIdeal : Prop :=
  True

def algebraic_KernelBiasIdeal_ReferenceBiasIdeal [hKernelBiasIdeal : Cert.KernelBiasIdeal.Facts] [hReferenceBiasIdeal : Cert.ReferenceBiasIdeal.Facts] : Prop :=
  ∀ (m : (ℓ : Loc Cert.KernelBiasIdeal.nD Cert.KernelBiasIdeal.τ Cert.KernelBiasIdeal.sig) → Buf (Elt Ideal) ℓ) (g : Dev Cert.KernelBiasIdeal.nD → PrngReg)
    (m' : (ℓ : Loc Cert.ReferenceBiasIdeal.nD Cert.ReferenceBiasIdeal.τ Cert.ReferenceBiasIdeal.sig) → Buf (Elt Ideal) ℓ) (g' : Dev Cert.ReferenceBiasIdeal.nD → PrngReg), Pre_KernelBiasIdeal m →
    (∀ c : Dev Cert.KernelBiasIdeal.nD,
      m' ((c.tc : Thread Cert.ReferenceBiasIdeal.nD Cert.ReferenceBiasIdeal.τ).loc Cert.ReferenceBiasIdeal.main_arg0) = m ((c.tc : Thread Cert.KernelBiasIdeal.nD Cert.KernelBiasIdeal.τ).loc Cert.KernelBiasIdeal.main_arg0)) →
    ∃ (v0 : (c : Dev Cert.KernelBiasIdeal.nD) → Buf (Elt Ideal) ((c.tc : Thread Cert.KernelBiasIdeal.nD Cert.KernelBiasIdeal.τ).loc Cert.KernelBiasIdeal.main_v7)),
      θ_run (Cert.KernelBiasIdeal.defs (F := Ideal)) (onTc (τ := Cert.KernelBiasIdeal.τ) (Cert.KernelBiasIdeal.main (F := Ideal))) ⟨m, fun _ => 0, g⟩ (fun r => ∀ c : Dev Cert.KernelBiasIdeal.nD,
          r.2.mem ((c.tc : Thread Cert.KernelBiasIdeal.nD Cert.KernelBiasIdeal.τ).loc Cert.KernelBiasIdeal.main_v7) = v0 c
          ∧ r.2.mem ((c.tc : Thread Cert.KernelBiasIdeal.nD Cert.KernelBiasIdeal.τ).loc Cert.KernelBiasIdeal.main_arg0) = m ((c.tc : Thread Cert.KernelBiasIdeal.nD Cert.KernelBiasIdeal.τ).loc Cert.KernelBiasIdeal.main_arg0))
      ∧ θ_run (Cert.ReferenceBiasIdeal.defs (F := Ideal)) (onTc (τ := Cert.ReferenceBiasIdeal.τ) (Cert.ReferenceBiasIdeal.main (F := Ideal))) ⟨m', fun _ => 0, g'⟩ (fun r => ∀ c : Dev Cert.ReferenceBiasIdeal.nD,
          r.2.mem ((c.tc : Thread Cert.ReferenceBiasIdeal.nD Cert.ReferenceBiasIdeal.τ).loc Cert.ReferenceBiasIdeal.main_v18) = v0 c
          ∧ r.2.mem ((c.tc : Thread Cert.ReferenceBiasIdeal.nD Cert.ReferenceBiasIdeal.τ).loc Cert.ReferenceBiasIdeal.main_arg0) = m' ((c.tc : Thread Cert.ReferenceBiasIdeal.nD Cert.ReferenceBiasIdeal.τ).loc Cert.ReferenceBiasIdeal.main_arg0))

def preserves_KernelAttn_KernelAttnIdeal : Prop :=
  True

def algebraic_KernelAttnIdeal_ReferenceAttnIdeal_pre_finite [hKernelAttnIdeal : Cert.KernelAttnIdeal.Facts] [hReferenceAttnIdeal : Cert.ReferenceAttnIdeal.Facts] [hPre_finite : Cert.Pre_finite.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)) →
    ∃ (v0 : (c : Dev Cert.KernelAttnIdeal.nD) → Buf (Elt Ideal) ((c.tc : Thread Cert.KernelAttnIdeal.nD Cert.KernelAttnIdeal.τ).loc Cert.KernelAttnIdeal.main_v0)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v0) = v0 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v65) = v0 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3))

def preserves_KernelRwkv_KernelRwkvIdeal : Prop :=
  True

def preserves_KernelMerge_KernelMergeIdeal : Prop :=
  True

def algebraic_KernelMergeIdeal_ReferenceMergeIdeal_pre_bounded [hKernelMergeIdeal : Cert.KernelMergeIdeal.Facts] [hReferenceMergeIdeal : Cert.ReferenceMergeIdeal.Facts] [hPre_bounded : Cert.Pre_bounded.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal_bounded m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)
      ∧ m' ((c.tc : Thread Cert.ReferenceMergeIdeal.nD Cert.ReferenceMergeIdeal.τ).loc Cert.ReferenceMergeIdeal.main_arg10) = m ((c.tc : Thread Cert.KernelMergeIdeal.nD Cert.KernelMergeIdeal.τ).loc Cert.KernelMergeIdeal.main_arg10)
      ∧ m' ((c.tc : Thread Cert.ReferenceMergeIdeal.nD Cert.ReferenceMergeIdeal.τ).loc Cert.ReferenceMergeIdeal.main_arg11) = m ((c.tc : Thread Cert.KernelMergeIdeal.nD Cert.KernelMergeIdeal.τ).loc Cert.KernelMergeIdeal.main_arg11)) →
    ∃ (v0 : (c : Dev Cert.KernelMergeIdeal.nD) → Buf (Elt Ideal) ((c.tc : Thread Cert.KernelMergeIdeal.nD Cert.KernelMergeIdeal.τ).loc Cert.KernelMergeIdeal.main_v9_0)) (v1 : (c : Dev Cert.KernelMergeIdeal.nD) → Buf (Elt Ideal) ((c.tc : Thread Cert.KernelMergeIdeal.nD Cert.KernelMergeIdeal.τ).loc Cert.KernelMergeIdeal.main_v9_1)) (v2 : (c : Dev Cert.KernelMergeIdeal.nD) → Buf (Elt Ideal) ((c.tc : Thread Cert.KernelMergeIdeal.nD Cert.KernelMergeIdeal.τ).loc Cert.KernelMergeIdeal.main_v9_2)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v9_0) = v0 c
          ∧ r.2.mem ((c.tc : Thread Cert.KernelMergeIdeal.nD Cert.KernelMergeIdeal.τ).loc Cert.KernelMergeIdeal.main_v9_1) = v1 c
          ∧ r.2.mem ((c.tc : Thread Cert.KernelMergeIdeal.nD Cert.KernelMergeIdeal.τ).loc Cert.KernelMergeIdeal.main_v9_2) = v2 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
          ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
          ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v11) = v0 c
          ∧ r.2.mem ((c.tc : Thread Cert.ReferenceMergeIdeal.nD Cert.ReferenceMergeIdeal.τ).loc Cert.ReferenceMergeIdeal.main_v67) = v1 c
          ∧ r.2.mem ((c.tc : Thread Cert.ReferenceMergeIdeal.nD Cert.ReferenceMergeIdeal.τ).loc Cert.ReferenceMergeIdeal.main_v68) = v2 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9)
          ∧ r.2.mem ((c.tc : Thread Cert.ReferenceMergeIdeal.nD Cert.ReferenceMergeIdeal.τ).loc Cert.ReferenceMergeIdeal.main_arg10) = m' ((c.tc : Thread Cert.ReferenceMergeIdeal.nD Cert.ReferenceMergeIdeal.τ).loc Cert.ReferenceMergeIdeal.main_arg10)
          ∧ r.2.mem ((c.tc : Thread Cert.ReferenceMergeIdeal.nD Cert.ReferenceMergeIdeal.τ).loc Cert.ReferenceMergeIdeal.main_arg11) = m' ((c.tc : Thread Cert.ReferenceMergeIdeal.nD Cert.ReferenceMergeIdeal.τ).loc Cert.ReferenceMergeIdeal.main_arg11))

def preserves_KernelMoe_KernelMoeIdeal : Prop :=
  True

def algebraic_KernelMoeIdeal_ReferenceMoeIdeal [hKernelMoeIdeal : Cert.KernelMoeIdeal.Facts] [hReferenceMoeIdeal : Cert.ReferenceMoeIdeal.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg)
    (m' : (ℓ : Loc Cert.ReferenceMoeIdeal.nD Cert.ReferenceMoeIdeal.τ Cert.ReferenceMoeIdeal.sig) → Buf (Elt Ideal) ℓ) (g' : Dev Cert.ReferenceMoeIdeal.nD → PrngReg), Pre_KernelMoeIdeal m →
    (∀ c : Dev Cert.KernelMoeIdeal.nD,
      m' ((c.tc : Thread Cert.ReferenceMoeIdeal.nD Cert.ReferenceMoeIdeal.τ).loc Cert.ReferenceMoeIdeal.main_arg0) = m ((c.tc : Thread Cert.KernelMoeIdeal.nD Cert.KernelMoeIdeal.τ).loc Cert.KernelMoeIdeal.main_arg0)
      ∧ m' ((c.tc : Thread Cert.ReferenceMoeIdeal.nD Cert.ReferenceMoeIdeal.τ).loc Cert.ReferenceMoeIdeal.main_arg1) = m ((c.tc : Thread Cert.KernelMoeIdeal.nD Cert.KernelMoeIdeal.τ).loc Cert.KernelMoeIdeal.main_arg1)
      ∧ m' ((c.tc : Thread Cert.ReferenceMoeIdeal.nD Cert.ReferenceMoeIdeal.τ).loc Cert.ReferenceMoeIdeal.main_arg2) = m ((c.tc : Thread Cert.KernelMoeIdeal.nD Cert.KernelMoeIdeal.τ).loc Cert.KernelMoeIdeal.main_arg2)
      ∧ m' ((c.tc : Thread Cert.ReferenceMoeIdeal.nD Cert.ReferenceMoeIdeal.τ).loc Cert.ReferenceMoeIdeal.main_arg3) = m ((c.tc : Thread Cert.KernelMoeIdeal.nD Cert.KernelMoeIdeal.τ).loc Cert.KernelMoeIdeal.main_arg3)
      ∧ m' ((c.tc : Thread Cert.ReferenceMoeIdeal.nD Cert.ReferenceMoeIdeal.τ).loc Cert.ReferenceMoeIdeal.main_arg4) = m ((c.tc : Thread Cert.KernelMoeIdeal.nD Cert.KernelMoeIdeal.τ).loc Cert.KernelMoeIdeal.main_arg4)
      ∧ m' ((c.tc : Thread Cert.ReferenceMoeIdeal.nD Cert.ReferenceMoeIdeal.τ).loc Cert.ReferenceMoeIdeal.main_arg5) = m ((c.tc : Thread Cert.KernelMoeIdeal.nD Cert.KernelMoeIdeal.τ).loc Cert.KernelMoeIdeal.main_arg5)
      ∧ m' ((c.tc : Thread Cert.ReferenceMoeIdeal.nD Cert.ReferenceMoeIdeal.τ).loc Cert.ReferenceMoeIdeal.main_arg6) = m ((c.tc : Thread Cert.KernelMoeIdeal.nD Cert.KernelMoeIdeal.τ).loc Cert.KernelMoeIdeal.main_arg6)) →
    ∃ (v0 : (c : Dev Cert.KernelMoeIdeal.nD) → Buf (Elt Ideal) ((c.tc : Thread Cert.KernelMoeIdeal.nD Cert.KernelMoeIdeal.τ).loc Cert.KernelMoeIdeal.main_v11)),
      θ_run (Cert.KernelMoeIdeal.defs (F := Ideal)) (onTc (τ := Cert.KernelMoeIdeal.τ) (Cert.KernelMoeIdeal.main (F := Ideal))) ⟨m, fun _ => 0, g⟩ (fun r => ∀ c : Dev Cert.KernelMoeIdeal.nD,
          r.2.mem ((c.tc : Thread Cert.KernelMoeIdeal.nD Cert.KernelMoeIdeal.τ).loc Cert.KernelMoeIdeal.main_v11) = v0 c
          ∧ r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
          ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
          ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
          ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
          ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
          ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5)
          ∧ r.2.mem ((c.tc : Thread Cert.KernelMoeIdeal.nD Cert.KernelMoeIdeal.τ).loc Cert.KernelMoeIdeal.main_arg6) = m ((c.tc : Thread Cert.KernelMoeIdeal.nD Cert.KernelMoeIdeal.τ).loc Cert.KernelMoeIdeal.main_arg6))
      ∧ θ_run (Cert.ReferenceMoeIdeal.defs (F := Ideal)) (onTc (τ := Cert.ReferenceMoeIdeal.τ) (Cert.ReferenceMoeIdeal.main (F := Ideal))) ⟨m', fun _ => 0, g'⟩ (fun r => ∀ c : Dev Cert.ReferenceMoeIdeal.nD,
          r.2.mem ((c.tc : Thread Cert.ReferenceMoeIdeal.nD Cert.ReferenceMoeIdeal.τ).loc Cert.ReferenceMoeIdeal.main_v68) = v0 c
          ∧ r.2.mem ((c.tc : Thread Cert.ReferenceMoeIdeal.nD Cert.ReferenceMoeIdeal.τ).loc Cert.ReferenceMoeIdeal.main_arg0) = m' ((c.tc : Thread Cert.ReferenceMoeIdeal.nD Cert.ReferenceMoeIdeal.τ).loc Cert.ReferenceMoeIdeal.main_arg0)
          ∧ r.2.mem ((c.tc : Thread Cert.ReferenceMoeIdeal.nD Cert.ReferenceMoeIdeal.τ).loc Cert.ReferenceMoeIdeal.main_arg1) = m' ((c.tc : Thread Cert.ReferenceMoeIdeal.nD Cert.ReferenceMoeIdeal.τ).loc Cert.ReferenceMoeIdeal.main_arg1)
          ∧ r.2.mem ((c.tc : Thread Cert.ReferenceMoeIdeal.nD Cert.ReferenceMoeIdeal.τ).loc Cert.ReferenceMoeIdeal.main_arg2) = m' ((c.tc : Thread Cert.ReferenceMoeIdeal.nD Cert.ReferenceMoeIdeal.τ).loc Cert.ReferenceMoeIdeal.main_arg2)
          ∧ r.2.mem ((c.tc : Thread Cert.ReferenceMoeIdeal.nD Cert.ReferenceMoeIdeal.τ).loc Cert.ReferenceMoeIdeal.main_arg3) = m' ((c.tc : Thread Cert.ReferenceMoeIdeal.nD Cert.ReferenceMoeIdeal.τ).loc Cert.ReferenceMoeIdeal.main_arg3)
          ∧ r.2.mem ((c.tc : Thread Cert.ReferenceMoeIdeal.nD Cert.ReferenceMoeIdeal.τ).loc Cert.ReferenceMoeIdeal.main_arg4) = m' ((c.tc : Thread Cert.ReferenceMoeIdeal.nD Cert.ReferenceMoeIdeal.τ).loc Cert.ReferenceMoeIdeal.main_arg4)
          ∧ r.2.mem ((c.tc : Thread Cert.ReferenceMoeIdeal.nD Cert.ReferenceMoeIdeal.τ).loc Cert.ReferenceMoeIdeal.main_arg5) = m' ((c.tc : Thread Cert.ReferenceMoeIdeal.nD Cert.ReferenceMoeIdeal.τ).loc Cert.ReferenceMoeIdeal.main_arg5)
          ∧ r.2.mem ((c.tc : Thread Cert.ReferenceMoeIdeal.nD Cert.ReferenceMoeIdeal.τ).loc Cert.ReferenceMoeIdeal.main_arg6) = m' ((c.tc : Thread Cert.ReferenceMoeIdeal.nD Cert.ReferenceMoeIdeal.τ).loc Cert.ReferenceMoeIdeal.main_arg6))

def Claim : Prop :=
  ∃ (hKernelProj : Cert.KernelProj.Facts) (hKernelProjIdeal : Cert.KernelProjIdeal.Facts) (hReferenceProjIdeal : Cert.ReferenceProjIdeal.Facts) (hKernelBias : Cert.KernelBias.Facts) (hKernelBiasIdeal : Cert.KernelBiasIdeal.Facts) (hReferenceBiasIdeal : Cert.ReferenceBiasIdeal.Facts) (hKernelAttn : Cert.KernelAttn.Facts) (hKernelAttnIdeal : Cert.KernelAttnIdeal.Facts) (hReferenceAttnIdeal : Cert.ReferenceAttnIdeal.Facts) (hKernelRwkv : Cert.KernelRwkv.Facts) (hKernelRwkvIdeal : Cert.KernelRwkvIdeal.Facts) (hKernelMerge : Cert.KernelMerge.Facts) (hKernelMergeIdeal : Cert.KernelMergeIdeal.Facts) (hReferenceMergeIdeal : Cert.ReferenceMergeIdeal.Facts) (hKernelMoe : Cert.KernelMoe.Facts) (hKernelMoeIdeal : Cert.KernelMoeIdeal.Facts) (hReferenceMoeIdeal : Cert.ReferenceMoeIdeal.Facts) (hPre_finite : Cert.Pre_finite.Facts) (hPre_bounded : Cert.Pre_bounded.Facts),
    quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelBias (hKernelBias := hKernelBias)
    ∧ quiescent_KernelBiasIdeal (hKernelBiasIdeal := hKernelBiasIdeal)
    ∧ quiescent_ReferenceBiasIdeal (hReferenceBiasIdeal := hReferenceBiasIdeal)
    ∧ quiescent_KernelAttn (hKernelAttn := hKernelAttn)
    ∧ quiescent_KernelAttnIdeal (hKernelAttnIdeal := hKernelAttnIdeal)
    ∧ quiescent_KernelAttnIdeal_pre_finite (hKernelAttnIdeal := hKernelAttnIdeal) (hPre_finite := hPre_finite)
    ∧ quiescent_ReferenceAttnIdeal (hReferenceAttnIdeal := hReferenceAttnIdeal)
    ∧ quiescent_ReferenceAttnIdeal_pre_finite (hReferenceAttnIdeal := hReferenceAttnIdeal) (hPre_finite := hPre_finite)
    ∧ quiescent_KernelRwkv (hKernelRwkv := hKernelRwkv)
    ∧ quiescent_KernelRwkvIdeal (hKernelRwkvIdeal := hKernelRwkvIdeal)
    ∧ quiescent_KernelMerge (hKernelMerge := hKernelMerge)
    ∧ quiescent_KernelMergeIdeal (hKernelMergeIdeal := hKernelMergeIdeal)
    ∧ quiescent_KernelMergeIdeal_pre_bounded (hKernelMergeIdeal := hKernelMergeIdeal) (hPre_bounded := hPre_bounded)
    ∧ quiescent_ReferenceMergeIdeal (hReferenceMergeIdeal := hReferenceMergeIdeal)
    ∧ quiescent_ReferenceMergeIdeal_pre_bounded (hReferenceMergeIdeal := hReferenceMergeIdeal) (hPre_bounded := hPre_bounded)
    ∧ quiescent_KernelMoe (hKernelMoe := hKernelMoe)
    ∧ quiescent_KernelMoeIdeal (hKernelMoeIdeal := hKernelMoeIdeal)
    ∧ quiescent_ReferenceMoeIdeal (hReferenceMoeIdeal := hReferenceMoeIdeal)
    ∧ preserves_KernelProj_KernelProjIdeal
    ∧ algebraic_KernelProjIdeal_ReferenceProjIdeal (hKernelProjIdeal := hKernelProjIdeal) (hReferenceProjIdeal := hReferenceProjIdeal)
    ∧ preserves_KernelBias_KernelBiasIdeal
    ∧ algebraic_KernelBiasIdeal_ReferenceBiasIdeal (hKernelBiasIdeal := hKernelBiasIdeal) (hReferenceBiasIdeal := hReferenceBiasIdeal)
    ∧ preserves_KernelAttn_KernelAttnIdeal
    ∧ algebraic_KernelAttnIdeal_ReferenceAttnIdeal_pre_finite (hKernelAttnIdeal := hKernelAttnIdeal) (hReferenceAttnIdeal := hReferenceAttnIdeal) (hPre_finite := hPre_finite)
    ∧ preserves_KernelRwkv_KernelRwkvIdeal
    ∧ preserves_KernelMerge_KernelMergeIdeal
    ∧ algebraic_KernelMergeIdeal_ReferenceMergeIdeal_pre_bounded (hKernelMergeIdeal := hKernelMergeIdeal) (hReferenceMergeIdeal := hReferenceMergeIdeal) (hPre_bounded := hPre_bounded)
    ∧ preserves_KernelMoe_KernelMoeIdeal
    ∧ algebraic_KernelMoeIdeal_ReferenceMoeIdeal (hKernelMoeIdeal := hKernelMoeIdeal) (hReferenceMoeIdeal := hReferenceMoeIdeal)
-- ==== Pre_bounded.lean ====
abbrev S16384x1024 : Shape := ⟨2, ![16384, 1024]⟩
abbrev S16384x512 : Shape := ⟨2, ![16384, 512]⟩
abbrev S16384x2048 : Shape := ⟨2, ![16384, 2048]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg11 : FVec F S32 .f32) (main_v13 : IVec S_ 1) (main_v16 : IVec S1024x32 1) : IVec S_ 1 :=
  let main_c_5 : IVec S_ 1 := constantI S_ 1 1#1
  let main_v17 : IVec S_ 1 := (fun x v => Host.reduce IntOp.andi x v reducesTo_S1024x32_S_d0_1 h_S_) main_v16 main_c_5
  let main_v18 : IVec S_ 1 := andi main_v13 main_v17
  let main_v19 : FVec F S32 .f32 := Host.absf main_arg11
  let main_cst_6 : FVec F S_ .f32 := constant S_ .f32 0x4E800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S16384x1024 .f32) (main_arg1 : FVec F S16384x512 .bf16) (main_arg2 : FVec F S16384x512 .bf16) (main_arg3 : FVec F S16384x2048 .bf16) (main_arg4 : FVec F S512x1024 .f32) (main_arg5 : FVec F S512x1024 .f32) (main_arg6 : FVec F S1024x1024 .f32) (main_arg7 : FVec F S1024 .f32) (main_arg8 : FVec F S1024x4 .f32) (main_arg9 : FVec F S4 .f32) (main_arg10 : FVec F S1024x32 .f32) (main_arg11 : FVec F S32 .f32) : IVec S_ 1 :=
  let main_v0 : FVec F S1024 .f32 := Host.absf main_arg7
  let main_cst : FVec F S_ .f32 := constant S_ .f32 0x4E800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4 .f32 := Host.absf main_arg8
  let main_cst_0 : FVec F S_ .f32 := constant S_ .f32 0x4E800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  let main_v9 : FVec F S4 .f32 := Host.absf main_arg9
  let main_cst_2 : FVec F S_ .f32 := constant S_ .f32 0x4E800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S1024x32 .f32 := Host.absf main_arg10
  let main_cst_4 : FVec F S_ .f32 := constant S_ .f32 0x4E800000#32
  let main_v15 : FVec F S1024x32 .f32 := broadcastInDim S1024x32 ![] bcast_S_S1024x32 main_cst_4
  let main_v16 : IVec S1024x32 1 := cmpf .olt main_v14 main_v15
  fn_part1 (F := F) main_arg11 main_v13 main_v16
-- ==== Pre_finite.lean ====
abbrev S8x2048x512 : Shape := ⟨3, ![8, 2048, 512]⟩
abbrev S8x64x576 : Shape := ⟨3, ![8, 64, 576]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x64x576 : S_.BroadcastsInDim S8x64x576 (![] : Fin 0 → Fin S8x64x576.rank)
  reducesTo_S8x64x576_S_d0_1_2 : S8x64x576.ReducesTo [0, 1, 2] S_

variable [Facts]

def fn {F : FTy → Type} [FloatOps F] (main_arg0 : FVec F S8x2048x512 .bf16) (main_arg1 : FVec F S8x2048x512 .bf16) (main_arg2 : FVec F S8x2048x512 .bf16) (main_arg3 : FVec F S8x64x576 .f32) : IVec S_ 1 :=
  let main_v0 : FVec F S8x2048x512 .bf16 := Host.absf main_arg0
  let main_cst : FVec F S_ .bf16 := constant S_ .bf16 0x7F80#16
  let main_v1 : FVec F S8x2048x512 .bf16 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .bf16 := Host.absf main_arg1
  let main_cst_0 : FVec F S_ .bf16 := constant S_ .bf16 0x7F80#16
  let main_v5 : FVec F S8x2048x512 .bf16 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S8x64x576 .f32 := Host.absf main_arg3
  let main_cst_2 : FVec F S_ .f32 := constant S_ .f32 0x7F800000#32
  let main_v10 : FVec F S8x64x576 .f32 := broadcastInDim S8x64x576 ![] bcast_S_S8x64x576 main_cst_2
  let main_v11 : IVec S8x64x576 1 := cmpf .olt main_v9 main_v10
  let main_c_3 : IVec S_ 1 := constantI S_ 1 1#1
  let main_v12 : IVec S_ 1 := (fun x v => Host.reduce IntOp.andi x v reducesTo_S8x64x576_S_d0_1_2 h_S_) main_v11 main_c_3
  let main_v13 : IVec S_ 1 := andi main_v8 main_v12
  main_v13
-- ==== KernelProj.lean ====
abbrev S16384x1024 : Shape := ⟨2, ![16384, 1024]⟩
abbrev S1024 : Shape := ⟨1, ![1024]⟩
abbrev S1024x5376 : Shape := ⟨2, ![1024, 5376]⟩
abbrev S1792 : Shape := ⟨1, ![1792]⟩
abbrev S1x1024 : Shape := ⟨2, ![1, 1024]⟩
abbrev S1x1792 : Shape := ⟨2, ![1, 1792]⟩
abbrev S16384x512 : Shape := ⟨2, ![16384, 512]⟩
abbrev S16384x1792 : Shape := ⟨2, ![16384, 1792]⟩
abbrev S16384x2048 : Shape := ⟨2, ![16384, 2048]⟩
abbrev S256x1024 : Shape := ⟨2, ![256, 1024]⟩
abbrev S256x512 : Shape := ⟨2, ![256, 512]⟩
abbrev S256x1792 : Shape := ⟨2, ![256, 1792]⟩
abbrev S256x2048 : Shape := ⟨2, ![256, 2048]⟩
abbrev S8x1792 : Shape := ⟨2, ![8, 1792]⟩
abbrev S256 : Shape := ⟨1, ![256]⟩
abbrev S256x1 : Shape := ⟨2, ![256, 1]⟩
abbrev S1024x512 : Shape := ⟨2, ![1024, 512]⟩
abbrev S1024x1792 : Shape := ⟨2, ![1024, 1792]⟩
abbrev S1024x2048 : Shape := ⟨2, ![1024, 2048]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5376, .f32⟩
  | .hbm, ⟨3, _⟩ => ⟨S1792, .f32⟩
  | .hbm, ⟨4, _⟩ => ⟨S1x1024, .f32⟩
  | .hbm, ⟨5, _⟩ => ⟨S1024x5376, .bf16⟩
  | .hbm, ⟨6, _⟩ => ⟨S1x1792, .f32⟩
  | .hbm, ⟨7, _⟩ => ⟨S16384x512, .bf16⟩
  | .hbm, ⟨8, _⟩ => ⟨S16384x512, .bf16⟩
  | .hbm, ⟨9, _⟩ => ⟨S16384x512, .bf16⟩
  | .hbm, ⟨10, _⟩ => ⟨S16384x1792, .f32⟩
  | .hbm, ⟨11, _⟩ => ⟨S16384x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5376, .bf16⟩
  | .local _ .vmem, ⟨4, _⟩ => ⟨S1x1792, .f32⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x1792, .f32⟩
  | .local _ .vmem, ⟨12, _⟩ => ⟨S256x1792, .f32⟩
  | .local _ .vmem, ⟨13, _⟩ => ⟨S256x2048, .bf16⟩
  | .local _ .vmem, ⟨14, _⟩ => ⟨S256x2048, .bf16⟩
  | .local _ .vmem, ⟨15, _⟩ => ⟨S8x1792, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceProjIdeal.lean ====
abbrev S16384x1024 : Shape := ⟨2, ![16384, 1024]⟩
abbrev S1024 : Shape := ⟨1, ![1024]⟩
abbrev S1024x5376 : Shape := ⟨2, ![1024, 5376]⟩
abbrev S1792 : Shape := ⟨1, ![1792]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5376 : Shape := ⟨3, ![8, 2048, 5376]⟩
abbrev S8x2048x512 : Shape := ⟨3, ![8, 2048, 512]⟩
abbrev S8x2048x1792 : Shape := ⟨3, ![8, 2048, 1792]⟩
abbrev S8x2047x1792 : Shape := ⟨3, ![8, 2047, 1792]⟩
abbrev S1x1x1792 : Shape := ⟨3, ![1, 1, 1792]⟩
abbrev S8x2048x2048 : Shape := ⟨3, ![8, 2048, 2048]⟩
abbrev S16384x512 : Shape := ⟨2, ![16384, 512]⟩
abbrev S16384x1792 : Shape := ⟨2, ![16384, 1792]⟩
abbrev S16384x2048 : Shape := ⟨2, ![16384, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5376, .f32⟩
  | .hbm, ⟨3, _⟩ => ⟨S1792, .f32⟩
  | .hbm, ⟨4, _⟩ => ⟨S8x2048x1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x2048x5376, .f32⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S8x2048x1792, .f32⟩
  | .hbm, ⟨26, _⟩ => ⟨S8x2047x1792, .f32⟩
  | .hbm, ⟨27, _⟩ => ⟨S_, .i32⟩
  | .hbm, ⟨28, _⟩ => ⟨S_, .f32⟩
  | .hbm, ⟨29, _⟩ => ⟨S8x2048x1792, .f32⟩
  | .hbm, ⟨30, _⟩ => ⟨S8x2048x1792, .f32⟩
  | .hbm, ⟨31, _⟩ => ⟨S1x1x1792, .f32⟩
  | .hbm, ⟨32, _⟩ => ⟨S8x2048x1792, .f32⟩
  | .hbm, ⟨33, _⟩ => ⟨S8x2048x1792, .f32⟩
  | .hbm, ⟨34, _⟩ => ⟨S8x2048x1792, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048x2048, .f32⟩
  | .hbm, ⟨43, _⟩ => ⟨S8x2048x2048, .f32⟩
  | .hbm, ⟨44, _⟩ => ⟨S16384x512, .f32⟩
  | .hbm, ⟨45, _⟩ => ⟨S16384x512, .bf16⟩
  | .hbm, ⟨46, _⟩ => ⟨S16384x512, .f32⟩
  | .hbm, ⟨47, _⟩ => ⟨S16384x512, .bf16⟩
  | .hbm, ⟨48, _⟩ => ⟨S16384x512, .f32⟩
  | .hbm, ⟨49, _⟩ => ⟨S16384x512, .bf16⟩
  | .hbm, ⟨50, _⟩ => ⟨S16384x1792, .f32⟩
  | .hbm, ⟨51, _⟩ => ⟨S16384x2048, .f32⟩
  | .hbm, ⟨52, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== KernelBias.lean ====
abbrev S8x129 : Shape := ⟨2, ![8, 129]⟩
abbrev S_ : Shape := ⟨0, ![]⟩
abbrev S8x136 : Shape := ⟨2, ![8, 136]⟩
abbrev S8x8192 : Shape := ⟨2, ![8, 8192]⟩
abbrev S136x8192 : Shape := ⟨2, ![136, 8192]⟩
abbrev S8x64x128 : Shape := ⟨3, ![8, 64, 128]⟩
abbrev S8x1 : Shape := ⟨2, ![8, 1]⟩
abbrev S8 : Shape := ⟨1, ![8]⟩
abbrev S8x1x1 : Shape := ⟨3, ![8, 1, 1]⟩
abbrev S8x64x448 : Shape := ⟨3, ![8, 64, 448]⟩
abbrev S8x64x576 : Shape := ⟨3, ![8, 64, 576]⟩

abbrev nBuf : Space → Nat
  | .hbm => 11
  | .vmem => 2
  | .smem => 0
  | _ => 0

abbrev bufTy : (tb : Table) → Fin (tcTables nBuf tb) → BufTy
  | .hbm, ⟨0, _⟩ => ⟨S8x129, .f32⟩
  | .hbm, ⟨1, _⟩ => ⟨S_, .i32⟩
  | .hbm, ⟨2, _⟩ => ⟨S_, .f32⟩
  | .hbm, ⟨3, _⟩ => ⟨S8x136, .f32⟩
  | .hbm, ⟨4, _⟩ => ⟨S8x8192, .f32⟩
  | .hbm, ⟨5, _⟩ => ⟨S8x64x128, .f32⟩
  | .hbm, ⟨6, _⟩ => ⟨S8x1, .f32⟩
  | .hbm, ⟨7, _⟩ => ⟨S8, .f32⟩
  | .hbm, ⟨8, _⟩ => ⟨S8x1x1, .f32⟩
  | .hbm, ⟨9, _⟩ => ⟨S8x64x448, .f32⟩
  | .hbm, ⟨10, _⟩ => ⟨S8x64x576, .f32⟩
  | .local _ .vmem, ⟨0, _⟩ => ⟨S8x136, .f32⟩
  | .local _ .vmem, ⟨1, _⟩ => ⟨S8x8192, .f32⟩
  | _, _ => ⟨S8x129, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x136 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceBiasIdeal.lean ====
abbrev S8x129 : Shape := ⟨2, ![8, 129]⟩
abbrev S64 : Shape := ⟨1, ![64]⟩
abbrev S576 : Shape := ⟨1, ![576]⟩
abbrev S64x1 : Shape := ⟨2, ![64, 1]⟩
abbrev S_ : Shape := ⟨0, ![]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩

abbrev nBuf : Space → Nat
  | .hbm => 31
  | .vmem => 0
  | .smem => 0
  | _ => 0

abbrev bufTy : (tb : Table) → Fin (tcTables nBuf tb) → BufTy
  | .hbm, ⟨0, _⟩ => ⟨S8x129, .f32⟩
  | .hbm, ⟨1, _⟩ => ⟨S64, .i32⟩
  | .hbm, ⟨2, _⟩ => ⟨S576, .i32⟩
  | .hbm, ⟨3, _⟩ => ⟨S64x1, .i32⟩
  | .hbm, ⟨4, _⟩ => ⟨S_, .i32⟩
  | .hbm, ⟨5, _⟩ => ⟨S64x1, .i32⟩
  | .hbm, ⟨6, _⟩ => ⟨S64x1, .i32⟩
  | .hbm, ⟨7, _⟩ => ⟨S1x576, .i32⟩
  | .hbm, ⟨8, _⟩ => ⟨S64x576, .i32⟩
  | .hbm, ⟨9, _⟩ => ⟨S64x576, .i32⟩
  | .hbm, ⟨10, _⟩ => ⟨S64x576, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S64x576, .i32⟩
  | .hbm, ⟨15, _⟩ => ⟨S64x576, .i32⟩
  | .hbm, ⟨16, _⟩ => ⟨S_, .i32⟩
  | .hbm, ⟨17, _⟩ => ⟨S64x576, .i32⟩
  | .hbm, ⟨18, _⟩ => ⟨S64x576, .i32⟩
  | .hbm, ⟨19, _⟩ => ⟨S_, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S64x576, .i32⟩
  | .hbm, ⟨24, _⟩ => ⟨S64x576, .i1⟩
  | .hbm, ⟨25, _⟩ => ⟨S_, .i32⟩
  | .hbm, ⟨26, _⟩ => ⟨S64x576, .i32⟩
  | .hbm, ⟨27, _⟩ => ⟨S64x576, .i32⟩
  | .hbm, ⟨28, _⟩ => ⟨S64x576, .i32⟩
  | .hbm, ⟨29, _⟩ => ⟨S64x576x1, .i32⟩
  | .hbm, ⟨30, _⟩ => ⟨S8x64x576, .f32⟩
  | _, _ => ⟨S8x129, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== KernelAttn.lean ====
abbrev S8x2048x512 : Shape := ⟨3, ![8, 2048, 512]⟩
abbrev S8x64x576 : Shape := ⟨3, ![8, 64, 576]⟩
abbrev S1x64x512 : Shape := ⟨3, ![1, 64, 512]⟩
abbrev S1x2048x512 : Shape := ⟨3, ![1, 2048, 512]⟩
abbrev S2560x512 : Shape := ⟨2, ![2560, 512]⟩
abbrev S512x512 : Shape := ⟨2, ![512, 512]⟩
abbrev S2048x512 : Shape := ⟨2, ![2048, 512]⟩
abbrev S576x512 : Shape := ⟨2, ![576, 512]⟩
abbrev S64x512 : Shape := ⟨2, ![64, 512]⟩
abbrev S64x576 : Shape := ⟨2, ![64, 576]⟩
abbrev S1x64x576 : Shape := ⟨3, ![1, 64, 576]⟩
abbrev S64 : Shape := ⟨1, ![64]⟩
abbrev S64x1 : Shape := ⟨2, ![64, 1]⟩

abbrev nBuf : Space → Nat
  | .hbm => 5
  | .vmem => 11
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x512, .bf16⟩
  | .hbm, ⟨3, _⟩ => ⟨S8x64x576, .f32⟩
  | .hbm, ⟨4, _⟩ => ⟨S8x2048x512, .bf16⟩
  | .local _ .vmem, ⟨0, _⟩ => ⟨S1x64x512, .bf16⟩
  | .local _ .vmem, ⟨1, _⟩ => ⟨S1x64x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S8x64x576, .f32⟩
  | .local _ .vmem, ⟨7, _⟩ => ⟨S1x64x512, .bf16⟩
  | .local _ .vmem, ⟨8, _⟩ => ⟨S1x64x512, .bf16⟩
  | .local _ .vmem, ⟨9, _⟩ => ⟨S2560x512, .bf16⟩
  | .local _ .vmem, ⟨10, _⟩ => ⟨S2560x512, .bf16⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c64_i32 : BitVec 32 := 64#32
  let v3 : BitVec 32 := Scalar.muli arg1 c64_i32
  v3
def k0_off1 (i : grid0.Coords) : Fin 2 → Nat :=
  let arg1 : BitVec 32 := BitVec.ofNat 32 (i 1).val
  let c64_i32 : BitVec 32 := 64#32
  let v3 : BitVec 32 := Scalar.muli arg1 c64_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x64x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceAttnIdeal.lean ====
abbrev S8x2048x512 : Shape := ⟨3, ![8, 2048, 512]⟩
abbrev S8x64x576 : Shape := ⟨3, ![8, 64, 576]⟩
abbrev S8x32x64x8x64 : Shape := ⟨5, ![8, 32, 64, 8, 64]⟩
abbrev S_ : Shape := ⟨0, ![]⟩
abbrev S8x40x64x8x64 : Shape := ⟨5, ![8, 40, 64, 8, 64]⟩
abbrev S32 : Shape := ⟨1, ![32]⟩
abbrev S32x1 : Shape := ⟨2, ![32, 1]⟩
abbrev S9 : Shape := ⟨1, ![9]⟩
abbrev S1x9 : Shape := ⟨2, ![1, 9]⟩
abbrev S32x9 : Shape := ⟨2, ![32, 9]⟩
abbrev S32x9x1 : Shape := ⟨3, ![32, 9, 1]⟩
abbrev S8x32x9x64x8x64 : Shape := ⟨6, ![8, 32, 9, 64, 8, 64]⟩
abbrev S8x32x576x8x64 : Shape := ⟨5, ![8, 32, 576, 8, 64]⟩
abbrev S8x8x32x64x576 : Shape := ⟨5, ![8, 8, 32, 64, 576]⟩
abbrev S576 : Shape := ⟨1, ![576]⟩
abbrev S1x576 : Shape := ⟨2, ![1, 576]⟩
abbrev S32x576 : Shape := ⟨2, ![32, 576]⟩
abbrev S1x1x32x1x576 : Shape := ⟨5, ![1, 1, 32, 1, 576]⟩
abbrev S1x8x1x64x576 : Shape := ⟨5, ![1, 8, 1, 64, 576]⟩
abbrev S8x8x32x64 : Shape := ⟨4, ![8, 8, 32, 64]⟩
abbrev S8x8x32x64x1 : Shape := ⟨5, ![8, 8, 32, 64, 1]⟩
abbrev S8x32x8x64x64 : Shape := ⟨5, ![8, 32, 8, 64, 64]⟩

abbrev nBuf : Space → Nat
  | .hbm => 104
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x512, .bf16⟩
  | .hbm, ⟨3, _⟩ => ⟨S8x64x576, .f32⟩
  | .hbm, ⟨4, _⟩ => ⟨S8x2048x512, .f32⟩
  | .hbm, ⟨5, _⟩ => ⟨S8x2048x512, .f32⟩
  | .hbm, ⟨6, _⟩ => ⟨S8x2048x512, .f32⟩
  | .hbm, ⟨7, _⟩ => ⟨S8x32x64x8x64, .f32⟩
  | .hbm, ⟨8, _⟩ => ⟨S_, .f32⟩
  | .hbm, ⟨9, _⟩ => ⟨S8x32x64x8x64, .f32⟩
  | .hbm, ⟨10, _⟩ => ⟨S8x32x64x8x64, .f32⟩
  | .hbm, ⟨11, _⟩ => ⟨S8x32x64x8x64, .f32⟩
  | .hbm, ⟨12, _⟩ => ⟨S_, .i32⟩
  | .hbm, ⟨13, _⟩ => ⟨S_, .f32⟩
  | .hbm, ⟨14, _⟩ => ⟨S8x40x64x8x64, .f32⟩
  | .hbm, ⟨15, _⟩ => ⟨S8x32x64x8x64, .f32⟩
  | .hbm, ⟨16, _⟩ => ⟨S_, .i32⟩
  | .hbm, ⟨17, _⟩ => ⟨S_, .f32⟩
  | .hbm, ⟨18, _⟩ => ⟨S8x40x64x8x64, .f32⟩
  | .hbm, ⟨19, _⟩ => ⟨S32, .i32⟩
  | .hbm, ⟨20, _⟩ => ⟨S32x1, .i32⟩
  | .hbm, ⟨21, _⟩ => ⟨S9, .i32⟩
  | .hbm, ⟨22, _⟩ => ⟨S1x9, .i32⟩
  | .hbm, ⟨23, _⟩ => ⟨S32x9, .i32⟩
  | .hbm, ⟨24, _⟩ => ⟨S32x9, .i32⟩
  | .hbm, ⟨25, _⟩ => ⟨S32x9, .i32⟩
  | .hbm, ⟨26, _⟩ => ⟨S_, .i32⟩
  | .hbm, ⟨27, _⟩ => ⟨S32x9, .i32⟩
  | .hbm, ⟨28, _⟩ => ⟨S32x9, .i1⟩
  | .hbm, ⟨29, _⟩ => ⟨S_, .i32⟩
  | .hbm, ⟨30, _⟩ => ⟨S32x9, .i32⟩
  | .hbm, ⟨31, _⟩ => ⟨S32x9, .i32⟩
  | .hbm, ⟨32, _⟩ => ⟨S32x9, .i32⟩
  | .hbm, ⟨33, _⟩ => ⟨S32x9x1, .i32⟩
  | .hbm, ⟨34, _⟩ => ⟨S8x32x9x64x8x64, .f32⟩
  | .hbm, ⟨35, _⟩ => ⟨S8x32x576x8x64, .f32⟩
  | .hbm, ⟨36, _⟩ => ⟨S_, .i32⟩
  | .hbm, ⟨37, _⟩ => ⟨S32x9, .i32⟩
  | .hbm, ⟨38, _⟩ => ⟨S32x9, .i1⟩
  | .hbm, ⟨39, _⟩ => ⟨S_, .i32⟩
  | .hbm, ⟨40, _⟩ => ⟨S32x9, .i32⟩
  | .hbm, ⟨41, _⟩ => ⟨S32x9, .i32⟩
  | .hbm, ⟨42, _⟩ => ⟨S32x9, .i32⟩
  | .hbm, ⟨43, _⟩ => ⟨S32x9x1, .i32⟩
  | .hbm, ⟨44, _⟩ => ⟨S8x32x9x64x8x64, .f32⟩
  | .hbm, ⟨45, _⟩ => ⟨S8x32x576x8x64, .f32⟩
  | .hbm, ⟨46, _⟩ => ⟨S8x8x32x64x576, .f32⟩
  | .hbm, ⟨47, _⟩ => ⟨S576, .i32⟩
  | .hbm, ⟨48, _⟩ => ⟨S32, .i32⟩
  | .hbm, ⟨49, _⟩ => ⟨S32x1, .i32⟩
  | .hbm, ⟨50, _⟩ => ⟨S_, .i32⟩
  | .hbm, ⟨51, _⟩ => ⟨S32x1, .i32⟩
  | .hbm, ⟨52, _⟩ => ⟨S32x1, .i32⟩
  | .hbm, ⟨53, _⟩ => ⟨S1x576, .i32⟩
  | .hbm, ⟨54, _⟩ => ⟨S_, .i32⟩
  | .hbm, ⟨55, _⟩ => ⟨S_, .i32⟩
  | .hbm, ⟨56, _⟩ => ⟨S1x576, .i32⟩
  | .hbm, ⟨57, _⟩ => ⟨S1x576, .i32⟩
  | .hbm, ⟨58, _⟩ => ⟨S1x576, .i32⟩
  | .hbm, ⟨59, _⟩ => ⟨S_, .i32⟩
  | .hbm, ⟨60, _⟩ => ⟨S1x576, .i32⟩
  | .hbm, ⟨61, _⟩ => ⟨S1x576, .i1⟩
  | .hbm, ⟨62, _⟩ => ⟨S1x576, .i32⟩
  | .hbm, ⟨63, _⟩ => ⟨S1x576, .i32⟩
  | .hbm, ⟨64, _⟩ => ⟨S_, .i32⟩
  | .hbm, ⟨65, _⟩ => ⟨S1x576, .i32⟩
  | .hbm, ⟨66, _⟩ => ⟨S1x576, .i1⟩
  | .hbm, ⟨67, _⟩ => ⟨S1x576, .i1⟩
  | .hbm, ⟨68, _⟩ => ⟨S_, .i32⟩
  | .hbm, ⟨69, _⟩ => ⟨S1x576, .i32⟩
  | .hbm, ⟨70, _⟩ => ⟨S1x576, .i32⟩
  | .hbm, ⟨71, _⟩ => ⟨S1x576, .i32⟩
  | .hbm, ⟨72, _⟩ => ⟨S32x576, .i32⟩
  | .hbm, ⟨73, _⟩ => ⟨S32x576, .i32⟩
  | .hbm, ⟨74, _⟩ => ⟨S32x576, .i32⟩
  | .hbm, ⟨75, _⟩ => ⟨S_, .i32⟩
  | .hbm, ⟨76, _⟩ => ⟨S32x576, .i32⟩
  | .hbm, ⟨77, _⟩ => ⟨S32x576, .i1⟩
  | .hbm, ⟨78, _⟩ => ⟨S1x1x32x1x576, .i1⟩
  | .hbm, ⟨79, _⟩ => ⟨S1x8x1x64x576, .f32⟩
  | .hbm, ⟨80, _⟩ => ⟨S8x8x32x64x576, .f32⟩
  | .hbm, ⟨81, _⟩ => ⟨S8x8x32x64x576, .f32⟩
  | .hbm, ⟨82, _⟩ => ⟨S_, .f32⟩
  | .hbm, ⟨83, _⟩ => ⟨S8x8x32x64x576, .i1⟩
  | .hbm, ⟨84, _⟩ => ⟨S8x8x32x64x576, .f32⟩
  | .hbm, ⟨85, _⟩ => ⟨S8x8x32x64x576, .f32⟩
  | .hbm, ⟨86, _⟩ => ⟨S_, .f32⟩
  | .hbm, ⟨87, _⟩ => ⟨S8x8x32x64, .f32⟩
  | .hbm, ⟨88, _⟩ => ⟨S_, .f32⟩
  | .hbm, ⟨89, _⟩ => ⟨S8x8x32x64, .f32⟩
  | .hbm, ⟨90, _⟩ => ⟨S8x8x32x64, .f32⟩
  | .hbm, ⟨91, _⟩ => ⟨S8x8x32x64x1, .f32⟩
  | .hbm, ⟨92, _⟩ => ⟨S8x8x32x64x576, .f32⟩
  | .hbm, ⟨93, _⟩ => ⟨S8x8x32x64x576, .f32⟩
  | .hbm, ⟨94, _⟩ => ⟨S8x8x32x64x576, .f32⟩
  | .hbm, ⟨95, _⟩ => ⟨S_, .f32⟩
  | .hbm, ⟨96, _⟩ => ⟨S8x8x32x64, .f32⟩
  | .hbm, ⟨97, _⟩ => ⟨S8x8x32x64x1, .f32⟩
  | .hbm, ⟨98, _⟩ => ⟨S8x8x32x64x576, .f32⟩
  | .hbm, ⟨99, _⟩ => ⟨S8x8x32x64x576, .f32⟩
  | .hbm, ⟨100, _⟩ => ⟨S8x32x8x64x64, .f32⟩
  | .hbm, ⟨101, _⟩ => ⟨S8x32x64x8x64, .f32⟩
  | .hbm, ⟨102, _⟩ => ⟨S8x2048x512, .f32⟩
  | .hbm, ⟨103, _⟩ => ⟨S8x2048x512, .bf16⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_c : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_0 : Ref sig .tc := ⟨.hbm, 68, rfl⟩
abbrev main_call2_v12 : Ref sig .tc := ⟨.hbm, 69, rfl⟩
abbrev main_call2_v13 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_7 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_8 : Ref sig .tc := ⟨.hbm, 82, rfl⟩
abbrev main_call3_v0 : Ref sig .tc := ⟨.hbm, 83, rfl⟩
abbrev main_call3_v1 : Ref sig .tc := ⟨.hbm, 84, rfl⟩
abbrev main_v50 : Ref sig .tc := ⟨.hbm, 85, rfl⟩
abbrev main_cst_9 : Ref sig .tc := ⟨.hbm, 86, rfl⟩
abbrev main_v51 : Ref sig .tc := ⟨.hbm, 87, rfl⟩
abbrev main_cst_10 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_11 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩

abbrev nD : Nat := 1
abbrev τ : Topo := Topo.v7x

variable {F : FTy → Type} [FloatOps F]
-- ==== KernelRwkv.lean ====
abbrev S8x2048x1792 : Shape := ⟨3, ![8, 2048, 1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S64x1024 : Shape := ⟨2, ![64, 1024]⟩
abbrev S128x1024 : Shape := ⟨2, ![128, 1024]⟩
abbrev S1x512 : Shape := ⟨2, ![1, 512]⟩
abbrev S8x2048x512 : Shape := ⟨3, ![8, 2048, 512]⟩
abbrev S1x64x1792 : Shape := ⟨3, ![1, 64, 1792]⟩
abbrev S1x64x512 : Shape := ⟨3, ![1, 64, 512]⟩
abbrev S8x64x64 : Shape := ⟨3, ![8, 64, 64]⟩
abbrev S64x1792 : Shape := ⟨2, ![64, 1792]⟩
abbrev S64x128 : Shape := ⟨2, ![64, 128]⟩
abbrev S64x64 : Shape := ⟨2, ![64, 64]⟩
abbrev S64 : Shape := ⟨1, ![64]⟩
abbrev S64x1 : Shape := ⟨2, ![64, 1]⟩
abbrev S1x64 : Shape := ⟨2, ![1, 64]⟩
abbrev S1x64x64 : Shape := ⟨3, ![1, 64, 64]⟩

abbrev nBuf : Space → Nat
  | .hbm => 24
  | .vmem => 14
  | .smem => 0
  | _ => 0

abbrev bufTy : (tb : Table) → Fin (tcTables nBuf tb) → BufTy
  | .hbm, ⟨0, _⟩ => ⟨S8x2048x1792, .f32⟩
  | .hbm, ⟨1, _⟩ => ⟨S512, .f32⟩
  | .hbm, ⟨2, _⟩ => ⟨S64x512, .f32⟩
  | .hbm, ⟨3, _⟩ => ⟨S512, .f32⟩
  | .hbm, ⟨4, _⟩ => ⟨S64x512, .f32⟩
  | .hbm, ⟨5, _⟩ => ⟨S128x512, .f32⟩
  | .hbm, ⟨6, _⟩ => ⟨S512, .f32⟩
  | .hbm, ⟨7, _⟩ => ⟨S512, .f32⟩
  | .hbm, ⟨8, _⟩ => ⟨S8x64, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S64x512, .f32⟩
  | .hbm, ⟨13, _⟩ => ⟨S64x1024, .f32⟩
  | .hbm, ⟨14, _⟩ => ⟨S64x1024, .f32⟩
  | .hbm, ⟨15, _⟩ => ⟨S128x1024, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S8x2048x512, .bf16⟩
  | .local _ .vmem, ⟨0, _⟩ => ⟨S1x64x1792, .f32⟩
  | .local _ .vmem, ⟨1, _⟩ => ⟨S1x64x1792, .f32⟩
  | .local _ .vmem, ⟨2, _⟩ => ⟨S128x1024, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x64x512, .bf16⟩
  | .local _ .vmem, ⟨12, _⟩ => ⟨S1x64x512, .bf16⟩
  | .local _ .vmem, ⟨13, _⟩ => ⟨S8x64x64, .f32⟩
  | _, _ => ⟨S8x2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelMerge.lean ====
abbrev S16384x1024 : Shape := ⟨2, ![16384, 1024]⟩
abbrev S16384x512 : Shape := ⟨2, ![16384, 512]⟩
abbrev S16384x2048 : Shape := ⟨2, ![16384, 2048]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S1x128 : Shape := ⟨2, ![1, 128]⟩
abbrev S1x1024 : Shape := ⟨2, ![1, 1024]⟩
abbrev S16384x128 : Shape := ⟨2, ![16384, 128]⟩
abbrev S512x512 : Shape := ⟨2, ![512, 512]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 28
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x2048, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x4, .f32⟩
  | .hbm, ⟨9, _⟩ => ⟨S4, .f32⟩
  | .hbm, ⟨10, _⟩ => ⟨S1024x32, .f32⟩
  | .hbm, ⟨11, _⟩ => ⟨S32, .f32⟩
  | .hbm, ⟨12, _⟩ => ⟨S1024x36, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S36, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S512x1024, .bf16⟩
  | .hbm, ⟨22, _⟩ => ⟨S512x1024, .bf16⟩
  | .hbm, ⟨23, _⟩ => ⟨S1024x1024, .bf16⟩
  | .hbm, ⟨24, _⟩ => ⟨S1x1024, .f32⟩
  | .hbm, ⟨25, _⟩ => ⟨S16384x1024, .f32⟩
  | .hbm, ⟨26, _⟩ => ⟨S16384x1024, .bf16⟩
  | .hbm, ⟨27, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x128, .f32⟩
  | .local _ .vmem, ⟨13, _⟩ => ⟨S1x128, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x128, .f32⟩
  | .local _ .vmem, ⟨19, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_call1_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9_0 : Ref sig .tc := ⟨.hbm, 25, rfl⟩
abbrev main_v9_1 : Ref sig .tc := ⟨.hbm, 26, rfl⟩
abbrev main_v9_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceMergeIdeal.lean ====
abbrev S16384x1024 : Shape := ⟨2, ![16384, 1024]⟩
abbrev S16384x512 : Shape := ⟨2, ![16384, 512]⟩
abbrev S16384x2048 : Shape := ⟨2, ![16384, 2048]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4 : Shape := ⟨2, ![16384, 4]⟩
abbrev S1x4 : Shape := ⟨2, ![1, 4]⟩
abbrev S16384x32 : Shape := ⟨2, ![16384, 32]⟩
abbrev S1x32 : Shape := ⟨2, ![1, 32]⟩
abbrev S16384x4x8 : Shape := ⟨3, ![16384, 4, 8]⟩
abbrev S16384x1x1 : Shape := ⟨3, ![16384, 1, 1]⟩
abbrev S1 : Shape := ⟨1, ![1]⟩
abbrev S1x1x1 : Shape := ⟨3, ![1, 1, 1]⟩
abbrev S16384x1x8 : Shape := ⟨3, ![16384, 1, 8]⟩
abbrev S16384x8 : Shape := ⟨2, ![16384, 8]⟩
abbrev S16384x2 : Shape := ⟨2, ![16384, 2]⟩
abbrev S16384x2x1 : Shape := ⟨3, ![16384, 2, 1]⟩
abbrev S1x1x32 : Shape := ⟨3, ![1, 1, 32]⟩
abbrev S16384x2x32 : Shape := ⟨3, ![16384, 2, 32]⟩
abbrev S16384x128 : Shape := ⟨2, ![16384, 128]⟩

abbrev nBuf : Space → Nat
  | .hbm => 123
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x2048, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x4, .f32⟩
  | .hbm, ⟨9, _⟩ => ⟨S4, .f32⟩
  | .hbm, ⟨10, _⟩ => ⟨S1024x32, .f32⟩
  | .hbm, ⟨11, _⟩ => ⟨S32, .f32⟩
  | .hbm, ⟨12, _⟩ => ⟨S16384x512, .f32⟩
  | .hbm, ⟨13, _⟩ => ⟨S16384x512, .f32⟩
  | .hbm, ⟨14, _⟩ => ⟨S16384x2048, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x4, .f32⟩
  | .hbm, ⟨41, _⟩ => ⟨S1x4, .f32⟩
  | .hbm, ⟨42, _⟩ => ⟨S16384x4, .f32⟩
  | .hbm, ⟨43, _⟩ => ⟨S16384x4, .f32⟩
  | .hbm, ⟨44, _⟩ => ⟨S_, .f32⟩
  | .hbm, ⟨45, _⟩ => ⟨S16384, .f32⟩
  | .hbm, ⟨46, _⟩ => ⟨S_, .f32⟩
  | .hbm, ⟨47, _⟩ => ⟨S16384, .f32⟩
  | .hbm, ⟨48, _⟩ => ⟨S16384, .f32⟩
  | .hbm, ⟨49, _⟩ => ⟨S16384x1, .f32⟩
  | .hbm, ⟨50, _⟩ => ⟨S16384x4, .f32⟩
  | .hbm, ⟨51, _⟩ => ⟨S16384x4, .f32⟩
  | .hbm, ⟨52, _⟩ => ⟨S16384x4, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S16384x4, .f32⟩
  | .hbm, ⟨57, _⟩ => ⟨S16384x4, .f32⟩
  | .hbm, ⟨58, _⟩ => ⟨S16384x1, .f32⟩
  | .hbm, ⟨59, _⟩ => ⟨S16384x1, .i32⟩
  | .hbm, ⟨60, _⟩ => ⟨S16384x32, .f32⟩
  | .hbm, ⟨61, _⟩ => ⟨S1x32, .f32⟩
  | .hbm, ⟨62, _⟩ => ⟨S16384x32, .f32⟩
  | .hbm, ⟨63, _⟩ => ⟨S16384x32, .f32⟩
  | .hbm, ⟨64, _⟩ => ⟨S16384x4x8, .f32⟩
  | .hbm, ⟨65, _⟩ => ⟨S16384x1x1, .i32⟩
  | .hbm, ⟨66, _⟩ => ⟨S_, .i32⟩
  | .hbm, ⟨67, _⟩ => ⟨S16384x1x1, .i32⟩
  | .hbm, ⟨68, _⟩ => ⟨S16384x1x1, .i1⟩
  | .hbm, ⟨69, _⟩ => ⟨S_, .i32⟩
  | .hbm, ⟨70, _⟩ => ⟨S16384x1x1, .i32⟩
  | .hbm, ⟨71, _⟩ => ⟨S16384x1x1, .i32⟩
  | .hbm, ⟨72, _⟩ => ⟨S16384x1x1, .i32⟩
  | .hbm, ⟨73, _⟩ => ⟨S1, .i32⟩
  | .hbm, ⟨74, _⟩ => ⟨S_, .i32⟩
  | .hbm, ⟨75, _⟩ => ⟨S16384x1x1, .i32⟩
  | .hbm, ⟨76, _⟩ => ⟨S16384x1x1, .i1⟩
  | .hbm, ⟨77, _⟩ => ⟨S1x1x1, .i32⟩
  | .hbm, ⟨78, _⟩ => ⟨S16384x1x1, .i32⟩
  | .hbm, ⟨79, _⟩ => ⟨S16384x1x1, .i1⟩
  | .hbm, ⟨80, _⟩ => ⟨S16384x1x1, .i1⟩
  | .hbm, ⟨81, _⟩ => ⟨S_, .i1⟩
  | .hbm, ⟨82, _⟩ => ⟨S16384x1, .i1⟩
  | .hbm, ⟨83, _⟩ => ⟨S16384x1x8, .f32⟩
  | .hbm, ⟨84, _⟩ => ⟨S16384x1x8, .i1⟩
  | .hbm, ⟨85, _⟩ => ⟨S_, .f32⟩
  | .hbm, ⟨86, _⟩ => ⟨S16384x1x8, .f32⟩
  | .hbm, ⟨87, _⟩ => ⟨S16384x1x8, .f32⟩
  | .hbm, ⟨88, _⟩ => ⟨S16384x8, .f32⟩
  | .hbm, ⟨89, _⟩ => ⟨S16384x2, .f32⟩
  | .hbm, ⟨90, _⟩ => ⟨S16384x2, .i32⟩
  | .hbm, ⟨91, _⟩ => ⟨S_, .f32⟩
  | .hbm, ⟨92, _⟩ => ⟨S16384, .f32⟩
  | .hbm, ⟨93, _⟩ => ⟨S_, .f32⟩
  | .hbm, ⟨94, _⟩ => ⟨S16384, .f32⟩
  | .hbm, ⟨95, _⟩ => ⟨S16384, .f32⟩
  | .hbm, ⟨96, _⟩ => ⟨S16384x1, .f32⟩
  | .hbm, ⟨97, _⟩ => ⟨S16384x2, .f32⟩
  | .hbm, ⟨98, _⟩ => ⟨S16384x2, .f32⟩
  | .hbm, ⟨99, _⟩ => ⟨S16384x2, .f32⟩
  | .hbm, ⟨100, _⟩ => ⟨S_, .f32⟩
  | .hbm, ⟨101, _⟩ => ⟨S16384, .f32⟩
  | .hbm, ⟨102, _⟩ => ⟨S16384x1, .f32⟩
  | .hbm, ⟨103, _⟩ => ⟨S16384x2, .f32⟩
  | .hbm, ⟨104, _⟩ => ⟨S16384x2, .f32⟩
  | .hbm, ⟨105, _⟩ => ⟨S16384x2, .f32⟩
  | .hbm, ⟨106, _⟩ => ⟨S16384x2, .f32⟩
  | .hbm, ⟨107, _⟩ => ⟨S_, .i32⟩
  | .hbm, ⟨108, _⟩ => ⟨S16384x1, .i32⟩
  | .hbm, ⟨109, _⟩ => ⟨S16384x1, .i32⟩
  | .hbm, ⟨110, _⟩ => ⟨S16384x2, .i32⟩
  | .hbm, ⟨111, _⟩ => ⟨S16384x2, .i32⟩
  | .hbm, ⟨112, _⟩ => ⟨S16384x2x1, .i32⟩
  | .hbm, ⟨113, _⟩ => ⟨S1x1x32, .i32⟩
  | .hbm, ⟨114, _⟩ => ⟨S16384x2x32, .i32⟩
  | .hbm, ⟨115, _⟩ => ⟨S16384x2x32, .i32⟩
  | .hbm, ⟨116, _⟩ => ⟨S16384x2x32, .i1⟩
  | .hbm, ⟨117, _⟩ => ⟨S16384x2x32, .f32⟩
  | .hbm, ⟨118, _⟩ => ⟨S16384x32, .f32⟩
  | .hbm, ⟨119, _⟩ => ⟨S16384x1024, .bf16⟩
  | .hbm, ⟨120, _⟩ => ⟨S_, .i32⟩
  | .hbm, ⟨121, _⟩ => ⟨S_, .f32⟩
  | .hbm, ⟨122, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_values : Ref sig .tc := ⟨.hbm, 58, rfl⟩
abbrev main_indices : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call0_c : Ref sig .tc := ⟨.hbm, 66, rfl⟩
abbrev main_call0_v0 : Ref sig .tc := ⟨.hbm, 67, rfl⟩
abbrev main_call0_v1 : Ref sig .tc := ⟨.hbm, 68, rfl⟩
abbrev main_call0_c_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_c_1 : Ref sig .tc := ⟨.hbm, 73, rfl⟩
abbrev main_call0_c_2 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_call0_c_3 : Ref sig .tc := ⟨.hbm, 81, rfl⟩
abbrev main_call0_v11 : Ref sig .tc := ⟨.hbm, 82, rfl⟩
abbrev main_call0_v12 : Ref sig .tc := ⟨.hbm, 83, rfl⟩
abbrev main_call0_v13 : Ref sig .tc := ⟨.hbm, 84, rfl⟩
abbrev main_call0_cst : Ref sig .tc := ⟨.hbm, 85, rfl⟩
abbrev main_call0_v14 : Ref sig .tc := ⟨.hbm, 86, rfl⟩
abbrev main_v46 : Ref sig .tc := ⟨.hbm, 87, rfl⟩
abbrev main_v47 : Ref sig .tc := ⟨.hbm, 88, rfl⟩
abbrev main_values_5 : Ref sig .tc := ⟨.hbm, 89, rfl⟩
abbrev main_indices_6 : Ref sig .tc := ⟨.hbm, 90, rfl⟩
abbrev main_cst_7 : Ref sig .tc := ⟨.hbm, 91, rfl⟩
abbrev main_v48 : Ref sig .tc := ⟨.hbm, 92, rfl⟩
abbrev main_cst_8 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_9 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_c : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_call1_v3 : Ref sig .tc := ⟨.hbm, 115, rfl⟩
abbrev main_call1_v4 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_c_10 : Ref sig .tc := ⟨.hbm, 120, rfl⟩
abbrev main_call2_v0 : Ref sig .tc := ⟨.hbm, 121, rfl⟩
abbrev main_v68 : Ref sig .tc := ⟨.hbm, 122, rfl⟩

abbrev nD : Nat := 1
abbrev τ : Topo := Topo.v7x

variable {F : FTy → Type} [FloatOps F]
-- ==== KernelMoe.lean ====
abbrev S16384x1024 : Shape := ⟨2, ![16384, 1024]⟩
abbrev S16384x128 : Shape := ⟨2, ![16384, 128]⟩
abbrev S32x1024x256 : Shape := ⟨3, ![32, 1024, 256]⟩
abbrev S32x256x1024 : Shape := ⟨3, ![32, 256, 1024]⟩
abbrev S1024 : Shape := ⟨1, ![1024]⟩
abbrev S4x8x1024x256 : Shape := ⟨4, ![4, 8, 1024, 256]⟩
abbrev S4x1024x8x256 : Shape := ⟨4, ![4, 1024, 8, 256]⟩
abbrev S4x1024x2048 : Shape := ⟨3, ![4, 1024, 2048]⟩
abbrev S4x2048x1024 : Shape := ⟨3, ![4, 2048, 1024]⟩
abbrev S1x1024 : Shape := ⟨2, ![1, 1024]⟩
abbrev S512x1024 : Shape := ⟨2, ![512, 1024]⟩
abbrev S512x128 : Shape := ⟨2, ![512, 128]⟩
abbrev S1x1024x2048 : Shape := ⟨3, ![1, 1024, 2048]⟩
abbrev S1x2048x1024 : Shape := ⟨3, ![1, 2048, 1024]⟩
abbrev S1024x2048 : Shape := ⟨2, ![1024, 2048]⟩
abbrev S512x2048 : Shape := ⟨2, ![512, 2048]⟩
abbrev S128x2048 : Shape := ⟨2, ![128, 2048]⟩
abbrev S2048x1024 : Shape := ⟨2, ![2048, 1024]⟩
abbrev S512 : Shape := ⟨1, ![512]⟩
abbrev S512x1 : Shape := ⟨2, ![512, 1]⟩

abbrev nBuf : Space → Nat
  | .hbm => 19
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x128, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S1024, .f32⟩
  | .hbm, ⟨7, _⟩ => ⟨S4x8x1024x256, .f32⟩
  | .hbm, ⟨8, _⟩ => ⟨S4x1024x8x256, .f32⟩
  | .hbm, ⟨9, _⟩ => ⟨S4x1024x2048, .f32⟩
  | .hbm, ⟨10, _⟩ => ⟨S4x1024x2048, .bf16⟩
  | .hbm, ⟨11, _⟩ => ⟨S4x8x1024x256, .f32⟩
  | .hbm, ⟨12, _⟩ => ⟨S4x1024x8x256, .f32⟩
  | .hbm, ⟨13, _⟩ => ⟨S4x1024x2048, .f32⟩
  | .hbm, ⟨14, _⟩ => ⟨S4x1024x2048, .bf16⟩
  | .hbm, ⟨15, _⟩ => ⟨S4x2048x1024, .f32⟩
  | .hbm, ⟨16, _⟩ => ⟨S4x2048x1024, .bf16⟩
  | .hbm, ⟨17, _⟩ => ⟨S1x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x128, .f32⟩
  | .local _ .vmem, ⟨5, _⟩ => ⟨S512x128, .f32⟩
  | .local _ .vmem, ⟨6, _⟩ => ⟨S1x1024x2048, .bf16⟩
  | .local _ .vmem, ⟨7, _⟩ => ⟨S1x1024x2048, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v64 : BitVec 1 := Scalar.cmpi .eq arg1 c3_i32
  let v65 : BitVec 32 := Scalar.extui v64
  let c0_i32_30 : BitVec 32 := 0#32
  let v66 : BitVec 1 := Scalar.cmpi .ne v65 c0_i32_30
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceMoeIdeal.lean ====
abbrev S16384x1024 : Shape := ⟨2, ![16384, 1024]⟩
abbrev S16384x128 : Shape := ⟨2, ![16384, 128]⟩
abbrev S32x1024x256 : Shape := ⟨3, ![32, 1024, 256]⟩
abbrev S32x256x1024 : Shape := ⟨3, ![32, 256, 1024]⟩
abbrev S1024 : Shape := ⟨1, ![1024]⟩
abbrev S16384x32 : Shape := ⟨2, ![16384, 32]⟩
abbrev S_ : Shape := ⟨0, ![]⟩
abbrev S8x1024x256 : Shape := ⟨3, ![8, 1024, 256]⟩
abbrev S16384x8x256 : Shape := ⟨3, ![16384, 8, 256]⟩
abbrev S16384x8 : Shape := ⟨2, ![16384, 8]⟩
abbrev S16384x8x1 : Shape := ⟨3, ![16384, 8, 1]⟩
abbrev S8x256x1024 : Shape := ⟨3, ![8, 256, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 112
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x128, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S1024, .f32⟩
  | .hbm, ⟨7, _⟩ => ⟨S16384x1024, .f32⟩
  | .hbm, ⟨8, _⟩ => ⟨S16384x32, .f32⟩
  | .hbm, ⟨9, _⟩ => ⟨S_, .f32⟩
  | .hbm, ⟨10, _⟩ => ⟨S16384x1024, .f32⟩
  | .hbm, ⟨11, _⟩ => ⟨S8x1024x256, .f32⟩
  | .hbm, ⟨12, _⟩ => ⟨S16384x8x256, .f32⟩
  | .hbm, ⟨13, _⟩ => ⟨S8x1024x256, .f32⟩
  | .hbm, ⟨14, _⟩ => ⟨S16384x8x256, .f32⟩
  | .hbm, ⟨15, _⟩ => ⟨S16384x8x256, .f32⟩
  | .hbm, ⟨16, _⟩ => ⟨S16384x8x256, .f32⟩
  | .hbm, ⟨17, _⟩ => ⟨S_, .f32⟩
  | .hbm, ⟨18, _⟩ => ⟨S16384x8x256, .f32⟩
  | .hbm, ⟨19, _⟩ => ⟨S16384x8x256, .f32⟩
  | .hbm, ⟨20, _⟩ => ⟨S_, .f32⟩
  | .hbm, ⟨21, _⟩ => ⟨S16384x8x256, .f32⟩
  | .hbm, ⟨22, _⟩ => ⟨S16384x8x256, .f32⟩
  | .hbm, ⟨23, _⟩ => ⟨S16384x8x256, .f32⟩
  | .hbm, ⟨24, _⟩ => ⟨S16384x8x256, .f32⟩
  | .hbm, ⟨25, _⟩ => ⟨S16384x8, .f32⟩
  | .hbm, ⟨26, _⟩ => ⟨S16384x8x1, .f32⟩
  | .hbm, ⟨27, _⟩ => ⟨S16384x8x256, .f32⟩
  | .hbm, ⟨28, _⟩ => ⟨S16384x8x256, .f32⟩
  | .hbm, ⟨29, _⟩ => ⟨S8x256x1024, .f32⟩
  | .hbm, ⟨30, _⟩ => ⟨S16384x1024, .f32⟩
  | .hbm, ⟨31, _⟩ => ⟨S16384x1024, .f32⟩
  | .hbm, ⟨32, _⟩ => ⟨S8x1024x256, .f32⟩
  | .hbm, ⟨33, _⟩ => ⟨S16384x8x256, .f32⟩
  | .hbm, ⟨34, _⟩ => ⟨S8x1024x256, .f32⟩
  | .hbm, ⟨35, _⟩ => ⟨S16384x8x256, .f32⟩
  | .hbm, ⟨36, _⟩ => ⟨S16384x8x256, .f32⟩
  | .hbm, ⟨37, _⟩ => ⟨S16384x8x256, .f32⟩
  | .hbm, ⟨38, _⟩ => ⟨S_, .f32⟩
  | .hbm, ⟨39, _⟩ => ⟨S16384x8x256, .f32⟩
  | .hbm, ⟨40, _⟩ => ⟨S16384x8x256, .f32⟩
  | .hbm, ⟨41, _⟩ => ⟨S_, .f32⟩
  | .hbm, ⟨42, _⟩ => ⟨S16384x8x256, .f32⟩
  | .hbm, ⟨43, _⟩ => ⟨S16384x8x256, .f32⟩
  | .hbm, ⟨44, _⟩ => ⟨S16384x8x256, .f32⟩
  | .hbm, ⟨45, _⟩ => ⟨S16384x8x256, .f32⟩
  | .hbm, ⟨46, _⟩ => ⟨S16384x8, .f32⟩
  | .hbm, ⟨47, _⟩ => ⟨S16384x8x1, .f32⟩
  | .hbm, ⟨48, _⟩ => ⟨S16384x8x256, .f32⟩
  | .hbm, ⟨49, _⟩ => ⟨S16384x8x256, .f32⟩
  | .hbm, ⟨50, _⟩ => ⟨S8x256x1024, .f32⟩
  | .hbm, ⟨51, _⟩ => ⟨S16384x1024, .f32⟩
  | .hbm, ⟨52, _⟩ => ⟨S16384x1024, .f32⟩
  | .hbm, ⟨53, _⟩ => ⟨S8x1024x256, .f32⟩
  | .hbm, ⟨54, _⟩ => ⟨S16384x8x256, .f32⟩
  | .hbm, ⟨55, _⟩ => ⟨S8x1024x256, .f32⟩
  | .hbm, ⟨56, _⟩ => ⟨S16384x8x256, .f32⟩
  | .hbm, ⟨57, _⟩ => ⟨S16384x8x256, .f32⟩
  | .hbm, ⟨58, _⟩ => ⟨S16384x8x256, .f32⟩
  | .hbm, ⟨59, _⟩ => ⟨S_, .f32⟩
  | .hbm, ⟨60, _⟩ => ⟨S16384x8x256, .f32⟩
  | .hbm, ⟨61, _⟩ => ⟨S16384x8x256, .f32⟩
  | .hbm, ⟨62, _⟩ => ⟨S_, .f32⟩
  | .hbm, ⟨63, _⟩ => ⟨S16384x8x256, .f32⟩
  | .hbm, ⟨64, _⟩ => ⟨S16384x8x256, .f32⟩
  | .hbm, ⟨65, _⟩ => ⟨S16384x8x256, .f32⟩
  | .hbm, ⟨66, _⟩ => ⟨S16384x8x256, .f32⟩
  | .hbm, ⟨67, _⟩ => ⟨S16384x8, .f32⟩
  | .hbm, ⟨68, _⟩ => ⟨S16384x8x1, .f32⟩
  | .hbm, ⟨69, _⟩ => ⟨S16384x8x256, .f32⟩
  | .hbm, ⟨70, _⟩ => ⟨S16384x8x256, .f32⟩
  | .hbm, ⟨71, _⟩ => ⟨S8x256x1024, .f32⟩
  | .hbm, ⟨72, _⟩ => ⟨S16384x1024, .f32⟩
  | .hbm, ⟨73, _⟩ => ⟨S16384x1024, .f32⟩
  | .hbm, ⟨74, _⟩ => ⟨S8x1024x256, .f32⟩
  | .hbm, ⟨75, _⟩ => ⟨S16384x8x256, .f32⟩
  | .hbm, ⟨76, _⟩ => ⟨S8x1024x256, .f32⟩
  | .hbm, ⟨77, _⟩ => ⟨S16384x8x256, .f32⟩
  | .hbm, ⟨78, _⟩ => ⟨S16384x8x256, .f32⟩
  | .hbm, ⟨79, _⟩ => ⟨S16384x8x256, .f32⟩
  | .hbm, ⟨80, _⟩ => ⟨S_, .f32⟩
  | .hbm, ⟨81, _⟩ => ⟨S16384x8x256, .f32⟩
  | .hbm, ⟨82, _⟩ => ⟨S16384x8x256, .f32⟩
  | .hbm, ⟨83, _⟩ => ⟨S_, .f32⟩
  | .hbm, ⟨84, _⟩ => ⟨S16384x8x256, .f32⟩
  | .hbm, ⟨85, _⟩ => ⟨S16384x8x256, .f32⟩
  | .hbm, ⟨86, _⟩ => ⟨S16384x8x256, .f32⟩
  | .hbm, ⟨87, _⟩ => ⟨S16384x8x256, .f32⟩
  | .hbm, ⟨88, _⟩ => ⟨S16384x8, .f32⟩
  | .hbm, ⟨89, _⟩ => ⟨S16384x8x1, .f32⟩
  | .hbm, ⟨90, _⟩ => ⟨S16384x8x256, .f32⟩
  | .hbm, ⟨91, _⟩ => ⟨S16384x8x256, .f32⟩
  | .hbm, ⟨92, _⟩ => ⟨S8x256x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S_, .f32⟩
  | .hbm, ⟨98, _⟩ => ⟨S16384, .f32⟩
  | .hbm, ⟨99, _⟩ => ⟨S16384x1, .f32⟩
  | .hbm, ⟨100, _⟩ => ⟨S_, .f32⟩
  | .hbm, ⟨101, _⟩ => ⟨S16384x1, .f32⟩
  | .hbm, ⟨102, _⟩ => ⟨S16384x1, .f32⟩
  | .hbm, ⟨103, _⟩ => ⟨S_, .f32⟩
  | .hbm, ⟨104, _⟩ => ⟨S16384x1, .f32⟩
  | .hbm, ⟨105, _⟩ => ⟨S16384x1, .f32⟩
  | .hbm, ⟨106, _⟩ => ⟨S16384x1, .f32⟩
  | .hbm, ⟨107, _⟩ => ⟨S16384x1024, .f32⟩
  | .hbm, ⟨108, _⟩ => ⟨S16384x1024, .f32⟩
  | .hbm, ⟨109, _⟩ => ⟨S1x1024, .f32⟩
  | .hbm, ⟨110, _⟩ => ⟨S16384x1024, .f32⟩
  | .hbm, ⟨111, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call2_v0 : Ref sig .tc := ⟨.hbm, 57, rfl⟩
abbrev main_call2_v1 : Ref sig .tc := ⟨.hbm, 58, rfl⟩
abbrev main_call2_cst : Ref sig .tc := ⟨.hbm, 59, rfl⟩
abbrev main_call2_v2 : Ref sig .tc := ⟨.hbm, 60, rfl⟩
abbrev main_call2_v3 : Ref sig .tc := ⟨.hbm, 61, rfl⟩
abbrev main_call2_cst_0 : Ref sig .tc := ⟨.hbm, 62, rfl⟩
abbrev main_call2_v4 : Ref sig .tc := ⟨.hbm, 63, rfl⟩
abbrev main_call2_v5 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_call3_v0 : Ref sig .tc := ⟨.hbm, 78, rfl⟩
abbrev main_call3_v1 : Ref sig .tc := ⟨.hbm, 79, rfl⟩
abbrev main_call3_cst : Ref sig .tc := ⟨.hbm, 80, rfl⟩
abbrev main_call3_v2 : Ref sig .tc := ⟨.hbm, 81, rfl⟩
abbrev main_call3_v3 : Ref sig .tc := ⟨.hbm, 82, rfl⟩
abbrev main_call3_cst_0 : Ref sig .tc := ⟨.hbm, 83, rfl⟩
abbrev main_call3_v4 : Ref sig .tc := ⟨.hbm, 84, rfl⟩
abbrev main_call3_v5 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_0 : Ref sig .tc := ⟨.hbm, 97, rfl⟩
abbrev main_v57 : Ref sig .tc := ⟨.hbm, 98, rfl⟩
abbrev main_v58 : Ref sig .tc := ⟨.hbm, 99, rfl⟩
abbrev main_cst_1 : Ref sig .tc := ⟨.hbm, 100, rfl⟩
abbrev main_v59 : Ref sig .tc := ⟨.hbm, 101, rfl⟩
abbrev main_v60 : Ref sig .tc := ⟨.hbm, 102, rfl⟩
abbrev main_cst_2 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩

abbrev nD : Nat := 1
abbrev τ : Topo := Topo.v7x

variable {F : FTy → Type} [FloatOps F]
-- ==== Proof.ProjMath.lean ====
/-
  The mathematics of the input projection: the normalised row times a column of weights, the token shift along a sequence of
  2048 tokens, and the gate.
-/
module

public import Idealize.ShloMosaic.Lib.Pointwise

@[expose] public section

noncomputable section

namespace Cert.Proj

open Idealize.ShloMosaic

variable (x : FVec Ideal ⟨2, ![16384, 1024]⟩ .f32) (g : FVec Ideal ⟨1, ![1024]⟩ .f32) (w : FVec Ideal ⟨2, ![1024, 5376]⟩ .f32)
  (mu : FVec Ideal ⟨1, ![1792]⟩ .f32)

/-- Channel `k` of token `n`, divided by the root of its row's mean square (plus a small constant) and scaled. -/
def nrm (n : Fin 16384) (k : Fin 1024) : EReal :=
  x (ix2 n k) * Ideal.rsqrt (Ideal.div (∑ j, x (ix2 n j) * x (ix2 n j)) (Ideal.ofBits FTy.f32 0x44800000#32)
    + Ideal.ofBits FTy.f32 0x358637BD#32) * g (ix1 k)

/-- Column `d` of the projection of token `n`. -/
def proj (n : Fin 16384) (d : Fin 5376) : EReal := ∑ k : Fin 1024, nrm x g n k * w (ix2 k d)

/-- The column of the mixed part of the projection that lane `d` holds. -/
abbrev mixed (d : Fin 1792) : Fin 5376 := ⟨1536 + d.val, by omega⟩

/-- The projection of the token before `n` in its sequence of 2048 tokens, zero for the first. -/
def before (n : Fin 16384) (d : Fin 1792) : EReal :=
  if n.val % 2048 = 0 then 0 else proj x g w ⟨n.val - 1, by omega⟩ (mixed d)

/-- The token shift: the projection moved towards the token before. -/
def shifted (n : Fin 16384) (d : Fin 1792) : EReal :=
  proj x g w n (mixed d) + (before x g w n d - proj x g w n (mixed d)) * mu (ix1 d)

/-- The gate `1/(1 + e^(-z))` of a column. -/
def gate (n : Fin 16384) (d : Fin 2048) : EReal :=
  Ideal.div 1 (1 + Ideal.exp (-proj x g w n ⟨3328 + d.val, by omega⟩))

end Cert.Proj

end
-- ==== Proof.ProjRef.lean ====
/-
  The plain reference of the input projection, read at one element of each of its five results.
-/
module

public import proofs.«01_k».proof.Proof.Gen.ReferenceProjIdeal.Read
public import proofs.«01_k».proof.Proof.ProjMath

@[expose] public section

set_option maxRecDepth 16384

noncomputable section

namespace Cert.ReferenceProjIdeal.Whole

open Idealize.ShloMosaic
open Cert.ReferenceProjIdeal Cert.ReferenceProjIdeal.Read

variable (x0 : FVec Ideal S16384x1024 .f32) (x1 : FVec Ideal S1024 .f32) (x2 : FVec Ideal S1024x5376 .f32) (x3 : FVec Ideal S1792 .f32)

/-- The token at position `s` of sequence `b`. -/
abbrev tok (b : Fin 8) (s : Fin 2048) : Fin 16384 := ⟨b.val * 2048 + s.val, by omega⟩

/-- The normalised row. -/
theorem v13 (b : Fin 8) (s : Fin 2048) (k : Fin 1024) :
    val_main_v13 (F := Ideal) x0 x1 (ix3 b s k) = Cert.Proj.nrm x0 x1 (tok b s) k := by
  unfold Cert.Proj.nrm
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

/-- The projection. -/
theorem v14 (b : Fin 8) (s : Fin 2048) (d : Fin 5376) :
    val_main_v14 (F := Ideal) x0 x1 x2 (ix3 b s d) = Cert.Proj.proj x0 x1 x2 (tok b s) d := by
  unfold Cert.Proj.proj
  pointwise [val_main_v14]
  simp only [v13]

/-- The token before in the sequence. -/
theorem v20 (b : Fin 8) (s : Fin 2048) (d : Fin 1792) :
    val_main_v20 (F := Ideal) x0 x1 x2 (ix3 b s d) = Cert.Proj.before x0 x1 x2 (tok b s) d := by
  unfold Cert.Proj.before
  pointwise [val_main_v20, val_main_v19, val_main_v18, val_main_c, val_main_call0_v0]
  by_cases hs : s.val = 0
  · rw [dif_neg (by omega), if_pos (by show (b.val * 2048 + s.val) % 2048 = 0; omega)]
    show (((0#32 : BitVec 32).toInt : ℝ) : EReal) = 0
    simp
  · rw [dif_pos (by omega), if_neg (by show ¬(b.val * 2048 + s.val) % 2048 = 0; omega), v14]
    congr 1
    exact Fin.ext (by show b.val * 2048 + (s.val - 1) = b.val * 2048 + s.val - 1; omega)

/-- A token is the one at its position of its sequence. -/
theorem tok_split (n : Fin 16384) : tok ⟨n.val / 2048, by omega⟩ ⟨n.val % 2048, Nat.mod_lt _ (by decide)⟩ = n :=
  Fin.ext (by show n.val / 2048 * 2048 + n.val % 2048 = n.val; omega)

/-- The queries. -/
theorem q (n : Fin 16384) (d : Fin 512) :
    val_main_v34 (F := Ideal) x0 x1 x2 (ix2 n d) = Cert.Proj.proj x0 x1 x2 n ⟨d.val, by omega⟩ := by
  pointwise [val_main_v34, val_main_v33, val_main_v15]
  rw [v14, tok_split]

/-- The keys. -/
theorem k (n : Fin 16384) (d : Fin 512) :
    val_main_v36 (F := Ideal) x0 x1 x2 (ix2 n d) = Cert.Proj.proj x0 x1 x2 n ⟨512 + d.val, by omega⟩ := by
  pointwise [val_main_v36, val_main_v35, val_main_v16]
  rw [v14, tok_split]

/-- The values. -/
theorem v (n : Fin 16384) (d : Fin 512) :
    val_main_v38 (F := Ideal) x0 x1 x2 (ix2 n d) = Cert.Proj.proj x0 x1 x2 n ⟨1024 + d.val, by omega⟩ := by
  pointwise [val_main_v38, val_main_v37, val_main_v17]
  rw [v14, tok_split]

/-- The shifted mixed part. -/
theorem rw' (n : Fin 16384) (d : Fin 1792) :
    val_main_v39 (F := Ideal) x0 x1 x2 x3 (ix2 n d) = Cert.Proj.shifted x0 x1 x2 x3 n d := by
  unfold Cert.Proj.shifted
  pointwise [val_main_v39, val_main_v25, val_main_v24, val_main_v23, val_main_v22, val_main_v21, val_main_v18]
  rw [v14, v20, tok_split]

/-- The gates. -/
theorem gates (n : Fin 16384) (d : Fin 2048) :
    val_main_v41 (F := Ideal) x0 x1 x2 (ix2 n d) = Cert.Proj.gate x0 x1 x2 n d := by
  unfold Cert.Proj.gate
  pointwise [val_main_v41, val_main_v40, val_main_v32, val_main_v31, val_main_v30, val_main_v29, val_main_v28, val_main_v27, val_main_v26,
    val_main_cst_2, val_main_cst_3]
  rw [v14, tok_split]

end Cert.ReferenceProjIdeal.Whole

end
-- ==== Proof.ProjKernel.lean ====
/-
  The input projection as the launch computes it, read at one element of each of its five results.
-/
module

public import proofs.«01_k».proof.Proof.Gen.KernelProjIdeal.Value
public import proofs.«01_k».proof.Proof.ProjMath
public import Idealize.ShloMosaic.Lib.Pipeline.ValueKit
public import Idealize.ShloMosaic.Lib.WritesUnit
public import Idealize.ShloMosaic.Lib.Pipeline.ReadBack
public import Idealize.ShloMosaic.Lib.Tactic

@[expose] public section

set_option maxRecDepth 16384

noncomputable section

namespace Cert.KernelProjIdeal.Body

open Idealize.ShloMosaic Idealize.ShloMosaic.TcCoe Idealize.SL.Sem
open Cert.KernelProjIdeal Cert.KernelProjIdeal.Gen

/-! ## The values a point computes, from its blocks -/

/-- One row of a block, normalised. -/
theorem pay3_apply (x : Vec Ideal S256x1024 .f32) (g : Vec Ideal S1x1024 .f32) (r : Fin 256) (k : Fin 1024) :
    k0_pay3 x g (ix2 r k) = x (ix2 r k) * Ideal.rsqrt (Ideal.div (∑ j, x (ix2 r j) * x (ix2 r j)) (Ideal.ofBits FTy.f32 0x44800000#32)
      + Ideal.ofBits FTy.f32 0x358637BD#32) * g (ix2 0 k) := by
  pointwise [k0_pay3]

theorem pay4_apply (x : Vec Ideal S256x1024 .f32) (g : Vec Ideal S1x1024 .f32) (w : Vec Ideal S1024x512 .bf16) (r : Fin 256) (d : Fin 512) :
    k0_pay4 x g w (ix2 r d) = ∑ k : Fin 1024, k0_pay3 x g (ix2 r k) * w (ix2 k d) := by
  pointwise [k0_pay4]

theorem pay5_apply (x : Vec Ideal S256x1024 .f32) (g : Vec Ideal S1x1024 .f32) (w : Vec Ideal S1024x512 .bf16) (r : Fin 256) (d : Fin 512) :
    k0_pay5 x g w (ix2 r d) = ∑ k : Fin 1024, k0_pay3 x g (ix2 r k) * w (ix2 k d) := by
  pointwise [k0_pay5]

theorem pay6_apply (x : Vec Ideal S256x1024 .f32) (g : Vec Ideal S1x1024 .f32) (w : Vec Ideal S1024x512 .bf16) (r : Fin 256) (d : Fin 512) :
    k0_pay6 x g w (ix2 r d) = ∑ k : Fin 1024, k0_pay3 x g (ix2 r k) * w (ix2 k d) := by
  pointwise [k0_pay6]

theorem pay7_apply (h : FVec Ideal S256x1024 .bf16) (w : Vec Ideal S1024x1792 .bf16) (r : Fin 256) (d : Fin 1792) :
    k0_pay7 h w (ix2 r d) = ∑ k : Fin 1024, h (ix2 r k) * w (ix2 k d) := by
  pointwise [k0_pay7]

theorem pay8_apply (h : FVec Ideal S256x1024 .bf16) (w : Vec Ideal S1024x1792 .bf16) (d : Fin 1792) :
    k0_pay8 h w (ix2 0 d) = k0_pay7 h w (ix2 255 d) := by
  pointwise [k0_pay8]

theorem pay1_apply (h : FVec Ideal S256x1024 .bf16) (w : Vec Ideal S1024x2048 .bf16) (r : Fin 256) (d : Fin 2048) :
    k0_pay1 h w (ix2 r d) = Ideal.div 1 (1 + Ideal.exp (-∑ k : Fin 1024, h (ix2 r k) * w (ix2 k d))) := by
  pointwise [k0_pay1]
  rw [sub_eq_add_neg, zero_add]

theorem select_one {α : Type} (a b : α) : Scalar.select 1#1 a b = a := rfl
theorem select_zero {α : Type} (a b : α) : Scalar.select 0#1 a b = b := rfl

/-- The comparison the launch makes of its point's number with the length of a sequence. -/
theorem start_of_sequence : ∀ t : Fin 64, Scalar.cmpi .eq
    (Scalar.select
      (Scalar.andi
        (Scalar.xori (Scalar.cmpi .slt (Scalar.remsi (BitVec.ofNat 32 t.val) (Scalar.select (Scalar.cmpi .eq 8#32 0#32) 1#32 8#32)) 0#32)
          (Scalar.cmpi .slt (Scalar.select (Scalar.cmpi .eq 8#32 0#32) 1#32 8#32) 0#32))
        (Scalar.cmpi .ne (Scalar.remsi (BitVec.ofNat 32 t.val) (Scalar.select (Scalar.cmpi .eq 8#32 0#32) 1#32 8#32)) 0#32))
      (Scalar.addi (Scalar.remsi (BitVec.ofNat 32 t.val) (Scalar.select (Scalar.cmpi .eq 8#32 0#32) 1#32 8#32))
        (Scalar.select (Scalar.cmpi .eq 8#32 0#32) 1#32 8#32))
      (Scalar.remsi (BitVec.ofNat 32 t.val) (Scalar.select (Scalar.cmpi .eq 8#32 0#32) 1#32 8#32))) 0#32
    = if t.val % 8 = 0 then 1#1 else 0#1 := by decide +kernel

theorem first_row : ∀ r : Fin 256, IntOp.cmpi .eq (BitVec.ofNat 32 r.val) 0#32 = if r.val = 0 then 1#1 else 0#1 := by decide +kernel

/-- The token shift of a block: its first row is shifted towards the row carried from the block before, or towards zero at the
    start of a sequence. -/
theorem pay9_apply (t : Fin 64) (h : FVec Ideal S256x1024 .bf16) (w : Vec Ideal S1024x1792 .bf16) (p mu : Vec Ideal S1x1792 .f32)
    (r : Fin 256) (d : Fin 1792) :
    k0_pay9 (BitVec.ofNat 32 t.val) h w p mu (ix2 r d) = k0_pay7 h w (ix2 r d)
      + ((if r.val = 0 then (if t.val % 8 = 0 then 0 else p (ix2 0 d)) else k0_pay7 h w (ix2 ⟨r.val - 1, by omega⟩ d)) - k0_pay7 h w (ix2 r d))
        * mu (ix2 0 d) := by
  pointwise [k0_pay9]
  rw [start_of_sequence t, first_row r]
  by_cases hr : r.val = 0
  · rw [if_pos hr, if_pos hr, select_one]
    by_cases ht : t.val % 8 = 0
    · rw [if_pos ht, if_pos ht, select_one]
    · rw [if_neg ht, if_neg ht, select_zero]
  · rw [if_neg hr, if_neg hr, select_zero]
    have he : (⟨(r.val + 256 - 1) % 256, Nat.mod_lt _ (by decide)⟩ : Fin 256) = ⟨r.val - 1, by omega⟩ :=
      Fin.ext (by show (r.val + 256 - 1) % 256 = r.val - 1; omega)
    rw [he]

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0] ∧ (grid0.coords t 0).val = t.val := (by decide +kernel : ∀ t : Fin grid0.N, _)

/-- The tokens, at their literal shape. -/
abbrev X : FVec Ideal ⟨2, ![16384, 1024]⟩ .f32 := m ((c : Thread nD τ).loc main_arg0)
/-- The norm's weights. -/
abbrev Ln : FVec Ideal ⟨1, ![1024]⟩ .f32 := m ((c : Thread nD τ).loc main_arg1)
/-- The projection's weights. -/
abbrev W : FVec Ideal ⟨2, ![1024, 5376]⟩ .f32 := m ((c : Thread nD τ).loc main_arg2)
/-- The shift's weights. -/
abbrev Mu : FVec Ideal ⟨1, ![1792]⟩ .f32 := m ((c : Thread nD τ).loc main_arg3)

theorem lt_N (t : Fin cfg0.N) : t.val < 64 := Nat.lt_of_lt_of_eq t.isLt N_0

/-- The token of row `r` of point `t`'s block. -/
abbrev tok (t : Fin cfg0.N) (r : Fin 256) : Fin 16384 := ⟨256 * t.val + r.val, by have := lt_N t; omega⟩

variable (t : Fin cfg0.N)

theorem read0 (r : Fin 256) (d : Fin 1024) : (iblk m c 0 t : FVec Ideal S256x1024 .f32) (ix2 r d) = X m c (ix2 (tok t r) d) := by
  have := lt_N t
  blk_ext [iblk, V, idx t]

theorem read1 (d : Fin 1024) : (iblk m c 1 t : FVec Ideal S1x1024 .f32) (ix2 0 d) = Ln m c (ix1 d) := by
  have := lt_N t
  blk_simp [iblk, idx t]
  entry_read
  pointwise
  blk_ext [idx t]

theorem read2 (k : Fin 1024) (d : Fin 5376) : (iblk m c 2 t : FVec Ideal S1024x5376 .bf16) (ix2 k d) = W m c (ix2 k d) := by
  have := lt_N t
  blk_simp [iblk, idx t]
  entry_read
  pointwise
  blk_ext [idx t]

theorem read3 (d : Fin 1792) : (iblk m c 3 t : FVec Ideal S1x1792 .f32) (ix2 0 d) = Mu m c (ix1 d) := by
  have := lt_N t
  blk_simp [iblk, idx t]
  entry_read
  pointwise
  blk_ext [idx t]

/-- A block's normalised rows are the tokens'. -/
theorem row (r : Fin 256) (k : Fin 1024) : k0_pay3 (iblk m c 0 t) (iblk m c 1 t) (ix2 r k) = Cert.Proj.nrm (X m c) (Ln m c) (tok t r) k := by
  rw [pay3_apply]
  unfold Cert.Proj.nrm
  simp only [read0 m c t, read1 m c t]

/-- A column block of the weights, loaded from its first column on. -/
theorem ld_cols (w : Vec Ideal S1024x5376 .bf16) (o n : ℕ) (inb) (k : Fin 1024) (d : Fin n) (h : o + d.val < 5376) :
    (View.ld w (Rect.unit ![0, o] ![1024, n] inb) : Vec Ideal ⟨2, ![1024, n]⟩ .bf16) (ix2 k d) = w (ix2 k ⟨o + d.val, h⟩) := by
  refine View.ld_unit_apply_of _ _ _ _ _ _ (fun a => ?_)
  match a with
  | ⟨0, _⟩ => show k.val = 0 + k.val; omega
  | ⟨1, _⟩ => rfl

/-- A block's product with a column of the weights is the tokens' projection. -/
theorem cols (o n : ℕ) (inb) (r : Fin 256) (d : Fin n) (h : o + d.val < 5376) :
    ∑ k : Fin 1024, k0_pay3 (iblk m c 0 t) (iblk m c 1 t) (ix2 r k)
      * (View.ld (iblk m c 2 t : Vec Ideal S1024x5376 .bf16) (Rect.unit ![0, o] ![1024, n] inb) : Vec Ideal ⟨2, ![1024, n]⟩ .bf16) (ix2 k d)
    = Cert.Proj.proj (X m c) (Ln m c) (W m c) (tok t r) ⟨o + d.val, h⟩ := by
  unfold Cert.Proj.proj
  refine Finset.sum_congr rfl fun k _ => ?_
  rw [row, ld_cols _ _ _ _ _ _ h, read2]

theorem rows7 (r : Fin 256) (d : Fin 1792) :
    k0_pay7 (k0_pay3 (iblk m c 0 t) (iblk m c 1 t)) (View.ld (iblk m c 2 t) (Rect.unit ![0, 1536] ![1024, 1792] inb_S1024x5376_S1024x1792_0_1536)) (ix2 r d)
      = Cert.Proj.proj (X m c) (Ln m c) (W m c) (tok t r) (Cert.Proj.mixed d) :=
  (pay7_apply _ _ r d).trans (cols m c t 1536 1792 _ r d _)

/-- The queries a point writes back. -/
theorem out4 (r : Fin 256) (d : Fin 512) : (outsAt0 m c t.val t.isLt).1 (ix2 r d)
    = Cert.Proj.proj (X m c) (Ln m c) (W m c) (tok t r) ⟨d.val, by omega⟩ := by
  have e := cols m c t 0 512 inb_S1024x5376_S1024x512_0_0 r d (by omega)
  simp only [Nat.zero_add] at e
  by_cases h0 : t.val % 64 = 0
  · rw [outsAt0_A m c t h0]
    dsimp only
    frame_out
    exact (pay4_apply _ _ _ r d).trans e
  · rw [outsAt0_B m c t h0]
    dsimp only
    frame_out
    exact (pay4_apply _ _ _ r d).trans e

/-- The keys. -/
theorem out5 (r : Fin 256) (d : Fin 512) : (outsAt0 m c t.val t.isLt).2.1 (ix2 r d)
    = Cert.Proj.proj (X m c) (Ln m c) (W m c) (tok t r) ⟨512 + d.val, by omega⟩ := by
  have e := cols m c t 512 512 inb_S1024x5376_S1024x512_0_512 r d (by omega)
  by_cases h0 : t.val % 64 = 0
  · rw [outsAt0_A m c t h0]
    dsimp only
    frame_out
    exact (pay5_apply _ _ _ r d).trans e
  · rw [outsAt0_B m c t h0]
    dsimp only
    frame_out
    exact (pay5_apply _ _ _ r d).trans e

/-- The values. -/
theorem out6 (r : Fin 256) (d : Fin 512) : (outsAt0 m c t.val t.isLt).2.2.1 (ix2 r d)
    = Cert.Proj.proj (X m c) (Ln m c) (W m c) (tok t r) ⟨1024 + d.val, by omega⟩ := by
  have e := cols m c t 1024 512 inb_S1024x5376_S1024x512_0_1024 r d (by omega)
  by_cases h0 : t.val % 64 = 0
  · rw [outsAt0_A m c t h0]
    dsimp only
    frame_out
    exact (pay6_apply _ _ _ r d).trans e
  · rw [outsAt0_B m c t h0]
    dsimp only
    frame_out
    exact (pay6_apply _ _ _ r d).trans e

/-- The gates. -/
theorem out8 (r : Fin 256) (d : Fin 2048) : (outsAt0 m c t.val t.isLt).2.2.2.2.1 (ix2 r d)
    = Cert.Proj.gate (X m c) (Ln m c) (W m c) (tok t r) d := by
  have e := cols m c t 3328 2048 inb_S1024x5376_S1024x2048_0_3328 r d (by omega)
  unfold Cert.Proj.gate
  rw [← e]
  by_cases h0 : t.val % 64 = 0
  · rw [outsAt0_A m c t h0]
    dsimp only
    frame_out
    exact pay1_apply _ _ r d
  · rw [outsAt0_B m c t h0]
    dsimp only
    frame_out
    exact pay1_apply _ _ r d

/-- A lane of the carried first row, as the place the stored row puts it. -/
theorem lane_of (d : Fin 1792) : (ix2 0 d : S8x1792.Idx) = (Rect.unit (s := S8x1792) ![0, 0] ![1, 1792] inb_S8x1792_S1x1792_0_0).emb (ix2 0 d) := by
  funext a
  refine Fin.ext ?_
  match a with
  | ⟨0, _⟩ => rfl
  | ⟨1, _⟩ => show d.val = 0 + 1 * d.val; omega

/-- The carried rows' first row is the row stored last. -/
theorem stored_row (w : Vec Ideal S1x1792 .f32) (L : List (View.Piece (Elt Ideal) S8x1792 .f32)) (d : Fin 1792) :
    View.canon (⟨Rect.unit ![0, 0] ![1, 1792] inb_S8x1792_S1x1792_0_0, w⟩ :: L) (ix2 0 d) = w (ix2 0 d) := by
  rw [lane_of d, View.canon_cons_emb]

/-- The same, stored over earlier contents. -/
theorem stored_over (f : (View.whole cc0_scratch0).ty.Contents (Elt Ideal)) (w : Vec Ideal S1x1792 .f32) (d : Fin 1792) :
    View.read (Elt Ideal) (View.whole cc0_scratch0) ((View.whole cc0_scratch0).writes (Elt Ideal) f
      [⟨Rect.unit ![0, 0] ![1, 1792] inb_S8x1792_S1x1792_0_0, w⟩]) (ix2 0 d) = w (ix2 0 d) := by
  rw [lane_of d, View.read_writes_cons_emb]

/-- After a point, the first row of the carried rows is the projection of the point's last token. -/
theorem carried (d : Fin 1792) : (outsAt0 m c t.val t.isLt).2.2.2.2.2 (ix2 0 d)
    = Cert.Proj.proj (X m c) (Ln m c) (W m c) (tok t 255) (Cert.Proj.mixed d) := by
  rw [← rows7 m c t 255 d, ← pay8_apply]
  by_cases h0 : t.val % 64 = 0
  · rw [outsAt0_A m c t h0]
    dsimp only
    frame_out
    exact stored_row _ _ d
  · rw [outsAt0_B m c t h0]
    dsimp only
    frame_out
    exact stored_over _ _ d

/-- The row a point other than the first finds carried is the projection of the token before its block. -/
theorem found (h0 : ¬t.val % 64 = 0) (d : Fin 1792) :
    (outsAt0 m c (t.val - 1) (Nat.lt_of_le_of_lt (Nat.sub_le _ _) t.isLt)).2.2.2.2.2 (ix2 0 d)
    = Cert.Proj.proj (X m c) (Ln m c) (W m c) ⟨256 * t.val - 1, by have := lt_N t; omega⟩ (Cert.Proj.mixed d) := by
  refine (carried m c ⟨t.val - 1, Nat.lt_of_le_of_lt (Nat.sub_le _ _) t.isLt⟩ d).trans ?_
  congr 1
  exact Fin.ext (by show 256 * (t.val - 1) + 255 = 256 * t.val - 1; omega)

theorem shift_of (p : Vec Ideal S1x1792 .f32) (r : Fin 256) (d : Fin 1792)
    (hp : ¬t.val % 8 = 0 → p (ix2 0 d) = Cert.Proj.proj (X m c) (Ln m c) (W m c) ⟨256 * t.val - 1, by have := lt_N t; omega⟩ (Cert.Proj.mixed d)) :
    k0_pay9 (BitVec.ofNat 32 (grid0.coords t 0).val) (k0_pay3 (iblk m c 0 t) (iblk m c 1 t))
      (View.ld (iblk m c 2 t) (Rect.unit ![0, 1536] ![1024, 1792] inb_S1024x5376_S1024x1792_0_1536)) p (iblk m c 3 t) (ix2 r d)
    = Cert.Proj.shifted (X m c) (Ln m c) (W m c) (Mu m c) (tok t r) d := by
  have hN := lt_N t
  rw [show (grid0.coords t 0).val = (⟨t.val, hN⟩ : Fin 64).val from (idx t).2.2.2.2]
  refine (pay9_apply ⟨t.val, hN⟩ _ _ _ _ r d).trans ?_
  unfold Cert.Proj.shifted Cert.Proj.before
  rw [rows7, read3]
  congr 3
  by_cases hr : r.val = 0
  · rw [if_pos hr]
    by_cases ht : t.val % 8 = 0
    · rw [if_pos (show (⟨t.val, hN⟩ : Fin 64).val % 8 = 0 from ht), if_pos (by show (256 * t.val + r.val) % 2048 = 0; omega)]
    · rw [if_neg (show ¬(⟨t.val, hN⟩ : Fin 64).val % 8 = 0 from ht), if_neg (by show ¬(256 * t.val + r.val) % 2048 = 0; omega), hp ht]
      congr 1
      exact Fin.ext (by show 256 * t.val - 1 = 256 * t.val + r.val - 1; omega)
  · rw [if_neg hr, if_neg (by show ¬(256 * t.val + r.val) % 2048 = 0; omega), rows7]
    congr 1
    exact Fin.ext (by show 256 * t.val + (r.val - 1) = 256 * t.val + r.val - 1; omega)

/-- The shifted mixed part. -/
theorem out7 (r : Fin 256) (d : Fin 1792) : (outsAt0 m c t.val t.isLt).2.2.2.1 (ix2 r d)
    = Cert.Proj.shifted (X m c) (Ln m c) (W m c) (Mu m c) (tok t r) d := by
  by_cases h0 : t.val % 64 = 0
  · rw [outsAt0_A m c t h0]
    dsimp only
    frame_out
    exact shift_of m c t _ r d (fun h => absurd (show t.val % 8 = 0 by omega) h)
  · rw [outsAt0_B m c t h0]
    dsimp only
    frame_out
    refine shift_of m c t _ r d (fun h => Eq.trans ?_ (found m c t h0 d))
    refine (View.ld_unit_apply_of _ _ _ _ _ (ix2 0 d) (fun a => ?_)).trans ?_
    · match a with
      | ⟨0, _⟩ => rfl
      | ⟨1, _⟩ => show d.val = 0 + d.val; omega
    · rw [Idealize.ShloMosaic.read_unread_whole]

/-- The state after a point depends on the point's number alone. -/
theorem same (p q : ℕ) (h : p < cfg0.N) (h' : q < cfg0.N) (e : p = q) : outsAt0 m c p h = outsAt0 m c q h' := by
  subst e
  rfl

/-- The array of the queries at one element. -/
theorem result4 (n : Fin 16384) (d : Fin 512) : Cert.KernelProjIdeal.Value.G4 m c (ix2 n d) = Cert.Proj.proj (X m c) (Ln m c) (W m c) n ⟨d.val, by omega⟩ := by
  have hp : n.val / 256 < cfg0.N := Nat.lt_of_lt_of_eq (by omega) N_0.symm
  have hn : tok ⟨n.val / 256, hp⟩ ⟨n.val % 256, Nat.mod_lt _ (by decide)⟩ = n := Fin.ext (by show 256 * (n.val / 256) + n.val % 256 = n.val; omega)
  refine Eq.trans ?_ ((out4 m c ⟨n.val / 256, hp⟩ ⟨n.val % 256, Nat.mod_lt _ (by decide)⟩ d).trans (by rw [hn]))
  have hq : Cert.KernelProjIdeal.Value.pt4Of (ix2 n d) = n.val / 256 := by
    show 1 * (n.val / 256 - 0) + 1 * (d.val / 512 - 0) = _
    omega
  have hl : Cert.KernelProjIdeal.Value.loc4Of (ix2 n d) = ix2 ⟨n.val % 256, Nat.mod_lt _ (by decide)⟩ d := by
    funext a
    match a with
    | ⟨0, _⟩ => rfl
    | ⟨1, _⟩ => exact Fin.ext (Nat.mod_eq_of_lt d.isLt)
  unfold Cert.KernelProjIdeal.Value.G4
  rw [hl, dif_pos (hq ▸ hp), ← Cert.KernelProjIdeal.Value.outsAt0_sweep m c _ (hq ▸ hp), same m c _ _ (hq ▸ hp) hp hq]

/-- The array of the keys at one element. -/
theorem result5 (n : Fin 16384) (d : Fin 512) : Cert.KernelProjIdeal.Value.G5 m c (ix2 n d) = Cert.Proj.proj (X m c) (Ln m c) (W m c) n ⟨512 + d.val, by omega⟩ := by
  have hp : n.val / 256 < cfg0.N := Nat.lt_of_lt_of_eq (by omega) N_0.symm
  have hn : tok ⟨n.val / 256, hp⟩ ⟨n.val % 256, Nat.mod_lt _ (by decide)⟩ = n := Fin.ext (by show 256 * (n.val / 256) + n.val % 256 = n.val; omega)
  refine Eq.trans ?_ ((out5 m c ⟨n.val / 256, hp⟩ ⟨n.val % 256, Nat.mod_lt _ (by decide)⟩ d).trans (by rw [hn]))
  have hq : Cert.KernelProjIdeal.Value.pt5Of (ix2 n d) = n.val / 256 := by
    show 1 * (n.val / 256 - 0) + 1 * (d.val / 512 - 0) = _
    omega
  have hl : Cert.KernelProjIdeal.Value.loc5Of (ix2 n d) = ix2 ⟨n.val % 256, Nat.mod_lt _ (by decide)⟩ d := by
    funext a
    match a with
    | ⟨0, _⟩ => rfl
    | ⟨1, _⟩ => exact Fin.ext (Nat.mod_eq_of_lt d.isLt)
  unfold Cert.KernelProjIdeal.Value.G5
  rw [hl, dif_pos (hq ▸ hp), ← Cert.KernelProjIdeal.Value.outsAt0_sweep m c _ (hq ▸ hp), same m c _ _ (hq ▸ hp) hp hq]

/-- The array of the values at one element. -/
theorem result6 (n : Fin 16384) (d : Fin 512) : Cert.KernelProjIdeal.Value.G6 m c (ix2 n d) = Cert.Proj.proj (X m c) (Ln m c) (W m c) n ⟨1024 + d.val, by omega⟩ := by
  have hp : n.val / 256 < cfg0.N := Nat.lt_of_lt_of_eq (by omega) N_0.symm
  have hn : tok ⟨n.val / 256, hp⟩ ⟨n.val % 256, Nat.mod_lt _ (by decide)⟩ = n := Fin.ext (by show 256 * (n.val / 256) + n.val % 256 = n.val; omega)
  refine Eq.trans ?_ ((out6 m c ⟨n.val / 256, hp⟩ ⟨n.val % 256, Nat.mod_lt _ (by decide)⟩ d).trans (by rw [hn]))
  have hq : Cert.KernelProjIdeal.Value.pt6Of (ix2 n d) = n.val / 256 := by
    show 1 * (n.val / 256 - 0) + 1 * (d.val / 512 - 0) = _
    omega
  have hl : Cert.KernelProjIdeal.Value.loc6Of (ix2 n d) = ix2 ⟨n.val % 256, Nat.mod_lt _ (by decide)⟩ d := by
    funext a
    match a with
    | ⟨0, _⟩ => rfl
    | ⟨1, _⟩ => exact Fin.ext (Nat.mod_eq_of_lt d.isLt)
  unfold Cert.KernelProjIdeal.Value.G6
  rw [hl, dif_pos (hq ▸ hp), ← Cert.KernelProjIdeal.Value.outsAt0_sweep m c _ (hq ▸ hp), same m c _ _ (hq ▸ hp) hp hq]

/-- The array of the shifted mixed part at one element. -/
theorem result7 (n : Fin 16384) (d : Fin 1792) : Cert.KernelProjIdeal.Value.G7 m c (ix2 n d) = Cert.Proj.shifted (X m c) (Ln m c) (W m c) (Mu m c) n d := by
  have hp : n.val / 256 < cfg0.N := Nat.lt_of_lt_of_eq (by omega) N_0.symm
  have hn : tok ⟨n.val / 256, hp⟩ ⟨n.val % 256, Nat.mod_lt _ (by decide)⟩ = n := Fin.ext (by show 256 * (n.val / 256) + n.val % 256 = n.val; omega)
  refine Eq.trans ?_ ((out7 m c ⟨n.val / 256, hp⟩ ⟨n.val % 256, Nat.mod_lt _ (by decide)⟩ d).trans (by rw [hn]))
  have hq : Cert.KernelProjIdeal.Value.pt7Of (ix2 n d) = n.val / 256 := by
    show 1 * (n.val / 256 - 0) + 1 * (d.val / 1792 - 0) = _
    omega
  have hl : Cert.KernelProjIdeal.Value.loc7Of (ix2 n d) = ix2 ⟨n.val % 256, Nat.mod_lt _ (by decide)⟩ d := by
    funext a
    match a with
    | ⟨0, _⟩ => rfl
    | ⟨1, _⟩ => exact Fin.ext (Nat.mod_eq_of_lt d.isLt)
  unfold Cert.KernelProjIdeal.Value.G7
  rw [hl, dif_pos (hq ▸ hp), ← Cert.KernelProjIdeal.Value.outsAt0_sweep m c _ (hq ▸ hp), same m c _ _ (hq ▸ hp) hp hq]

/-- The array of the gates at one element. -/
theorem result8 (n : Fin 16384) (d : Fin 2048) : Cert.KernelProjIdeal.Value.G8 m c (ix2 n d) = Cert.Proj.gate (X m c) (Ln m c) (W m c) n d := by
  have hp : n.val / 256 < cfg0.N := Nat.lt_of_lt_of_eq (by omega) N_0.symm
  have hn : tok ⟨n.val / 256, hp⟩ ⟨n.val % 256, Nat.mod_lt _ (by decide)⟩ = n := Fin.ext (by show 256 * (n.val / 256) + n.val % 256 = n.val; omega)
  refine Eq.trans ?_ ((out8 m c ⟨n.val / 256, hp⟩ ⟨n.val % 256, Nat.mod_lt _ (by decide)⟩ d).trans (by rw [hn]))
  have hq : Cert.KernelProjIdeal.Value.pt8Of (ix2 n d) = n.val / 256 := by
    show 1 * (n.val / 256 - 0) + 1 * (d.val / 2048 - 0) = _
    omega
  have hl : Cert.KernelProjIdeal.Value.loc8Of (ix2 n d) = ix2 ⟨n.val % 256, Nat.mod_lt _ (by decide)⟩ d := by
    funext a
    match a with
    | ⟨0, _⟩ => rfl
    | ⟨1, _⟩ => exact Fin.ext (Nat.mod_eq_of_lt d.isLt)
  unfold Cert.KernelProjIdeal.Value.G8
  rw [hl, dif_pos (hq ▸ hp), ← Cert.KernelProjIdeal.Value.outsAt0_sweep m c _ (hq ▸ hp), same m c _ _ (hq ▸ hp) hp hq]

end Cert.KernelProjIdeal.Body

end
-- ==== Proof.BiasRef.lean ====
/-
  The relative bias: the reference looks the table up for the whole band. The kernel's launch multiplies the table by a
  one-hot matrix for the band's last 128 positions, and the host sets the table's last column before them.
-/
module

public import proofs.«01_k».proof.Proof.Gen.ReferenceBiasIdeal.Read
public import proofs.«01_k».proof.Proof.Gen.KernelBiasIdeal.Frame
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

namespace Cert.Bias

open Idealize.ShloMosaic

/-- The table's column for row `r` and position `k` of the band: the distance, clipped. -/
def col (r k : Nat) : Nat := min (576 + r - k) 128

/-- The reference's integer arithmetic, at row `r` and position `k`, gives the column of the table. -/
theorem word_ref : ∀ (r : Fin 64) (k : Fin 576),
    Scalar.select
      (IntOp.cmpi CmpIPredicate.slt
        (IntOp.addi (IntOp.minsi 64#32 (IntOp.maxsi 4294967232#32
          (IntOp.subi (IntOp.addi (512#32) (BitVec.ofNat 32 r.val)) (BitVec.ofNat 32 k.val)))) 64#32) 0#32)
      (IntOp.addi (IntOp.addi (IntOp.minsi 64#32 (IntOp.maxsi 4294967232#32
          (IntOp.subi (IntOp.addi (512#32) (BitVec.ofNat 32 r.val)) (BitVec.ofNat 32 k.val)))) 64#32) 129#32)
      (IntOp.addi (IntOp.minsi 64#32 (IntOp.maxsi 4294967232#32
          (IntOp.subi (IntOp.addi (512#32) (BitVec.ofNat 32 r.val)) (BitVec.ofNat 32 k.val)))) 64#32) = BitVec.ofNat 32 (col r.val k.val) := by
  decide +kernel

/-- The index the reference gathers at, for row `r` and position `k`. -/
theorem index_ref (r : Fin 64) (k : Fin 576) : Cert.ReferenceBiasIdeal.Read.val_main_v17 (F := Ideal) (ix3 r k 0) = BitVec.ofNat 32 (col r.val k.val) := by
  open Cert.ReferenceBiasIdeal.Read in
  pointwise [val_main_v17, val_main_v16, val_main_v15, val_main_v14, val_main_c_4, val_main_v13, val_main_v12, val_main_c_3, val_main_v11, val_main_v10, val_main_c_2, val_main_v9, val_main_call0_v4,
    val_main_call0_v3, val_main_call0_v2, val_main_call0_v1, val_main_call0_v0, val_main_c_0, val_main_c_1, val_main_v8, val_main_v7, val_main_v6, val_main_v5, val_main_v4, val_main_v3, val_main_c,
    val_main_v2, val_main_v1, val_main_v0]
  exact word_ref r k

/-- The reference's lookup: element `(h, r, kk)` is the table's at the column its start index names. -/
theorem gather_apply (x : FVec Ideal Cert.ReferenceBiasIdeal.S8x129 .f32) (idx : IVec Cert.ReferenceBiasIdeal.S64x576x1 32) (h : Fin 8) (r : Fin 64) (kk : Fin 576) (g : Fin 129)
    (hg : min (idx (ix3 r kk 0)).toInt.toNat 128 = g.val) :
    Host.gather Cert.ReferenceBiasIdeal.gather_S8x129_S64x576x1_S8x64x576_0_1_n_n_1_2_81 x idx (ix3 h r kk) = x (ix2 h g) := by
  unfold Host.gather
  congr 1
  funext a
  refine Fin.ext ?_
  show GatherDims.start _ (ix3 h r kk) idx a + GatherDims.batchCoord _ (ix3 h r kk) a + GatherDims.offCoord _ (ix3 h r kk) a = _
  rw [GatherDims.batchCoord_eq_zero _ _ _ List.not_mem_nil]
  match a with
  | ⟨0, _⟩ =>
    have hn : ¬(⟨0, by decide⟩ : Fin Cert.ReferenceBiasIdeal.S8x129.rank) ∈ GatherDims.startIndexMap Cert.ReferenceBiasIdeal.gather_S8x129_S64x576x1_S8x64x576_0_1_n_n_1_2_81 :=
      fun hm => absurd (Fin.ext_iff.mp (List.mem_singleton.mp hm)) (by decide : ¬ (0 : Nat) = 1)
    have hk : (⟨0, by decide⟩ : Fin Cert.ReferenceBiasIdeal.S8x129.rank) ∈ GatherDims.sKept Cert.ReferenceBiasIdeal.gather_S8x129_S64x576x1_S8x64x576_0_1_n_n_1_2_81 :=
      (GatherDims.mem_sKept _ _).mpr ⟨fun hm => absurd (Fin.ext_iff.mp (List.mem_singleton.mp hm)) (by decide : ¬ (0 : Nat) = 1), List.not_mem_nil⟩
    unfold GatherDims.start GatherDims.offCoord
    rw [dif_pos hk]
    refine (congrArg (fun z => z + 0 + _) (dif_neg hn)).trans ?_
    show 0 + 0 + h.val = h.val
    omega
  | ⟨1, _⟩ =>
    rw [GatherDims.offCoord_eq_zero _ _ _ (fun h => ((GatherDims.mem_sKept _ _).mp h).1 (List.mem_singleton.mpr rfl))]
    have hm : (1 : Fin Cert.ReferenceBiasIdeal.S8x129.rank) ∈ GatherDims.startIndexMap Cert.ReferenceBiasIdeal.gather_S8x129_S64x576x1_S8x64x576_0_1_n_n_1_2_81 :=
      List.mem_singleton.mpr rfl
    unfold GatherDims.start
    refine (congrArg (fun z => z + 0 + 0) (dif_pos hm)).trans ?_
    refine Eq.trans ?_ hg
    refine congrArg (fun z => min (idx z).toInt.toNat 128) ?_
    funext b
    refine Fin.ext ?_
    match b with
    | ⟨0, _⟩ => rfl
    | ⟨1, _⟩ => rfl
    | ⟨2, _⟩ => rfl

/-- The column lies in the table. -/
theorem col_lt (r k : Nat) : col r k < 129 := Nat.lt_succ_of_le (Nat.min_le_right _ _)

/-- A column of the table is its own clamp. -/
theorem clamped : ∀ j : Fin 129, min (BitVec.ofNat 32 j.val).toInt.toNat 128 = j.val := by decide +kernel

/-- The reference's bias. -/
theorem whole (x : FVec Ideal ⟨2, ![8, 129]⟩ .f32) (h : Fin 8) (r : Fin 64) (k : Fin 576) :
    Cert.ReferenceBiasIdeal.Read.val_main_v18 (F := Ideal) x (ix3 h r k) = x (ix2 h ⟨col r.val k.val, col_lt _ _⟩) := by
  unfold Cert.ReferenceBiasIdeal.Read.val_main_v18
  refine gather_apply x _ h _ _ _ ?_
  rw [index_ref]
  exact clamped ⟨col r.val k.val, col_lt _ _⟩

/-- The kernel's integer arithmetic, at column `n` of the launch, gives the column of the table. -/
theorem word_kernel : ∀ n : Fin 8192, IntOp.addi
    (IntOp.minsi (64#32) (IntOp.maxsi (4294967232#32)
      (IntOp.subi (IntOp.addi (64#32) (IntOp.shrsi ArithUnit.vector (BitVec.ofNat 32 n.val) 7#32)) (IntOp.andi (BitVec.ofNat 32 n.val) 127#32)))) 64#32
    = BitVec.ofNat 32 (col (n.val / 128) (448 + n.val % 128)) := by decide +kernel

/-- Two small numbers' words are equal when the numbers are. -/
theorem cmp_words (a b : Nat) (ha : a < 4096) (hb : b < 4096) :
    IntOp.cmpi CmpIPredicate.eq (BitVec.ofNat 32 a) (BitVec.ofNat 32 b) = if a = b then 1#1 else 0#1 := by
  have e : IntOp.cmpi CmpIPredicate.eq (BitVec.ofNat 32 a) (BitVec.ofNat 32 b) = BitVec.ofBool (BitVec.ofNat 32 a == BitVec.ofNat 32 b) := rfl
  rw [e]
  by_cases h : a = b
  · subst h
    rw [if_pos rfl, beq_self_eq_true]
    rfl
  · rw [if_neg h, beq_eq_false_iff_ne.mpr (fun hw => h ?_)]
    · rfl
    · have := congrArg BitVec.toNat hw
      rw [BitVec.toNat_ofNat, BitVec.toNat_ofNat, Nat.mod_eq_of_lt (by omega), Nat.mod_eq_of_lt (by omega)] at this
      exact this

/-- The launch's product with the one-hot matrix is the column it names. -/
theorem pay1_apply (x : Vec Ideal Cert.KernelBiasIdeal.S8x136 .f32) (h : Fin 8) (n : Fin 8192) :
    Cert.KernelBiasIdeal.Gen.k0_pay1 x (ix2 h n) = x (ix2 h ⟨col (n.val / 128) (448 + n.val % 128), Nat.lt_of_lt_of_le (col_lt _ _) (by decide)⟩) := by
  have hc := col_lt (n.val / 128) (448 + n.val % 128)
  open Cert.KernelBiasIdeal.Gen in
  pointwise [k0_pay1]
  rw [word_kernel, Finset.sum_eq_single (⟨col (n.val / 128) (448 + n.val % 128), by omega⟩ : Fin 136)]
  · rw [cmp_words _ _ (by show col (n.val / 128) (448 + n.val % 128) < 4096; omega) (by omega), if_pos rfl]
    rfl
  · intro j _ hj
    rw [cmp_words _ _ (by omega) (by omega), if_neg (fun e => hj (Fin.ext e))]
    rfl
  · exact fun hn => absurd (Finset.mem_univ _) hn

variable (m : (ℓ : Loc Cert.KernelBiasIdeal.nD Cert.KernelBiasIdeal.τ Cert.KernelBiasIdeal.sig) → Buf (Elt Ideal) ℓ) (c : Dev Cert.KernelBiasIdeal.nD)

open Cert.KernelBiasIdeal Cert.KernelBiasIdeal.Gen TcCoe

/-- Both windows sit at the origin of their arrays. -/
theorem idx : ∀ t : Fin cfg0.N, win0_0.index t = ![0, 0] ∧ win0_1.index t = ![0, 0] := (by decide +kernel : ∀ t : Fin grid0.N, _)

/-- The table, at its literal shape. -/
abbrev T : FVec Ideal ⟨2, ![8, 129]⟩ .f32 := m ((c : Thread nD τ).loc main_arg0)

/-- The launch's one point. -/
abbrev t0 : Fin cfg0.N := ⟨0, Nat.lt_of_lt_of_eq (by decide) N_0.symm⟩

/-- When the loop starts, the padded table is the argument with seven columns of zero after its last. -/
theorem entry : (V m c main_v0 : FVec Ideal S8x136 .f32) = pad S8x136 ![0, 0] ![0, 7] ![0, 0] (T m c) (sitofp (F := Ideal) .f32 (constantI S_ 32 0#32)) pads_S8x129_S8x136_000_070 h_S_ := by
  rfl

/-- The block the launch reads: the table, and zero in the seven columns after it. -/
theorem read0 (t : Fin cfg0.N) (h : Fin 8) (j : Fin 136) : (iblk m c 0 t : FVec Ideal S8x136 .f32) (ix2 h j)
    = if hj : j.val < 129 then T m c (ix2 h ⟨j.val, hj⟩) else 0 := by
  have e : (iblk m c 0 t : FVec Ideal S8x136 .f32) (ix2 h j) = (V m c main_v0 : FVec Ideal S8x136 .f32) (ix2 h j) := by
    blk_ext [iblk, idx t]
  have z : (FloatOps.sitofp (F := Ideal) FTy.f32 0#32 : Ideal .f32) = 0 := by
    show ((((0#32 : BitVec 32).toInt : ℝ)) : EReal) = 0
    simp
  rw [e, entry]
  pointwise
  rw [z]

/-- A launch that stores one whole block leaves that block. -/
theorem cover (p : Vec Ideal S8x8192 .f32) (h : Fin 8) (n : Fin 8192) :
    (View.canon [(⟨r0_1, p⟩ : View.Piece (Elt Ideal) S8x8192 .f32)]) (ix2 h n) = p (ix2 h n) := by
  have e : (ix2 h n : S8x8192.Idx) = r0_1.emb (ix2 h n) := by
    funext a
    refine Fin.ext ?_
    match a with
    | ⟨0, _⟩ => show h.val = 0 + 1 * h.val; omega
    | ⟨1, _⟩ => show n.val = 0 + 1 * n.val; omega
  refine (congrArg (View.canon _) e).trans ?_
  exact View.canon_cons_emb _ _ _ _

/-- Loading the whole block gives the block. -/
theorem ld0 (x : Vec Ideal S8x136 .f32) : View.ld x r0_0 = x := by
  funext i
  refine congrArg x (funext fun a => Fin.ext ?_)
  match a with
  | ⟨0, _⟩ => show 0 + 1 * (i 0).val = (i 0).val; omega
  | ⟨1, _⟩ => show 0 + 1 * (i 1).val = (i 1).val; omega

/-- The one block of the launch's array is what its one point stores. -/
theorem block : ((cfg0.win 1).blk t0).view.read (Elt Ideal) ((dats m 0 c).arrAt 1 cfg0.N)
    = (cfg0.win 1).cut (grid0.coords t0) (out0_1 (iblk m c 0 t0)) := by
  have one : ∀ t t' : Fin cfg0.N, t = t' := (by decide +kernel : ∀ t t' : Fin grid0.N, t = t')
  refine ((dats m 0 c).read_blk_arrAt_eq_flushed 1 (fun t t' _ _ hne => absurd (one t t') hne) cfg0.N t0 t0.isLt (by decide)).trans ?_
  exact congrArg ((cfg0.win 1).cut (grid0.coords t0)) (after0_1 m c t0)

/-- The launch's array at one element. -/
theorem stored (h : Fin 8) (n : Fin 8192) : (dats m 0 c).arrAt 1 cfg0.N (ix2 h n) = k0_pay1 (iblk m c 0 t0 : Vec Ideal S8x136 .f32) (ix2 h n) := by
  have hx := congrFun (block m c) (ix2 h n)
  refine Eq.trans ?_ (hx.trans ?_)
  · refine congrArg ((dats m 0 c).arrAt 1 cfg0.N) ?_
    funext a
    refine Fin.ext ?_
    match a with
    | ⟨0, _⟩ =>
      show h.val = win0_1.index t0 (0 : Fin 2) * 8 + 1 * h.val
      rw [(idx t0).2]
      show h.val = 0 * 8 + 1 * h.val
      omega
    | ⟨1, _⟩ =>
      show n.val = win0_1.index t0 (1 : Fin 2) * 8192 + 1 * n.val
      rw [(idx t0).2]
      show n.val = 0 * 8192 + 1 * n.val
      omega
  · unfold out0_1
    rw [ld0]
    exact cover _ h n

/-- The launch's array is the table's lookup. -/
theorem result (h : Fin 8) (n : Fin 8192) : (dats m 0 c).arrAt 1 cfg0.N (ix2 h n) = T m c (ix2 h ⟨col (n.val / 128) (448 + n.val % 128), col_lt _ _⟩) := by
  rw [stored, pay1_apply, read0, dif_pos (col_lt _ _)]

end Cert.Bias

end
-- ==== Proof.BiasTail.lean ====
/-
  The relative bias after the kernel's host lines: the table's last column, then the launch's array.
-/
module

public import proofs.«01_k».proof.Proof.BiasRef

@[expose] public section

set_option maxRecDepth 16384

noncomputable section

namespace Cert.Bias

open Idealize.ShloMosaic

variable (m : (ℓ : Loc Cert.KernelBiasIdeal.nD Cert.KernelBiasIdeal.τ Cert.KernelBiasIdeal.sig) → Buf (Elt Ideal) ℓ) (c : Dev Cert.KernelBiasIdeal.nD)

open Cert.KernelBiasIdeal Cert.KernelBiasIdeal.Gen TcCoe

/-- The host's lines after the launch, of the table and the launch's array: the table's last column before the band's last
    128 positions, and the launch's array there. -/
def joined (x : FVec Ideal S8x129 .f32) (y : FVec Ideal S8x8192 .f32) : FVec Ideal S8x64x576 .f32 :=
  concatenate S8x64x576 2 [⟨S8x64x448, broadcastInDim S8x64x448 ![0, 1, 2] bcast_S8x1x1_S8x64x448_0_1_2
      (broadcastInDim S8x1x1 ![0] bcast_S8_S8x1x1_0 (shapeCast S8 (extractStridedSlice S8x1 ![0, 128] x slices_S8x129_S8x1_0_128) shapeCasts_S8x1_S8))⟩,
    ⟨S8x64x128, shapeCast S8x64x128 y shapeCasts_S8x8192_S8x64x128⟩] concatenates_S8x64x448_S8x64x128_S8x64x576_d2

/-- After the run the bias is the host's lines' term. -/
theorem tail : Pipeline.afterTail₀ cfgs (dats m) 0 (V0 m) [hostOps1] c main_v7 = joined (T m c) ((dats m 0 c).arrAt 1 cfg0.N) := by
  have e0 : Pipeline.withArrays (cfgs 0).spec c (V0 m c) (fun w => (dats m 0 c).arrAt w (cfgs 0).N) (Proc.devRef .tc main_arg0) = T m c :=
    (Pipeline.withArrays_of_ne _ c (V0 m c) _ main_arg0 (by exact (by decide : ∀ w, Pipeline.arrRef spec0 w ≠ main_arg0))).trans (V_main_arg0 m c)
  have e1 : Pipeline.withArrays (cfgs 0).spec c (V0 m c) (fun w => (dats m 0 c).arrAt w (cfgs 0).N) (Proc.devRef .tc main_v1) = (dats m 0 c).arrAt 1 cfg0.N :=
    Pipeline.withArrays_arr spec0 (by decide : Function.Injective (Pipeline.arrRef spec0)) c (V0 m c) (fun w => (dats m 0 c).arrAt w cfg0.N) 1
  refine Eq.trans ?_ (congrArg₂ joined e0 e1)
  unfold Pipeline.afterTail₀ joined
  simp only [hostOps1, List.flatten_cons, List.flatten_nil, List.append_nil]
  after_results
  rfl

/-- The joined array at one element, from the launch's. -/
theorem joined_apply (x : FVec Ideal S8x129 .f32) (y : FVec Ideal S8x8192 .f32)
    (hy : ∀ (h : Fin 8) (n : Fin 8192), y (ix2 h n) = x (ix2 h ⟨col (n.val / 128) (448 + n.val % 128), col_lt _ _⟩))
    (h : Fin 8) (r : Fin 64) (k : Fin 576) : joined x y (ix3 h r k) = x (ix2 h ⟨col r.val k.val, col_lt _ _⟩) := by
  pointwise [joined]
  by_cases hk : k.val < 448
  · rw [dif_pos hk]
    refine congrArg (fun j => x (ix2 h j)) (Fin.ext ?_)
    show 128 = min (576 + r.val - k.val) 128
    omega
  · rw [dif_neg hk, hy]
    refine congrArg (fun j => x (ix2 h j)) (Fin.ext ?_)
    have hr := r.isLt
    have hk' := k.isLt
    have e : (r.val * 128 + (k.val - 448)) / 128 = r.val := by omega
    have e' : (r.val * 128 + (k.val - 448)) % 128 = k.val - 448 := by omega
    show min (576 + (r.val * 128 + (k.val - 448)) / 128 - (448 + (r.val * 128 + (k.val - 448)) % 128)) 128 = min (576 + r.val - k.val) 128
    rw [e, e']
    omega

open Idealize.SL.Sem in
/-- The run, with the bias named: the host's lines' term of the table and the launch's array. -/
theorem run (ρ : Dev nD → PrngReg) : θ_run defs (onTc (τ := τ) (main (F := Ideal))) ⟨m, fun _ => 0, ρ⟩ fun r => ∀ c : Dev nD,
    r.2.mem ((c.tc : Thread nD τ).loc main_v7) = joined (T m c) ((dats m 0 c).arrAt 1 cfg0.N)
    ∧ r.2.mem ((c.tc : Thread nD τ).loc main_arg0) = m ((c.tc : Thread nD τ).loc main_arg0) :=
  (θ_run defs _ _).mono (fun _ h c =>
    ⟨((h c).2 main_v7 (Pipeline.mem_restRefs_of main_v7 (by decide) (by decide))).trans (tail m c),
      ((h c).2 main_arg0 (Pipeline.mem_restRefs_of main_arg0 (by decide) (by decide))).trans (W_main_arg0 m (dats m) c)⟩) (run_main m ρ)

/-- The bias at one element. -/
theorem bias (h : Fin 8) (r : Fin 64) (k : Fin 576) :
    joined (T m c) ((dats m 0 c).arrAt 1 cfg0.N) (ix3 h r k) = T m c (ix2 h ⟨col r.val k.val, col_lt _ _⟩) :=
  joined_apply _ _ (result m c) h r k

end Cert.Bias

end
-- ==== Proof.AttnMath.lean ====
/-
  The mathematics of the banded attention: a chunk of 64 queries attends to the 576 rows ending with it, rows before the
  sequence being masked. Over real queries, keys and biases the scores are real, the normaliser is a positive real, and
  dividing the weighted sum of the values by it is weighting the values by the divided weights.
-/
module

public import Idealize.ShloMosaic.Lib.Pointwise

@[expose] public section

noncomputable section

namespace Cert.Attn

open Idealize.ShloMosaic

/-- Row `r` of a sequence with eight chunks of zero rows put before it. -/
def padded (x : FVec Ideal ⟨3, ![8, 2048, 512]⟩ .bf16) (b : Fin 8) (r : Nat) (w : Fin 512) : EReal :=
  if h : 512 ≤ r ∧ r < 2560 then x (ix3 b ⟨r - 512, by omega⟩ w) else 0

/-- The lane of head `h` that holds its channel `e`. -/
abbrev lane (h : Fin 8) (e : Fin 64) : Fin 512 := ⟨64 * h.val + e.val, by omega⟩

/-- The row of query `i` of chunk `c`. -/
abbrev row (c : Fin 32) (i : Fin 64) : Fin 2048 := ⟨64 * c.val + i.val, by omega⟩

variable (q k v : FVec Ideal ⟨3, ![8, 2048, 512]⟩ .bf16) (bias : FVec Ideal ⟨3, ![8, 64, 576]⟩ .f32)

/-- The score of row `kk` of the window of chunk `c` for query `i`: the scaled product plus the bias, and the lowest float
    for a row before the sequence. -/
def score (b : Fin 8) (c : Fin 32) (h : Fin 8) (i : Fin 64) (kk : Fin 576) : EReal :=
  if 8 ≤ c.val + kk.val / 64 then
    (∑ e : Fin 64, q (ix3 b (row c i) (lane h e)) * Ideal.ofBits .f32 0x3E000000#32 * padded k b (64 * c.val + kk.val) (lane h e))
      + bias (ix3 h i kk)
  else Ideal.ofBits .f32 0xFF7FFFFF#32

/-- A value that is a real number. -/
def IsReal (x : EReal) : Prop := ∃ r : ℝ, x = r

theorem IsReal.zero : IsReal 0 := ⟨0, rfl⟩

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.sum {ι : Type} (s : Finset ι) (f : ι → EReal) (h : ∀ i, IsReal (f i)) : IsReal (∑ i ∈ s, f i) := by
  classical
  induction s using Finset.induction with
  | empty => rw [Finset.sum_empty]; exact IsReal.zero
  | insert a s ha ih => rw [Finset.sum_insert ha]; exact (h a).add ih

theorem IsReal.of_ne {x : EReal} (h1 : x ≠ ⊤) (h2 : x ≠ ⊥) : IsReal x := ⟨x.toReal, (EReal.coe_toReal h1 h2).symm⟩

theorem IsReal.lt_top {x : EReal} : IsReal x → x < ⊤ := by
  rintro ⟨a, rfl⟩
  exact EReal.coe_lt_top a

theorem IsReal.bot_lt {x : EReal} : IsReal x → ⊥ < x := by
  rintro ⟨a, rfl⟩
  exact EReal.bot_lt_coe a

/-- A nonnegative real comes out of a sum of any values. -/
theorem sum_mul {ι : Type} (s : Finset ι) (f : ι → EReal) (c : ℝ) (hc : 0 ≤ c) : (∑ i ∈ s, f i) * (c : EReal) = ∑ i ∈ s, f i * (c : EReal) := by
  classical
  induction s using Finset.induction with
  | empty => rw [Finset.sum_empty, Finset.sum_empty, zero_mul]
  | insert a s ha ih =>
    rw [Finset.sum_insert ha, Finset.sum_insert ha, ← ih]
    exact EReal.right_distrib_of_nonneg_of_ne_top (EReal.coe_nonneg.mpr hc) (EReal.coe_ne_top c) _ _

/-- A sum of reals, as one real. -/
theorem coe_sum {ι : Type} (s : Finset ι) (f : ι → ℝ) : ((∑ i ∈ s, f i : ℝ) : EReal) = ∑ i ∈ s, (f i : EReal) := by
  classical
  induction s using Finset.induction with
  | empty => rw [Finset.sum_empty, Finset.sum_empty, EReal.coe_zero]
  | insert a s ha ih => rw [Finset.sum_insert ha, Finset.sum_insert ha, EReal.coe_add, ih]

/-- The word of one eighth. -/
theorem eighth : Ideal.ofBits .f32 0x3E000000#32 = (((1 : ℝ) / 8 : ℝ) : EReal) := by
  simp [Ideal.ofBits, Ideal.ieee]
  rw [← EReal.coe_mul]
  norm_num

/-- The word of the lowest float is a real's. -/
theorem lowest : IsReal (Ideal.ofBits .f32 0xFF7FFFFF#32) := by
  simp only [Ideal.ofBits, Ideal.ieee]
  rw [if_neg (by decide), if_neg (by decide)]
  exact ⟨_, rfl⟩

/-- The word of −∞. -/
theorem floor : Ideal.ofBits .f32 0xFF800000#32 = ⊥ := by
  simp [Ideal.ofBits, Ideal.ieee]

/-- The largest of a row of scores, from the floor up. -/
def top (s : Fin 576 → EReal) : EReal := Finset.fold max (Ideal.ofBits .f32 0xFF800000#32) s Finset.univ

theorem top_real (s : Fin 576 → EReal) (h : ∀ k, IsReal (s k)) : IsReal (top s) := by
  unfold top
  rw [floor]
  refine IsReal.of_ne (ne_of_lt ?_) (ne_of_gt ?_)
  · exact (Finset.fold_max_lt _).mpr ⟨bot_lt_top, fun k _ => (h k).lt_top⟩
  · exact (Finset.lt_fold_max _).mpr (Or.inr ⟨0, Finset.mem_univ _, (h 0).bot_lt⟩)

/-- Each exponential is a positive real. -/
theorem expo_real {x y : EReal} : IsReal x → IsReal y → ∃ r : ℝ, 0 < r ∧ Ideal.exp (x - y) = r := by
  rintro ⟨a, rfl⟩ ⟨b, rfl⟩
  refine ⟨Real.exp (a - b), Real.exp_pos _, ?_⟩
  rw [← EReal.coe_sub]
  rfl

/-- The weighted mean of `v` under the exponentials of the scores: the weighted sum divided by the sum of the weights. -/
def mean (s v : Fin 576 → EReal) : EReal :=
  Ideal.div (∑ kk, Ideal.exp (s kk - top s) * v kk) (∑ kk, Ideal.exp (s kk - top s))

/-- For real scores it is the sum of the values times the divided weights. -/
theorem mean_eq (s v : Fin 576 → EReal) (h : ∀ k, IsReal (s k)) :
    mean s v = ∑ kk, v kk * Ideal.div (Ideal.exp (s kk - top s)) (∑ x, Ideal.exp (s x - top s)) := by
  choose p hp hpe using fun k => expo_real (h k) (top_real s h)
  have hl : (∑ x, Ideal.exp (s x - top s)) = ((∑ x, p x : ℝ) : EReal) := by
    rw [coe_sum]
    exact Finset.sum_congr rfl fun x _ => hpe x
  have hpos : 0 < ∑ x, p x := Finset.sum_pos (fun x _ => hp x) ⟨0, Finset.mem_univ _⟩
  have hne : ((∑ x, p x : ℝ) : EReal) ≠ 0 := by
    rw [← EReal.coe_zero]
    exact fun e => hpos.ne' (EReal.coe_eq_coe_iff.mp e)
  unfold mean
  rw [hl]
  unfold Ideal.div
  rw [if_neg hne, ← EReal.coe_inv, sum_mul _ _ _ (inv_nonneg.mpr hpos.le)]
  refine Finset.sum_congr rfl fun x _ => ?_
  rw [if_neg hne, mul_comm (Ideal.exp _) (v x), mul_assoc]

theorem padded_real (x : FVec Ideal ⟨3, ![8, 2048, 512]⟩ .bf16) (h : ∀ i, IsReal (x i)) (b : Fin 8) (r : Nat) (w : Fin 512) : IsReal (padded x b r w) := by
  unfold padded
  split
  · exact h _
  · exact IsReal.zero

/-- Real queries, keys and biases give real scores. -/
theorem score_real (hq : ∀ i, IsReal (q i)) (hk : ∀ i, IsReal (k i)) (hb : ∀ i, IsReal (bias i)) (b : Fin 8) (c : Fin 32) (h : Fin 8)
    (i : Fin 64) (kk : Fin 576) : IsReal (score q k bias b c h i kk) := by
  unfold score
  split
  · refine IsReal.add (IsReal.sum _ _ fun e => ?_) (hb _)
    exact ((hq _).mul ⟨_, eighth⟩).mul (padded_real k hk _ _ _)
  · exact lowest

/-- The scale may be taken before the sum or after it. -/
theorem score_scaled (b : Fin 8) (c : Fin 32) (h : Fin 8) (i : Fin 64) (kk : Fin 576) : score q k bias b c h i kk
    = if 8 ≤ c.val + kk.val / 64 then
        (∑ e : Fin 64, q (ix3 b (row c i) (lane h e)) * padded k b (64 * c.val + kk.val) (lane h e)) * Ideal.ofBits .f32 0x3E000000#32
          + bias (ix3 h i kk)
      else Ideal.ofBits .f32 0xFF7FFFFF#32 := by
  unfold score
  congr 2
  rw [eighth, sum_mul _ _ _ (by norm_num)]
  exact Finset.sum_congr rfl fun e _ => mul_right_comm _ _ _

end Cert.Attn

end
-- ==== Proof.AttnRef.lean ====
/-
  The plain reference of the banded attention, read at one element.
-/
module

public import proofs.«01_k».proof.Proof.Gen.ReferenceAttnIdeal.Read
public import proofs.«01_k».proof.Proof.AttnMath
public import Idealize.ShloMosaic.Lib.ValueIdxRank6

@[expose] public section

set_option maxRecDepth 16384

noncomputable section

namespace Cert.ReferenceAttnIdeal.Whole

open Idealize.ShloMosaic
open Cert.ReferenceAttnIdeal Cert.ReferenceAttnIdeal.Gen Cert.ReferenceAttnIdeal.Read

variable (q k v : FVec Ideal S8x2048x512 .bf16) (bias : FVec Ideal S8x64x576 .f32)

/-- The gathered windows: element `(b, c, w, j, h, e)` is the operand's at the chunk its start index names. -/
theorem gather_apply (x : FVec Ideal S8x40x64x8x64 .f32) (idx : IVec S32x9x1 32) (b : Fin 8) (c : Fin 32) (w : Fin 9) (j : Fin 64)
    (h : Fin 8) (e : Fin 64) (g : Fin 40) (hg : min (idx (ix3 c w 0)).toInt.toNat 39 = g.val) :
    Host.gather gather_S8x40x64x8x64_S32x9x1_S8x32x9x64x8x64_0345_1_n_n_1_2_8164864 x idx (ix6 b c w j h e) = x (ix5 b g j h e) := by
  unfold Host.gather
  congr 1
  funext a
  refine Fin.ext ?_
  show GatherDims.start _ (ix6 b c w j h e) idx a + GatherDims.batchCoord _ (ix6 b c w j h e) a + GatherDims.offCoord _ (ix6 b c w j h e) a = _
  rw [GatherDims.batchCoord_eq_zero _ _ _ List.not_mem_nil]
  have keep : ∀ (a : Fin 5) (ha : a ≠ 1), GatherDims.start gather_S8x40x64x8x64_S32x9x1_S8x32x9x64x8x64_0345_1_n_n_1_2_8164864 (ix6 b c w j h e) idx a = 0 := by
    intro a ha
    unfold GatherDims.start
    exact dif_neg (fun hm => ha (List.mem_singleton.mp hm))
  have mem : ∀ (a : Fin 5), a ≠ 1 → a ∈ GatherDims.sKept gather_S8x40x64x8x64_S32x9x1_S8x32x9x64x8x64_0345_1_n_n_1_2_8164864 :=
    fun a ha => (GatherDims.mem_sKept _ _).mpr ⟨fun hm => ha (List.mem_singleton.mp hm), List.not_mem_nil⟩
  match a with
  | ⟨0, _⟩ =>
    rw [keep ⟨0, _⟩ (fun h => absurd (Fin.ext_iff.mp h) (by decide : ¬ (0 : Nat) = 1))]
    unfold GatherDims.offCoord
    rw [dif_pos (mem ⟨0, _⟩ (fun h => absurd (Fin.ext_iff.mp h) (by decide : ¬ (0 : Nat) = 1)))]
    show 0 + 0 + b.val = b.val
    omega
  | ⟨1, _⟩ =>
    rw [GatherDims.offCoord_eq_zero _ _ _ (fun h => ((GatherDims.mem_sKept _ _).mp h).1 (List.mem_singleton.mpr rfl))]
    have hm : (1 : Fin S8x40x64x8x64.rank) ∈ GatherDims.startIndexMap gather_S8x40x64x8x64_S32x9x1_S8x32x9x64x8x64_0345_1_n_n_1_2_8164864 :=
      List.mem_singleton.mpr rfl
    unfold GatherDims.start
    refine (congrArg (fun z => z + 0 + 0) (dif_pos hm)).trans ?_
    refine Eq.trans ?_ hg
    refine congrArg (fun z => min (idx z).toInt.toNat 39) ?_
    funext b
    refine Fin.ext ?_
    match b with
    | ⟨0, _⟩ => rfl
    | ⟨1, _⟩ => rfl
    | ⟨2, _⟩ => rfl
  | ⟨2, _⟩ =>
    rw [keep ⟨2, _⟩ (fun h => absurd (Fin.ext_iff.mp h) (by decide : ¬ (2 : Nat) = 1))]
    unfold GatherDims.offCoord
    rw [dif_pos (mem ⟨2, _⟩ (fun h => absurd (Fin.ext_iff.mp h) (by decide : ¬ (2 : Nat) = 1)))]
    show 0 + 0 + j.val = j.val
    omega
  | ⟨3, _⟩ =>
    rw [keep ⟨3, _⟩ (fun h => absurd (Fin.ext_iff.mp h) (by decide : ¬ (3 : Nat) = 1))]
    unfold GatherDims.offCoord
    rw [dif_pos (mem ⟨3, _⟩ (fun h => absurd (Fin.ext_iff.mp h) (by decide : ¬ (3 : Nat) = 1)))]
    show 0 + 0 + h.val = h.val
    omega
  | ⟨4, _⟩ =>
    rw [keep ⟨4, _⟩ (fun h => absurd (Fin.ext_iff.mp h) (by decide : ¬ (4 : Nat) = 1))]
    unfold GatherDims.offCoord
    rw [dif_pos (mem ⟨4, _⟩ (fun h => absurd (Fin.ext_iff.mp h) (by decide : ¬ (4 : Nat) = 1)))]
    show 0 + 0 + e.val = e.val
    omega

theorem wrapped : ∀ (c : Fin 32) (w : Fin 9),
    Scalar.select (IntOp.cmpi CmpIPredicate.slt (IntOp.addi (BitVec.ofNat 32 c.val) (BitVec.ofNat 32 w.val)) 0#32)
      (IntOp.addi (IntOp.addi (BitVec.ofNat 32 c.val) (BitVec.ofNat 32 w.val)) 40#32)
      (IntOp.addi (BitVec.ofNat 32 c.val) (BitVec.ofNat 32 w.val)) = BitVec.ofNat 32 (c.val + w.val) := by decide +kernel

/-- The chunk a start index of the keys' windows names. -/
theorem v22 (c : Fin 32) (w : Fin 9) : val_main_v22 (F := Ideal) (ix3 c w 0) = BitVec.ofNat 32 (c.val + w.val) := by
  pointwise [val_main_v22, val_main_v21, val_main_v20, val_main_v19, val_main_v18, val_main_v17, val_main_v16, val_main_v15, val_main_v14,
    val_main_v13, val_main_v12, val_main_v11, val_main_v10, val_main_c_1, val_main_c_2]
  exact wrapped c w

/-- The chunk a start index of the values' windows names. -/
theorem v30 (c : Fin 32) (w : Fin 9) : val_main_v30 (F := Ideal) (ix3 c w 0) = BitVec.ofNat 32 (c.val + w.val) := by
  pointwise [val_main_v30, val_main_v29, val_main_v28, val_main_v27, val_main_v26, val_main_v25, val_main_v16, val_main_v15, val_main_v14,
    val_main_v13, val_main_v12, val_main_v11, val_main_v10, val_main_c_3, val_main_c_4]
  exact wrapped c w

theorem clamped : ∀ (c : Fin 32) (w : Fin 9), min (BitVec.ofNat 32 (c.val + w.val)).toInt.toNat 39 = c.val + w.val := by decide +kernel

theorem quotient : ∀ kk : Fin 576, Scalar.select
      (IntOp.andi
        (IntOp.cmpi CmpIPredicate.ne
          (if BitVec.ofNat 32 kk.val = 0 then (0 : BitVec 32) else if BitVec.msb (BitVec.ofNat 32 kk.val) = true then -1 else 1)
          (if (64#32 : BitVec 32) = 0 then (0 : BitVec 32) else if BitVec.msb (64#32 : BitVec 32) = true then -1 else 1))
        (IntOp.cmpi CmpIPredicate.ne (IntOp.remsi ArithUnit.host (BitVec.ofNat 32 kk.val) 64#32) 0#32))
      (IntOp.subi (IntOp.divsi ArithUnit.host (BitVec.ofNat 32 kk.val) 64#32) 1#32)
      (IntOp.divsi ArithUnit.host (BitVec.ofNat 32 kk.val) 64#32) = BitVec.ofNat 32 (kk.val / 64) := by decide +kernel

theorem v40 (kk : Fin 576) : val_main_v40 (F := Ideal) (ix2 0 kk) = BitVec.ofNat 32 (kk.val / 64) := by
  pointwise [val_main_v40, val_main_call2_v13, val_main_call2_v12, val_main_call2_c_0, val_main_call2_v11, val_main_call2_v10, val_main_call2_v9,
    val_main_call2_c, val_main_call2_v8, val_main_call2_v7, val_main_call2_v6, val_main_call2_v5, val_main_call2_v4, val_main_call2_v3,
    val_main_call2_v2, val_main_call2_v1, val_main_call2_v0, val_main_c_6, val_main_v39, val_main_v34]
  exact quotient kk

theorem in_sequence : ∀ (c : Fin 32) (kk : Fin 576),
    IntOp.cmpi CmpIPredicate.sge (IntOp.addi (IntOp.subi (BitVec.ofNat 32 c.val) 8#32) (BitVec.ofNat 32 (kk.val / 64))) 0#32
    = if 8 ≤ c.val + kk.val / 64 then 1#1 else 0#1 := by decide +kernel

/-- Whether a window's row lies in the sequence. -/
theorem v45 (c : Fin 32) (kk : Fin 576) : val_main_v45 (F := Ideal) (ix2 c kk) = if 8 ≤ c.val + kk.val / 64 then 1#1 else 0#1 := by
  pointwise [val_main_v45, val_main_v44, val_main_v43, val_main_v42, val_main_v41, val_main_v38, val_main_v37, val_main_v36, val_main_v35, val_main_c_5, val_main_c_7]
  rw [v40]
  exact in_sequence c kk

theorem sitofp_zero : (FloatOps.sitofp FTy.f32 (0#32 : BitVec 32) : Ideal .f32) = (0 : EReal) := by
  show (((0#32 : BitVec 32).toInt : ℝ) : EReal) = 0
  simp

/-- A padded chunk, read from the sequence. -/
theorem padded_chunk (x : FVec Ideal S8x2048x512 .bf16) (b : Fin 8) (g : Fin 40) (j : Fin 64) (h : Fin 8) (e : Fin 64) (h2 : h.val * 64 + e.val < 512) :
    (if h_1 : 8 ≤ g.val ∧ g.val - 8 < 32 then x (ix3 b ⟨(g.val - 8) * 64 + j.val, by omega⟩ ⟨h.val * 64 + e.val, h2⟩) else (0 : EReal))
      = Cert.Attn.padded x b (64 * g.val + j.val) (Cert.Attn.lane h e) := by
  unfold Cert.Attn.padded
  have hw : (⟨h.val * 64 + e.val, h2⟩ : Fin 512) = Cert.Attn.lane h e := Fin.ext (by show h.val * 64 + e.val = 64 * h.val + e.val; omega)
  by_cases hg : 8 ≤ g.val
  · rw [dif_pos ⟨hg, by omega⟩, dif_pos ⟨by omega, by omega⟩, hw]
    congr 2
    exact Fin.ext (by show (g.val - 8) * 64 + j.val = 64 * g.val + j.val - 512; omega)
  · rw [dif_neg (by omega), dif_neg (by omega)]

theorem v7 (x : FVec Ideal S8x2048x512 .bf16) (b : Fin 8) (g : Fin 40) (j : Fin 64) (h : Fin 8) (e : Fin 64) :
    val_main_v7 (F := Ideal) x (ix5 b g j h e) = Cert.Attn.padded x b (64 * g.val + j.val) (Cert.Attn.lane h e) := by
  pointwise [val_main_v7, val_main_v6, val_main_v1, val_main_call0_v0, val_main_c]
  rw [sitofp_zero]
  exact padded_chunk x b g j h e (by omega)

theorem v9 (x : FVec Ideal S8x2048x512 .bf16) (b : Fin 8) (g : Fin 40) (j : Fin 64) (h : Fin 8) (e : Fin 64) :
    val_main_v9 (F := Ideal) x (ix5 b g j h e) = Cert.Attn.padded x b (64 * g.val + j.val) (Cert.Attn.lane h e) := by
  pointwise [val_main_v9, val_main_v8, val_main_v2, val_main_call1_v0, val_main_c_0]
  rw [sitofp_zero]
  exact padded_chunk x b g j h e (by omega)

/-- A row of the keys' window. -/
theorem v24 (x : FVec Ideal S8x2048x512 .bf16) (b : Fin 8) (c : Fin 32) (kk : Fin 576) (h : Fin 8) (e : Fin 64) :
    val_main_v24 (F := Ideal) x (ix5 b c kk h e) = Cert.Attn.padded x b (64 * c.val + kk.val) (Cert.Attn.lane h e) := by
  pointwise [val_main_v24]
  unfold val_main_v23
  rw [gather_apply _ _ b c ⟨kk.val / 64, by omega⟩ ⟨kk.val % 64, Nat.mod_lt _ (by decide)⟩ h e ⟨c.val + kk.val / 64, by omega⟩
    (by rw [v22]; exact clamped c ⟨kk.val / 64, by omega⟩), v7]
  congr 1
  show 64 * (c.val + kk.val / 64) + kk.val % 64 = _
  omega

/-- A row of the values' window. -/
theorem v32 (x : FVec Ideal S8x2048x512 .bf16) (b : Fin 8) (c : Fin 32) (kk : Fin 576) (h : Fin 8) (e : Fin 64) :
    val_main_v32 (F := Ideal) x (ix5 b c kk h e) = Cert.Attn.padded x b (64 * c.val + kk.val) (Cert.Attn.lane h e) := by
  pointwise [val_main_v32]
  unfold val_main_v31
  rw [gather_apply _ _ b c ⟨kk.val / 64, by omega⟩ ⟨kk.val % 64, Nat.mod_lt _ (by decide)⟩ h e ⟨c.val + kk.val / 64, by omega⟩
    (by rw [v30]; exact clamped c ⟨kk.val / 64, by omega⟩), v9]
  congr 1
  show 64 * (c.val + kk.val / 64) + kk.val % 64 = _
  omega

/-- A scaled query. -/
theorem v5 (b : Fin 8) (c : Fin 32) (i : Fin 64) (h : Fin 8) (e : Fin 64) :
    val_main_v5 (F := Ideal) q (ix5 b c i h e) = q (ix3 b (Cert.Attn.row c i) (Cert.Attn.lane h e)) * Ideal.ofBits .f32 0x3E000000#32 := by
  pointwise [val_main_v5, val_main_v4, val_main_v3, val_main_v0, val_main_cst]
  congr 2
  exact congrArg₂ (ix3 b) (Fin.ext (by show c.val * 64 + i.val = 64 * c.val + i.val; omega))
    (Fin.ext (by show h.val * 64 + e.val = 64 * h.val + e.val; omega))

/-- The scores. -/
theorem v50 (b : Fin 8) (h : Fin 8) (c : Fin 32) (i : Fin 64) (kk : Fin 576) :
    val_main_v50 (F := Ideal) q k bias (ix5 b h c i kk) = Cert.Attn.score q k bias b c h i kk := by
  unfold Cert.Attn.score
  pointwise [val_main_v50, val_main_v49, val_main_v48, val_main_v47, val_main_call3_v0, val_main_call3_v1, val_main_v46, val_main_v33, val_main_cst_8]
  rw [v45]
  simp only [v5, v24]
  by_cases hk : 8 ≤ c.val + kk.val / 64
  · rw [if_pos hk, if_pos hk]; rfl
  · rw [if_neg hk, if_neg hk]; rfl

/-- The largest score. -/
theorem v51 (b : Fin 8) (h : Fin 8) (c : Fin 32) (i : Fin 64) :
    val_main_v51 (F := Ideal) q k bias (ix4 b h c i)
      = Finset.fold max (Ideal.ofBits .f32 0xFF800000#32) (fun kk => Cert.Attn.score q k bias b c h i kk) Finset.univ := by
  pointwise [val_main_v51, val_main_cst_9]
  simp only [v50]

theorem floored (z : FVec Ideal S8x8x32x64 .f32) (b : Fin 8) (h : Fin 8) (c : Fin 32) (i : Fin 64) :
    maximumf (val_main_v52 (F := Ideal)) z (ix4 b h c i) = max (Ideal.ofBits .f32 0xFF800000#32) (z (ix4 b h c i)) := by
  pointwise [val_main_v52, val_main_cst_10]

theorem v53 (b : Fin 8) (h : Fin 8) (c : Fin 32) (i : Fin 64) : val_main_v53 (F := Ideal) q k bias (ix4 b h c i) = Cert.Attn.top (Cert.Attn.score q k bias b c h i) := by
  unfold val_main_v53
  rw [floored, v51, Cert.Attn.floor, max_eq_right bot_le]
  rfl

theorem v57 (b : Fin 8) (h : Fin 8) (c : Fin 32) (i : Fin 64) (kk : Fin 576) : val_main_v57 (F := Ideal) q k bias (ix5 b h c i kk)
    = Ideal.exp (Cert.Attn.score q k bias b c h i kk - Cert.Attn.top (Cert.Attn.score q k bias b c h i)) := by
  pointwise [val_main_v57, val_main_v56, val_main_v55, val_main_v54]
  rw [v50, v53]

theorem v61 (b : Fin 8) (h : Fin 8) (c : Fin 32) (i : Fin 64) (kk : Fin 576) : val_main_v61 (F := Ideal) q k bias (ix5 b h c i kk)
    = Ideal.div (Ideal.exp (Cert.Attn.score q k bias b c h i kk - Cert.Attn.top (Cert.Attn.score q k bias b c h i)))
        (∑ x, Ideal.exp (Cert.Attn.score q k bias b c h i x - Cert.Attn.top (Cert.Attn.score q k bias b c h i))) := by
  pointwise [val_main_v61, val_main_v60, val_main_v59, val_main_v58, val_main_cst_11]
  simp only [v57]

/-- The result, from the weights and the values' windows. -/
theorem mixed (b : Fin 8) (x : Fin 2048) (y : Fin 512) :
    val_main_v65 (F := Ideal) q k v bias (ix3 b x y)
      = ∑ kk : Fin 576, val_main_v32 (F := Ideal) v (ix5 b ⟨x.val / 64, by omega⟩ kk ⟨y.val / 64, by omega⟩ ⟨y.val % 64, by omega⟩)
          * val_main_v61 (F := Ideal) q k bias (ix5 b ⟨y.val / 64, by omega⟩ ⟨x.val / 64, by omega⟩ ⟨x.val % 64, by omega⟩ kk) := by
  pointwise [val_main_v65, val_main_v64, val_main_v63, val_main_v62]

/-- The result. -/
theorem out (b : Fin 8) (c : Fin 32) (i : Fin 64) (h : Fin 8) (e : Fin 64) :
    val_main_v65 (F := Ideal) q k v bias (ix3 b (Cert.Attn.row c i) (Cert.Attn.lane h e))
      = ∑ kk : Fin 576, Cert.Attn.padded v b (64 * c.val + kk.val) (Cert.Attn.lane h e)
          * Ideal.div (Ideal.exp (Cert.Attn.score q k bias b c h i kk - Cert.Attn.top (Cert.Attn.score q k bias b c h i)))
              (∑ x, Ideal.exp (Cert.Attn.score q k bias b c h i x - Cert.Attn.top (Cert.Attn.score q k bias b c h i))) := by
  have hi : ∀ x : Fin 2048, x = Cert.Attn.row c i → x.val / 64 = c.val ∧ x.val % 64 = i.val := by
    intro x hx
    have : x.val = 64 * c.val + i.val := Fin.ext_iff.mp hx
    omega
  have hl : ∀ x : Fin 512, x = Cert.Attn.lane h e → x.val / 64 = h.val ∧ x.val % 64 = e.val := by
    intro x hx
    have : x.val = 64 * h.val + e.val := Fin.ext_iff.mp hx
    omega
  generalize hx : Cert.Attn.row c i = x
  generalize hy : Cert.Attn.lane h e = y
  refine (mixed q k v bias b x y).trans ?_
  refine Finset.sum_congr rfl fun kk _ => ?_
  rw [show (⟨x.val / 64, by omega⟩ : Fin 32) = c from Fin.ext (hi x hx.symm).1, show (⟨x.val % 64, by omega⟩ : Fin 64) = i from Fin.ext (hi x hx.symm).2,
    show (⟨y.val / 64, by omega⟩ : Fin 8) = h from Fin.ext (hl y hy.symm).1, show (⟨y.val % 64, by omega⟩ : Fin 64) = e from Fin.ext (hl y hy.symm).2,
    v32, v61, hy]

end Cert.ReferenceAttnIdeal.Whole

end
-- ==== Proof.AttnPre.lean ====
/-
  What the precondition of the attention says: its queries, keys and biases are real numbers.
-/
module

public import proofs.«01_k».proof.Proof.Gen.Pre_finite
public import proofs.«01_k».proof.Proof.AttnMath
public import Idealize.ShloMosaic.Lib.ReduceAll
public import Idealize.ShloMosaic.Lib.Tactic

@[expose] public section

set_option maxRecDepth 16384

noncomputable section

namespace Cert.Pre_finite.Read

open Idealize.ShloMosaic
open Cert.Pre_finite Cert.Pre_finite.Gen Cert.Attn

instance : Subsingleton S_.Idx := ⟨fun a b => funext fun i => i.elim0⟩

/-- A conjunction that holds holds in both parts. -/
theorem both {a b : BitVec 1} : IntOp.andi a b = 1#1 → a = 1#1 ∧ b = 1#1 := by
  revert a b
  decide

/-- The word of +∞ of the narrow format. -/
theorem infinity16 : Ideal.ofBits .bf16 0x7F80#16 = ⊤ := by
  simp [Ideal.ofBits, Ideal.ieee]

/-- The word of +∞. -/
theorem infinity32 : Ideal.ofBits .f32 0x7F800000#32 = ⊤ := by
  simp [Ideal.ofBits, Ideal.ieee]

/-- A value whose magnitude lies below +∞ is a real. -/
theorem real_of_abs (x : EReal) (h : Ideal.cmp .olt (max x (-x)) ⊤ = 1#1) : IsReal x := by
  have h' : max x (-x) < ⊤ := by
    by_contra hn
    have e : Ideal.cmp .olt (max x (-x)) ⊤ = BitVec.ofBool (decide (max x (-x) < ⊤)) := rfl
    rw [e, decide_eq_false hn] at h
    exact absurd h (by decide)
  obtain ⟨h1, h2⟩ := max_lt_iff.mp h'
  refine IsReal.of_ne h1.ne ?_
  rintro rfl
  rw [EReal.neg_bot] at h2
  exact lt_irrefl _ h2

/-- The precondition, read: every query, key and bias is a real. -/
theorem arrays (x0 x1 x2 : FVec Ideal S8x2048x512 .bf16) (x3 : FVec Ideal S8x64x576 .f32) (h : fn (F := Ideal) x0 x1 x2 x3 ix0 = 1#1) :
    (∀ i, IsReal (x0 i)) ∧ (∀ i, IsReal (x1 i)) ∧ (∀ i, IsReal (x3 i)) := by
  unfold fn at h
  dsimp only at h
  obtain ⟨h01, h3⟩ := both h
  obtain ⟨h0, h1⟩ := both h01
  have e0 := fun i => Host.reduce_andi_all _ _ _ _ _ h0 i
  have e1 := fun i => Host.reduce_andi_all _ _ _ _ _ h1 i
  have e3 := fun i => Host.reduce_andi_all _ _ _ _ _ h3 i
  refine ⟨fun i => real_of_abs _ ?_, fun i => real_of_abs _ ?_, fun i => real_of_abs _ ?_⟩
  · rw [← infinity16]
    exact e0 i
  · rw [← infinity16]
    exact e1 i
  · rw [← infinity32]
    exact e3 i

end Cert.Pre_finite.Read

end
-- ==== Proof.AttnHead.lean ====
/-
  One head of the banded attention as a point computes it from its blocks, and the block a point stores as eight heads one
  after another.
-/
module

public import proofs.«01_k».proof.Proof.Gen.KernelAttnIdeal.Value
public import proofs.«01_k».proof.Proof.AttnMath
public import Idealize.ShloMosaic.Lib.Pipeline.ValueKit
public import Idealize.ShloMosaic.Lib.Tactic

@[expose] public section

set_option maxRecDepth 16384

noncomputable section

namespace Cert.KernelAttnIdeal.Head

open Idealize.ShloMosaic
open Cert.KernelAttnIdeal Cert.KernelAttnIdeal.Gen

/-- The lanes' numbers. -/
abbrev lanes : IVec S64x512 32 := iota .tc S64x512 32 [1] iota_S64x512_d1_w32

/-- The lanes from `lo` up to `hi`. -/
def within (lo hi : BitVec 32) : IVec S64x512 1 :=
  andi (cmpi .sge lanes (broadcast S64x512 lo)) (cmpi .slt lanes (broadcast S64x512 hi))

/-- The masked scores of a head: its queries' lanes against the window, scaled, plus the bias. -/
def scores (mask : IVec S64x512 1) (valid : IVec S64x576 1) (kb : FVec Ideal S576x512 .bf16) (q : FVec Ideal S64x512 .bf16)
    (b : Vec Ideal S1x64x576 .f32) : FVec Ideal S64x576 .f32 :=
  select valid
    (addf (mulf (matmul dot_S64x512_S576x512_S64x576_1_1_0_0_n_n none
        (select mask q (broadcast S64x512 (Scalar.ofBits .bf16 0x0000#16))) kb (constant S64x576 .f32 0x00000000#32))
      (broadcast S64x576 (Scalar.ofBits .f32 0x3E000000#32))) (shapeCast S64x576 b shapeCasts_S1x64x576_S64x576))
    (broadcast S64x576 (Scalar.ofBits .f32 0xFF7FFFFF#32))

/-- The exponentials of the scores less their row's largest. -/
def expo (s : FVec Ideal S64x576 .f32) : FVec Ideal S64x576 .f32 :=
  exp (subf s (broadcastTo S64x576 (shapeCast S64x1 (multiReduction .maximumf [1] S64 s 0xFF800000#32 reduces_S64x576_S64 (.inl rfl) rfl)
    shapeCasts_S64_S64x1) broadcasts_S64x1_S64x576))

/-- A head's weighted sum of the window's values, divided by the sum of the weights, put in the head's lanes. -/
def gathered (mask : IVec S64x512 1) (vb : FVec Ideal S576x512 .bf16) (s : FVec Ideal S64x576 .f32) (acc : FVec Ideal S64x512 .f32) :
    FVec Ideal S64x512 .f32 :=
  select mask
    (divf (matmul dot_S64x576_S576x512_S64x512_1_0_0_1_n_n none (truncf .bf16 (expo s) bitsLt_bf16_f32) vb (constant S64x512 .f32 0x00000000#32))
      (broadcastTo S64x512 (shapeCast S64x1 (multiReduction .add [1] S64 (expo s) 0x00000000#32 reduces_S64x576_S64 (.inl rfl) rfl)
        shapeCasts_S64_S64x1) broadcasts_S64x1_S64x512)) acc

/-- One head's turn. -/
def turn (lo hi : BitVec 32) (i : grid0.Coords) (kb vb : FVec Ideal S576x512 .bf16) (q : Vec Ideal S1x64x512 .bf16)
    (b : Vec Ideal S1x64x576 .f32) (acc : FVec Ideal S64x512 .f32) : FVec Ideal S64x512 .f32 :=
  gathered (within lo hi) vb (scores (within lo hi) (k0_pay7 i) kb (shapeCast S64x512 q shapeCasts_S1x64x512_S64x512) b) acc

/-- The block a point stores. -/
def block (i : grid0.Coords) (kb vb : FVec Ideal S576x512 .bf16) (q : Vec Ideal S1x64x512 .bf16)
    (b0 b1 b2 b3 b4 b5 b6 b7 : Vec Ideal S1x64x576 .f32) : FVec Ideal S64x512 .f32 :=
  turn 448#32 512#32 i kb vb q b7 <| turn 384#32 448#32 i kb vb q b6 <| turn 320#32 384#32 i kb vb q b5 <|
    turn 256#32 320#32 i kb vb q b4 <| turn 192#32 256#32 i kb vb q b3 <| turn 128#32 192#32 i kb vb q b2 <|
    turn 64#32 128#32 i kb vb q b1 <| turn 0#32 64#32 i kb vb q b0 <| broadcast S64x512 (Scalar.ofBits .f32 0x00000000#32)

variable (i : grid0.Coords) (kb vb : FVec Ideal S576x512 .bf16) (q : Vec Ideal S1x64x512 .bf16)
    (b0 b1 b2 b3 b4 b5 b6 b7 : Vec Ideal S1x64x576 .f32)

theorem turns01 : k0_pay12 kb vb (k0_pay6 q) lanes (k0_pay7 i) k0_pay8 k0_pay9 (k0_pay10 i kb q b0) (k0_pay11 i kb q b0) b1
    = (turn 64#32 128#32 i kb vb q b1 <| turn 0#32 64#32 i kb vb q b0 <| broadcast S64x512 (Scalar.ofBits .f32 0x00000000#32)) := rfl

theorem turn2 (acc : FVec Ideal S64x512 .f32) : k0_pay15 kb vb (k0_pay7 i) acc (k0_pay13 lanes) (k0_pay14 (k0_pay6 q) lanes) b2
    = turn 128#32 192#32 i kb vb q b2 acc := rfl

theorem turns34 (acc : FVec Ideal S64x512 .f32) :
    k0_pay18 kb vb (k0_pay6 q) lanes (k0_pay7 i) acc (k0_pay16 lanes) (k0_pay17 kb (k0_pay6 q) lanes (k0_pay7 i) b3) b4
    = (turn 256#32 320#32 i kb vb q b4 <| turn 192#32 256#32 i kb vb q b3 acc) := rfl

theorem turn5 (acc : FVec Ideal S64x512 .f32) :
    k0_pay21 vb (k0_pay7 i) acc (k0_pay19 lanes) (k0_pay20 kb (k0_pay6 q) lanes) (FloatOps.ofBits FTy.f32 0x3E000000#32) b5
    = turn 320#32 384#32 i kb vb q b5 acc := rfl

theorem turns67 (acc : FVec Ideal S64x512 .f32) :
    k0_pay1 kb vb (k0_pay6 q) lanes (k0_pay7 i) acc (k0_pay22 lanes) (k0_pay24 kb (k0_pay6 q) lanes (k0_pay7 i) b6)
      (k0_pay25 kb (k0_pay6 q) lanes (k0_pay7 i) b6) b7
    = shapeCast S1x64x512 (truncf .bf16 (turn 448#32 512#32 i kb vb q b7 <| turn 384#32 448#32 i kb vb q b6 acc) bitsLt_bf16_f32)
        shapeCasts_S64x512_S1x64x512 := rfl

theorem lanes_within : ∀ (h : Fin 8) (w : Fin 512),
    IntOp.andi (IntOp.cmpi CmpIPredicate.sge (BitVec.ofNat 32 w.val) (BitVec.ofNat 32 (64 * h.val)))
      (IntOp.cmpi CmpIPredicate.slt (BitVec.ofNat 32 w.val) (BitVec.ofNat 32 (64 * h.val + 64))) = if w.val / 64 = h.val then 1#1 else 0#1 := by
  decide +kernel

/-- A head's lanes are its 64. -/
theorem within_apply (h : Fin 8) (r : Fin 64) (w : Fin 512) :
    within (BitVec.ofNat 32 (64 * h.val)) (BitVec.ofNat 32 (64 * h.val + 64)) (ix2 r w) = if w.val / 64 = h.val then 1#1 else 0#1 := by
  unfold within
  pointwise []
  exact lanes_within h w

theorem scores_apply (mask : IVec S64x512 1) (valid : IVec S64x576 1) (kb : FVec Ideal S576x512 .bf16) (q : FVec Ideal S64x512 .bf16)
    (b : Vec Ideal S1x64x576 .f32) (r : Fin 64) (kk : Fin 576) : scores mask valid kb q b (ix2 r kk)
      = Scalar.select (valid (ix2 r kk))
          ((∑ x, Scalar.select (mask (ix2 r x)) (q (ix2 r x) * kb (ix2 kk x)) 0) * Ideal.ofBits FTy.f32 0x3E000000#32 + b (ix3 0 r kk))
          (Ideal.ofBits FTy.f32 0xFF7FFFFF#32) := by
  pointwise [scores]

theorem expo_apply (s : FVec Ideal S64x576 .f32) (r : Fin 64) (kk : Fin 576) : expo s (ix2 r kk)
    = Ideal.exp (s (ix2 r kk) - Finset.fold max (Ideal.ofBits FTy.f32 0xFF800000#32) (fun x => s (ix2 r x)) Finset.univ) := by
  pointwise [expo]

theorem gathered_apply (mask : IVec S64x512 1) (vb : FVec Ideal S576x512 .bf16) (s : FVec Ideal S64x576 .f32) (acc : FVec Ideal S64x512 .f32)
    (r : Fin 64) (w : Fin 512) : gathered mask vb s acc (ix2 r w)
      = Scalar.select (mask (ix2 r w)) (Ideal.div (∑ kk, expo s (ix2 r kk) * vb (ix2 kk w)) (∑ kk, expo s (ix2 r kk))) (acc (ix2 r w)) := by
  pointwise [gathered]

theorem rows_valid : ∀ (t : Fin 32) (kk : Fin 576),
    IntOp.cmpi CmpIPredicate.sge (BitVec.ofNat 32 kk.val) (Scalar.muli (Scalar.subi (8#32) (BitVec.ofNat 32 t.val)) 64#32)
      = if 8 ≤ t.val + kk.val / 64 then 1#1 else 0#1 := by decide +kernel

/-- A window's row counts when it lies in the sequence. -/
theorem pay7_apply (t : Fin 32) (i : grid0.Coords) (hi : (i 1).val = t.val) (r : Fin 64) (kk : Fin 576) :
    k0_pay7 i (ix2 r kk) = if 8 ≤ t.val + kk.val / 64 then 1#1 else 0#1 := by
  pointwise [k0_pay7]
  rw [hi]
  exact rows_valid t kk

/-- A head's score at a row, from the point's blocks. -/
def scoreAt (t : Fin 32) (kb : FVec Ideal S576x512 .bf16) (q : Vec Ideal S1x64x512 .bf16) (b : Vec Ideal S1x64x576 .f32) (h : Fin 8)
    (r : Fin 64) (kk : Fin 576) : EReal :=
  if 8 ≤ t.val + kk.val / 64 then
    (∑ e : Fin 64, q (ix3 0 r (Cert.Attn.lane h e)) * kb (ix2 kk (Cert.Attn.lane h e))) * Ideal.ofBits .f32 0x3E000000#32 + b (ix3 0 r kk)
  else Ideal.ofBits .f32 0xFF7FFFFF#32

/-- A masked sum over the 512 lanes is the sum over the head's 64. -/
theorem sum_lanes (h : Fin 8) (f : Fin 512 → EReal) :
    (∑ x : Fin 512, if x.val / 64 = h.val then f x else 0) = ∑ e : Fin 64, f (Cert.Attn.lane h e) := by
  rw [← Finset.sum_filter]
  refine (Finset.sum_bij (fun e _ => Cert.Attn.lane h e) ?_ ?_ ?_ ?_).symm
  · intro e _
    rw [Finset.mem_filter]
    exact ⟨Finset.mem_univ _, by show (64 * h.val + e.val) / 64 = h.val; omega⟩
  · intro e _ e' _ he
    have := Fin.ext_iff.mp he
    exact Fin.ext (by change 64 * h.val + e.val = 64 * h.val + e'.val at this; omega)
  · intro x hx
    have hx' := (Finset.mem_filter.mp hx).2
    exact ⟨⟨x.val % 64, Nat.mod_lt _ (by decide)⟩, Finset.mem_univ _, Fin.ext (by show 64 * h.val + x.val % 64 = x.val; omega)⟩
  · intro e _; rfl

theorem select_if (p : Prop) [Decidable p] (x y : EReal) : Scalar.select (if p then 1#1 else 0#1) x y = if p then x else y := by
  by_cases h : p
  · rw [if_pos h, if_pos h]; rfl
  · rw [if_neg h, if_neg h]; rfl

/-- The scores of a head's turn. -/
theorem scores_turn (t : Fin 32) (i : grid0.Coords) (hi : (i 1).val = t.val) (kb : FVec Ideal S576x512 .bf16) (q : Vec Ideal S1x64x512 .bf16)
    (b : Vec Ideal S1x64x576 .f32) (h : Fin 8) (r : Fin 64) (kk : Fin 576) :
    scores (within (BitVec.ofNat 32 (64 * h.val)) (BitVec.ofNat 32 (64 * h.val + 64))) (k0_pay7 i) kb
      (shapeCast S64x512 q shapeCasts_S1x64x512_S64x512) b (ix2 r kk) = scoreAt t kb q b h r kk := by
  rw [scores_apply, pay7_apply t i hi, select_if]
  unfold scoreAt
  congr 3
  rw [← sum_lanes h (fun x => q (ix3 0 r x) * kb (ix2 kk x))]
  refine Finset.sum_congr rfl fun x _ => ?_
  rw [within_apply, select_if]
  pointwise []

/-- A head's turn writes its own lanes and leaves the others. -/
theorem turn_apply (t : Fin 32) (i : grid0.Coords) (hi : (i 1).val = t.val) (kb vb : FVec Ideal S576x512 .bf16)
    (q : Vec Ideal S1x64x512 .bf16) (b : Vec Ideal S1x64x576 .f32) (acc : FVec Ideal S64x512 .f32) (h : Fin 8) (r : Fin 64) (w : Fin 512) :
    turn (BitVec.ofNat 32 (64 * h.val)) (BitVec.ofNat 32 (64 * h.val + 64)) i kb vb q b acc (ix2 r w)
      = if w.val / 64 = h.val then Cert.Attn.mean (scoreAt t kb q b h r) (fun kk => vb (ix2 kk w)) else acc (ix2 r w) := by
  unfold turn
  rw [gathered_apply, within_apply, select_if]
  simp only [expo_apply, scores_turn t i hi kb q b h r]
  rfl

/-- The block at a head's lane. -/
theorem block_apply (t : Fin 32) (i : grid0.Coords) (hi : (i 1).val = t.val) (kb vb : FVec Ideal S576x512 .bf16)
    (q : Vec Ideal S1x64x512 .bf16) (b : Fin 8 → Vec Ideal S1x64x576 .f32) (h : Fin 8) (r : Fin 64) (e : Fin 64) :
    block i kb vb q (b 0) (b 1) (b 2) (b 3) (b 4) (b 5) (b 6) (b 7) (ix2 r (Cert.Attn.lane h e))
      = Cert.Attn.mean (scoreAt t kb q (b h) h r) (fun kk => vb (ix2 kk (Cert.Attn.lane h e))) := by
  have hw : (Cert.Attn.lane h e).val / 64 = h.val := by show (64 * h.val + e.val) / 64 = h.val; omega
  have T := fun (g : Fin 8) (acc : FVec Ideal S64x512 .f32) => turn_apply t i hi kb vb q (b g) acc g r (Cert.Attn.lane h e)
  simp only [hw] at T
  unfold block
  have T7 := T 7
  have T6 := T 6
  have T5 := T 5
  have T4 := T 4
  have T3 := T 3
  have T2 := T 2
  have T1 := T 1
  have T0 := T 0
  refine (T7 _).trans ?_
  split
  · next g => have : h = 7 := Fin.ext g
              rw [this]
  refine (T6 _).trans ?_
  split
  · next g => have : h = 6 := Fin.ext g
              rw [this]
  refine (T5 _).trans ?_
  split
  · next g => have : h = 5 := Fin.ext g
              rw [this]
  refine (T4 _).trans ?_
  split
  · next g => have : h = 4 := Fin.ext g
              rw [this]
  refine (T3 _).trans ?_
  split
  · next g => have : h = 3 := Fin.ext g
              rw [this]
  refine (T2 _).trans ?_
  split
  · next g => have : h = 2 := Fin.ext g
              rw [this]
  refine (T1 _).trans ?_
  split
  · next g => have : h = 1 := Fin.ext g
              rw [this]
  refine (T0 _).trans ?_
  split
  · next g => have : h = 0 := Fin.ext g
              rw [this]
  · have := h.isLt
    simp only [Fin.val_zero, Fin.val_one, Fin.val_two] at *
    omega

/-- The block as the launch's own operations compute it. -/
theorem stored_apply (t : Fin 32) (i : grid0.Coords) (hi : (i 1).val = t.val) (kb vb : FVec Ideal S576x512 .bf16)
    (q : Vec Ideal S1x64x512 .bf16) (b : Fin 8 → Vec Ideal S1x64x576 .f32) (h : Fin 8) (r : Fin 64) (e : Fin 64) :
    k0_pay1 kb vb (k0_pay6 q) lanes (k0_pay7 i)
      (k0_pay21 vb (k0_pay7 i)
        (k0_pay18 kb vb (k0_pay6 q) lanes (k0_pay7 i)
          (k0_pay15 kb vb (k0_pay7 i)
            (k0_pay12 kb vb (k0_pay6 q) lanes (k0_pay7 i) k0_pay8 k0_pay9 (k0_pay10 i kb q (b 0)) (k0_pay11 i kb q (b 0)) (b 1))
            (k0_pay13 lanes) (k0_pay14 (k0_pay6 q) lanes) (b 2))
          (k0_pay16 lanes) (k0_pay17 kb (k0_pay6 q) lanes (k0_pay7 i) (b 3)) (b 4))
        (k0_pay19 lanes) (k0_pay20 kb (k0_pay6 q) lanes) (FloatOps.ofBits FTy.f32 0x3E000000#32) (b 5))
      (k0_pay22 lanes) (k0_pay24 kb (k0_pay6 q) lanes (k0_pay7 i) (b 6)) (k0_pay25 kb (k0_pay6 q) lanes (k0_pay7 i) (b 6)) (b 7)
      (ix3 0 r (Cert.Attn.lane h e))
      = Cert.Attn.mean (scoreAt t kb q (b h) h r) (fun kk => vb (ix2 kk (Cert.Attn.lane h e))) := by
  rw [turns67, turn5, turns34, turn2, turns01, ← block_apply t i hi kb vb q b h r e]
  unfold block
  generalize turn 448#32 512#32 i kb vb q (b 7) _ = z
  pointwise []

end Cert.KernelAttnIdeal.Head

end
-- ==== Proof.AttnKernel.lean ====
/-
  What each point of the banded attention holds, and the array the launch writes.
-/
module

public import proofs.«01_k».proof.Proof.Gen.KernelAttnIdeal.Value
public import proofs.«01_k».proof.Proof.AttnHead
public import Idealize.ShloMosaic.Lib.Pipeline.ValueKit
public import Idealize.ShloMosaic.Lib.Pipeline.ReadBack
public import Idealize.ShloMosaic.Lib.Tactic

@[expose] public section

set_option maxRecDepth 16384

noncomputable section

namespace Cert.KernelAttnIdeal.Body

open Idealize.ShloMosaic Idealize.ShloMosaic.TcCoe Idealize.SL.Sem
open Cert.KernelAttnIdeal Cert.KernelAttnIdeal.Gen

variable (m : (ℓ : Loc nD τ sig) → Buf (Elt Ideal) ℓ) (c : Dev nD)

theorem idx : ∀ t : Fin cfg0.N, win0_0.index t = ![t.val / 32, t.val % 32, 0] ∧ win0_1.index t = ![t.val / 32, 0, 0] ∧ win0_2.index t = ![t.val / 32, 0, 0]
    ∧ win0_3.index t = ![0, 0, 0] ∧ (grid0.coords t 1).val = t.val % 32 ∧ k0_off1 (grid0.coords t) = ![64 * (t.val % 32), 0] :=
  (by decide +kernel : ∀ t : Fin grid0.N, _)

/-- The queries, at their literal shape. -/
abbrev Q : FVec Ideal ⟨3, ![8, 2048, 512]⟩ .bf16 := m ((c : Thread nD τ).loc main_arg0)
/-- The keys. -/
abbrev K : FVec Ideal ⟨3, ![8, 2048, 512]⟩ .bf16 := m ((c : Thread nD τ).loc main_arg1)
/-- The values. -/
abbrev U : FVec Ideal ⟨3, ![8, 2048, 512]⟩ .bf16 := m ((c : Thread nD τ).loc main_arg2)
/-- The bias. -/
abbrev B : FVec Ideal ⟨3, ![8, 64, 576]⟩ .f32 := m ((c : Thread nD τ).loc main_arg3)

theorem lt_N (t : Fin cfg0.N) : t.val < 256 := Nat.lt_of_lt_of_eq t.isLt N_0

/-- The sequence of a point. -/
abbrev seq (t : Fin cfg0.N) : Fin 8 := ⟨t.val / 32, by have := lt_N t; omega⟩
/-- The chunk of a point. -/
abbrev chunk (t : Fin cfg0.N) : Fin 32 := ⟨t.val % 32, Nat.mod_lt _ (by decide)⟩

variable (t : Fin cfg0.N)

theorem read0 (r : Fin 64) (w : Fin 512) : (iblk m c 0 t : FVec Ideal S1x64x512 .bf16) (ix3 0 r w) = Q m c (ix3 (seq t) (Cert.Attn.row (chunk t) r) w) := by
  have := lt_N t
  blk_ext [iblk, V, idx t]

theorem read1 (r : Fin 2048) (w : Fin 512) : (iblk m c 1 t : FVec Ideal S1x2048x512 .bf16) (ix3 0 r w) = K m c (ix3 (seq t) r w) := by
  have := lt_N t
  blk_ext [iblk, V, idx t]

theorem read2 (r : Fin 2048) (w : Fin 512) : (iblk m c 2 t : FVec Ideal S1x2048x512 .bf16) (ix3 0 r w) = U m c (ix3 (seq t) r w) := by
  have := lt_N t
  blk_ext [iblk, V, idx t]

theorem read3 (h : Fin 8) (r : Fin 64) (kk : Fin 576) : (iblk m c 3 t : FVec Ideal S8x64x576 .f32) (ix3 h r kk) = B m c (ix3 h r kk) := by
  have := lt_N t
  blk_ext [iblk, V, idx t]

/-- The 576 rows of the carried rows that a point's window covers, loaded from its first on. -/
theorem ld_window (x : Vec Ideal S2560x512 .bf16) (off : Fin S2560x512.rank → ℕ) (ho : off = ![64 * (t.val % 32), 0]) (inb) (kk : Fin 576) (w : Fin 512) :
    (View.ld x (Rect.unit off ![576, 512] inb) : Vec Ideal S576x512 .bf16) (ix2 kk w) = x (ix2 ⟨64 * (t.val % 32) + kk.val, by omega⟩ w) := by
  subst ho
  refine View.ld_unit_apply_of _ _ _ _ _ _ (fun a => ?_)
  match a with
  | ⟨0, _⟩ => rfl
  | ⟨1, _⟩ => show w.val = 0 + w.val; omega

/-- One head's bias. -/
theorem ld_bias (x : Vec Ideal S8x64x576 .f32) (h : Fin 8) (off : Fin S8x64x576.rank → ℕ) (ho : off = ![h.val, 0, 0]) (inb) (r : Fin 64) (kk : Fin 576) :
    (View.ld x (Rect.unit off ![1, 64, 576] inb) : Vec Ideal S1x64x576 .f32) (ix3 0 r kk) = x (ix3 h r kk) := by
  subst ho
  refine View.ld_unit_apply_of _ _ _ _ _ _ (fun a => ?_)
  match a with
  | ⟨0, _⟩ => rfl
  | ⟨1, _⟩ => show r.val = 0 + r.val; omega
  | ⟨2, _⟩ => show kk.val = 0 + kk.val; omega

/-- A row stored as one of the sequence's. -/
theorem stored_low (w : Vec Ideal S2048x512 .bf16) (L : List (View.Piece (Elt Ideal) S2560x512 .bf16)) (inb) (r : Fin 2560) (h : 512 ≤ r.val) (d : Fin 512) :
    View.canon (⟨Rect.unit ![512, 0] ![2048, 512] inb, w⟩ :: L) (ix2 r d) = w (ix2 ⟨r.val - 512, by omega⟩ d) := by
  have e : (ix2 r d : S2560x512.Idx) = (Rect.unit (s := S2560x512) ![512, 0] ![2048, 512] inb).emb (ix2 ⟨r.val - 512, by omega⟩ d) := by
    funext a
    refine Fin.ext ?_
    match a with
    | ⟨0, _⟩ => show r.val = 512 + 1 * (r.val - 512); omega
    | ⟨1, _⟩ => show d.val = 0 + 1 * d.val; omega
  rw [e, View.canon_cons_emb]

/-- A row stored before the sequence's. -/
theorem stored_high (w : Vec Ideal S2048x512 .bf16) (z : Vec Ideal S512x512 .bf16) (inb) (inb') (r : Fin 2560) (h : r.val < 512) (d : Fin 512) :
    View.canon [⟨Rect.unit ![512, 0] ![2048, 512] inb, w⟩, (⟨Rect.unit ![0, 0] ![512, 512] inb', z⟩ : View.Piece (Elt Ideal) S2560x512 .bf16)] (ix2 r d)
      = z (ix2 ⟨r.val, h⟩ d) := by
  have e : (ix2 r d : S2560x512.Idx) = (Rect.unit (s := S2560x512) ![0, 0] ![512, 512] inb').emb (ix2 ⟨r.val, h⟩ d) := by
    funext a
    refine Fin.ext ?_
    match a with
    | ⟨0, _⟩ => show r.val = 0 + 1 * r.val; omega
    | ⟨1, _⟩ => show d.val = 0 + 1 * d.val; omega
  rw [View.canon_cons_of_not_mem _ _ (fun hm => ?_), e, View.canon_cons_emb]
  have h0 := (Rect.mem_set_unit (inb := inb).mp hm) 0
  change 512 ≤ r.val ∧ _ at h0
  omega

/-- The rows stored at a sequence's first point are the padded sequence. -/
theorem stored (x : FVec Ideal ⟨3, ![8, 2048, 512]⟩ .bf16) (b : Fin 8) (w : Vec Ideal S2048x512 .bf16) (z : Vec Ideal S512x512 .bf16)
    (hw : ∀ r d, w (ix2 r d) = x (ix3 b r d)) (hz : ∀ r d, z (ix2 r d) = 0) (inb) (inb') (r : Fin 2560) (d : Fin 512) :
    View.canon [⟨Rect.unit ![512, 0] ![2048, 512] inb, w⟩, (⟨Rect.unit ![0, 0] ![512, 512] inb', z⟩ : View.Piece (Elt Ideal) S2560x512 .bf16)] (ix2 r d)
      = Cert.Attn.padded x b r.val d := by
  unfold Cert.Attn.padded
  by_cases h : 512 ≤ r.val
  · rw [stored_low _ _ _ r h d, hw, dif_pos ⟨h, r.isLt⟩]
  · rw [stored_high _ _ _ _ r (by omega) d, hz, dif_neg (by omega)]

theorem pay2_apply (r : Fin 512) (d : Fin 512) : (k0_pay2 : FVec Ideal S512x512 .bf16) (ix2 r d) = 0 := by
  pointwise [k0_pay2]

theorem pay3_apply (r : Fin 512) (d : Fin 512) : (k0_pay3 : FVec Ideal S512x512 .bf16) (ix2 r d) = 0 := by
  pointwise [k0_pay3]

theorem pay4_apply (x : Vec Ideal S1x2048x512 .bf16) (r : Fin 2048) (d : Fin 512) : k0_pay4 x (ix2 r d) = x (ix3 0 r d) := by
  pointwise [k0_pay4]

theorem pay5_apply (x : Vec Ideal S1x2048x512 .bf16) (r : Fin 2048) (d : Fin 512) : k0_pay5 x (ix2 r d) = x (ix3 0 r d) := by
  pointwise [k0_pay5]

/-- The stored keys. -/
theorem keys_stored (inb) (inb') (r : Fin 2560) (d : Fin 512) :
    View.canon [⟨Rect.unit ![512, 0] ![2048, 512] inb, k0_pay4 (iblk m c 1 t)⟩, (⟨Rect.unit ![0, 0] ![512, 512] inb', (k0_pay2 : FVec Ideal S512x512 .bf16)⟩ : View.Piece (Elt Ideal) S2560x512 .bf16)] (ix2 r d)
      = Cert.Attn.padded (K m c) (seq t) r.val d :=
  stored (K m c) (seq t) _ _ (fun r d => (pay4_apply _ r d).trans (read1 m c t r d)) pay2_apply inb inb' r d

/-- The stored values. -/
theorem values_stored (inb) (inb') (r : Fin 2560) (d : Fin 512) :
    View.canon [⟨Rect.unit ![512, 0] ![2048, 512] inb, k0_pay5 (iblk m c 2 t)⟩, (⟨Rect.unit ![0, 0] ![512, 512] inb', (k0_pay3 : FVec Ideal S512x512 .bf16)⟩ : View.Piece (Elt Ideal) S2560x512 .bf16)] (ix2 r d)
      = Cert.Attn.padded (U m c) (seq t) r.val d :=
  stored (U m c) (seq t) _ _ (fun r d => (pay5_apply _ r d).trans (read2 m c t r d)) pay3_apply inb inb' r d

/-- What a point holds depends on its number alone. -/
theorem same (p q : ℕ) (h : p < cfg0.N) (h' : q < cfg0.N) (e : p = q) : outsAt0 m c p h = outsAt0 m c q h' := by
  subst e
  rfl

/-- After every point the two carried arrays are the point's sequence's padded keys and values. -/
theorem carried : ∀ (n : ℕ) (h : n < cfg0.N),
    (∀ r d, (outsAt0 m c n h).2.1 (ix2 r d) = Cert.Attn.padded (K m c) (seq ⟨n, h⟩) r.val d)
    ∧ (∀ r d, (outsAt0 m c n h).2.2 (ix2 r d) = Cert.Attn.padded (U m c) (seq ⟨n, h⟩) r.val d) := by
  intro n
  induction n with
  | zero =>
    intro h
    refine ⟨fun r d => ?_, fun r d => ?_⟩
    · rw [outsAt0_A m c ⟨0, h⟩ rfl]
      dsimp only
      frame_out
      exact keys_stored m c ⟨0, h⟩ _ _ r d
    · rw [outsAt0_A m c ⟨0, h⟩ rfl]
      dsimp only
      frame_out
      exact values_stored m c ⟨0, h⟩ _ _ r d
  | succ n ih =>
    intro h
    by_cases h0 : (n + 1) % 32 = 0
    · refine ⟨fun r d => ?_, fun r d => ?_⟩
      · rw [outsAt0_A m c ⟨n + 1, h⟩ h0]
        dsimp only
        frame_out
        exact keys_stored m c ⟨n + 1, h⟩ _ _ r d
      · rw [outsAt0_A m c ⟨n + 1, h⟩ h0]
        dsimp only
        frame_out
        exact values_stored m c ⟨n + 1, h⟩ _ _ r d
    · have hn : n < cfg0.N := Nat.lt_of_succ_lt h
      have hs : seq ⟨n + 1, h⟩ = seq ⟨n, hn⟩ := Fin.ext (by show (n + 1) / 32 = n / 32; omega)
      rw [hs]
      refine ⟨fun r d => ?_, fun r d => ?_⟩
      · rw [outsAt0_B m c ⟨n + 1, h⟩ h0]
        exact (ih hn).1 r d
      · rw [outsAt0_B m c ⟨n + 1, h⟩ h0]
        exact (ih hn).2 r d

/-- A head's scores at a point, from arrays that hold the padded keys. -/
theorem score_of (kb : FVec Ideal S576x512 .bf16)
    (hk : ∀ (kk : Fin 576) (w : Fin 512), kb (ix2 kk w) = Cert.Attn.padded (K m c) (seq t) (64 * (t.val % 32) + kk.val) w)
    (b : Vec Ideal S1x64x576 .f32) (h : Fin 8) (hb : ∀ r kk, b (ix3 0 r kk) = B m c (ix3 h r kk)) (r : Fin 64) :
    Cert.KernelAttnIdeal.Head.scoreAt (chunk t) kb (iblk m c 0 t) b h r = Cert.Attn.score (Q m c) (K m c) (B m c) (seq t) (chunk t) h r := by
  funext kk
  rw [Cert.Attn.score_scaled]
  unfold Cert.KernelAttnIdeal.Head.scoreAt
  simp only [hk, hb, read0 m c t]

/-- The block a point writes back. -/
theorem out (h : Fin 8) (r : Fin 64) (e : Fin 64) : (outsAt0 m c t.val t.isLt).1 (ix3 0 r (Cert.Attn.lane h e))
    = Cert.Attn.mean (Cert.Attn.score (Q m c) (K m c) (B m c) (seq t) (chunk t) h r)
        (fun kk => Cert.Attn.padded (U m c) (seq t) (64 * (t.val % 32) + kk.val) (Cert.Attn.lane h e)) := by
  have bias : ∀ (h : Fin 8) (inb) (r : Fin 64) (kk : Fin 576),
      (View.ld (iblk m c 3 t : FVec Ideal S8x64x576 .f32) (Rect.unit ![h.val, 0, 0] ![1, 64, 576] inb) : Vec Ideal S1x64x576 .f32) (ix3 0 r kk) = B m c (ix3 h r kk) :=
    fun h inb r kk => (ld_bias _ h _ rfl inb r kk).trans (read3 m c t h r kk)
  have key : ∀ (kb vb : FVec Ideal S576x512 .bf16) (inb : ∀ h : Fin 8, _),
      (∀ (kk : Fin 576) (w : Fin 512), kb (ix2 kk w) = Cert.Attn.padded (K m c) (seq t) (64 * (t.val % 32) + kk.val) w) →
      (∀ (kk : Fin 576) (w : Fin 512), vb (ix2 kk w) = Cert.Attn.padded (U m c) (seq t) (64 * (t.val % 32) + kk.val) w) → _ :=
    fun kb vb inb hk hv =>
      (Cert.KernelAttnIdeal.Head.stored_apply (chunk t) (grid0.coords t) (idx t).2.2.2.2.1 kb vb (iblk m c 0 t)
        (fun g => View.ld (iblk m c 3 t : FVec Ideal S8x64x576 .f32) (Rect.unit ![g.val, 0, 0] ![1, 64, 576] (inb g))) h r e).trans
      ((congrArg₂ Cert.Attn.mean (score_of m c t kb hk _ h (bias h (inb h)) r) (funext fun kk => hv kk (Cert.Attn.lane h e))))
  have inb : ∀ h : Fin 8, ∀ a, (![h.val, 0, 0] : Fin 3 → ℕ) a + (![1, 64, 576] : Fin 3 → ℕ) a ≤ S8x64x576.size a := by
    intro h a
    match a with
    | ⟨0, _⟩ => show h.val + 1 ≤ 8; omega
    | ⟨1, _⟩ => show 0 + 64 ≤ 64; omega
    | ⟨2, _⟩ => show 0 + 576 ≤ 576; omega
  by_cases h0 : t.val % 32 = 0
  · rw [outsAt0_A m c t h0]
    dsimp only
    frame_out
    refine key _ _ inb (fun kk w => ?_) (fun kk w => ?_)
    · exact (ld_window t _ _ (idx t).2.2.2.2.2 _ kk w).trans (keys_stored m c t _ _ _ _)
    · exact (ld_window t _ _ (idx t).2.2.2.2.2 _ kk w).trans (values_stored m c t _ _ _ _)
  · have hp : t.val - 1 < cfg0.N := Nat.lt_of_le_of_lt (Nat.sub_le _ _) t.isLt
    have hs : seq ⟨t.val - 1, hp⟩ = seq t := Fin.ext (by show (t.val - 1) / 32 = t.val / 32; omega)
    rw [outsAt0_B m c t h0]
    dsimp only
    frame_out
    refine key _ _ inb (fun kk w => ?_) (fun kk w => ?_)
    · refine (ld_window t _ _ (idx t).2.2.2.2.2 _ kk w).trans ?_
      rw [Idealize.ShloMosaic.read_unread_whole]
      refine ((carried m c (t.val - 1) hp).1 _ _).trans ?_
      rw [hs]
    · refine (ld_window t _ _ (idx t).2.2.2.2.2 _ kk w).trans ?_
      rw [Idealize.ShloMosaic.read_unread_whole]
      refine ((carried m c (t.val - 1) hp).2 _ _).trans ?_
      rw [hs]

/-- The launch's array at one element. -/
theorem result (b : Fin 8) (n : Fin 32) (r : Fin 64) (h : Fin 8) (e : Fin 64) :
    Cert.KernelAttnIdeal.Value.G4 m c (ix3 b (Cert.Attn.row n r) (Cert.Attn.lane h e))
    = Cert.Attn.mean (Cert.Attn.score (Q m c) (K m c) (B m c) b n h r)
        (fun kk => Cert.Attn.padded (U m c) b (64 * n.val + kk.val) (Cert.Attn.lane h e)) := by
  have hp : 32 * b.val + n.val < cfg0.N := Nat.lt_of_lt_of_eq (by omega) N_0.symm
  have hb : seq ⟨32 * b.val + n.val, hp⟩ = b := Fin.ext (by show (32 * b.val + n.val) / 32 = b.val; omega)
  have hn : chunk ⟨32 * b.val + n.val, hp⟩ = n := Fin.ext (by show (32 * b.val + n.val) % 32 = n.val; omega)
  have hn' : (32 * b.val + n.val) % 32 = n.val := by omega
  have o := out m c ⟨32 * b.val + n.val, hp⟩ h r e
  rw [hb, hn] at o
  simp only [hn'] at o
  refine Eq.trans ?_ o
  have hq : Cert.KernelAttnIdeal.Value.pt4Of (ix3 b (Cert.Attn.row n r) (Cert.Attn.lane h e)) = 32 * b.val + n.val := by
    show 32 * (b.val / 1 - 0) + 1 * ((64 * n.val + r.val) / 64 - 0) + 1 * ((64 * h.val + e.val) / 512 - 0) = _
    omega
  have hl : Cert.KernelAttnIdeal.Value.loc4Of (ix3 b (Cert.Attn.row n r) (Cert.Attn.lane h e)) = ix3 0 r (Cert.Attn.lane h e) := by
    funext a
    match a with
    | ⟨0, _⟩ => exact Fin.ext (Nat.mod_one _)
    | ⟨1, _⟩ => exact Fin.ext (by show (64 * n.val + r.val) % 64 = r.val; omega)
    | ⟨2, _⟩ => exact Fin.ext (by show (64 * h.val + e.val) % 512 = 64 * h.val + e.val; omega)
  unfold Cert.KernelAttnIdeal.Value.G4
  rw [hl, dif_pos (hq ▸ hp), ← Cert.KernelAttnIdeal.Value.outsAt0_sweep m c _ (hq ▸ hp), same m c _ _ (hq ▸ hp) hp hq]

end Cert.KernelAttnIdeal.Body

end
-- ==== Proof.MergeMath.lean ====
/-
  The mathematics of the merge: the two mixed paths, the residual, the second norm, the router's logits, and the weights
  it gives the two experts it takes.
-/
module

public import Idealize.ShloMosaic.Lib.Pointwise

@[expose] public section

noncomputable section

namespace Cert.Merge

open Idealize.ShloMosaic

variable (x0 : FVec Ideal ⟨2, ![16384, 1024]⟩ .f32) (x1 x2 : FVec Ideal ⟨2, ![16384, 512]⟩ .bf16) (x3 : FVec Ideal ⟨2, ![16384, 2048]⟩ .bf16)
  (x4 x5 : FVec Ideal ⟨2, ![512, 1024]⟩ .f32) (x6 : FVec Ideal ⟨2, ![1024, 1024]⟩ .f32) (x7 : FVec Ideal ⟨1, ![1024]⟩ .f32)
  (x8 : FVec Ideal ⟨2, ![1024, 4]⟩ .f32) (x9 : FVec Ideal ⟨1, ![4]⟩ .f32) (x10 : FVec Ideal ⟨2, ![1024, 32]⟩ .f32) (x11 : FVec Ideal ⟨1, ![32]⟩ .f32)

/-- The two paths of token `n`, gated and added. -/
def mixed (n : Fin 16384) (d : Fin 1024) : EReal :=
  x3 (ix2 n ⟨d.val, by omega⟩) * (∑ k : Fin 512, x1 (ix2 n k) * x4 (ix2 k d))
    + x3 (ix2 n ⟨1024 + d.val, by omega⟩) * ∑ k : Fin 512, x2 (ix2 n k) * x5 (ix2 k d)

/-- The residual. -/
def res (n : Fin 16384) (d : Fin 1024) : EReal := x0 (ix2 n d) + ∑ k : Fin 1024, mixed x1 x2 x3 x4 x5 n k * x6 (ix2 k d)

/-- Its second norm. -/
def nrm (n : Fin 16384) (d : Fin 1024) : EReal :=
  res x0 x1 x2 x3 x4 x5 x6 n d
    * Ideal.rsqrt (Ideal.div (∑ k, res x0 x1 x2 x3 x4 x5 x6 n k * res x0 x1 x2 x3 x4 x5 x6 n k) (Ideal.ofBits .f32 0x44800000#32)
      + Ideal.ofBits .f32 0x358637BD#32)
    * x7 (ix1 d)

/-- The groups' logits. -/
def glogit (n : Fin 16384) (g : Fin 4) : EReal := (∑ k : Fin 1024, nrm x0 x1 x2 x3 x4 x5 x6 x7 n k * x8 (ix2 k g)) + x9 (ix1 g)

/-- The experts' logits. -/
def elogit (n : Fin 16384) (e : Fin 32) : EReal := (∑ k : Fin 1024, nrm x0 x1 x2 x3 x4 x5 x6 x7 n k * x10 (ix2 k e)) + x11 (ix1 e)

/-- Expert `e` of group `g`. -/
abbrev ex (g : Fin 4) (e : Fin 8) : Fin 32 := ⟨g.val * 8 + e.val, by omega⟩

/-- The weights: group `g` is taken, and of its experts `a` and `b`. -/
def weight (G : Fin 4 → EReal) (E : Fin 32 → EReal) (g : Fin 4) (a b : Fin 8) (l : Fin 128) : EReal :=
  if l.val = (ex g a).val then
    Ideal.div 1 (1 + Ideal.exp (E (ex g b) - E (ex g a))) * Ideal.div 1 (∑ g' : Fin 4, Ideal.exp (G g' - G g))
  else if l.val = (ex g b).val then
    Ideal.div (Ideal.exp (E (ex g b) - E (ex g a))) (1 + Ideal.exp (E (ex g b) - E (ex g a))) * Ideal.div 1 (∑ g' : Fin 4, Ideal.exp (G g' - G g))
  else 0

end Cert.Merge

end
-- ==== Proof.MergeRef.lean ====
/-
  The plain reference of the merge, read at one element: the residual, the second norm and the logits.
-/
module

public import proofs.«01_k».proof.Proof.Gen.ReferenceMergeIdeal.Read
public import proofs.«01_k».proof.Proof.MergeMath

@[expose] public section

set_option maxRecDepth 16384

noncomputable section

namespace Cert.ReferenceMergeIdeal.Whole

open Idealize.ShloMosaic
open Cert.ReferenceMergeIdeal Cert.ReferenceMergeIdeal.Read

variable (x0 : FVec Ideal S16384x1024 .f32) (x1 x2 : FVec Ideal S16384x512 .bf16) (x3 : FVec Ideal S16384x2048 .bf16)
  (x4 x5 : FVec Ideal S512x1024 .f32) (x6 : FVec Ideal S1024x1024 .f32) (x7 : FVec Ideal S1024 .f32)
  (x8 : FVec Ideal S1024x4 .f32) (x9 : FVec Ideal S4 .f32) (x10 : FVec Ideal S1024x32 .f32) (x11 : FVec Ideal S32 .f32)

/-- The gated sum of the two paths. -/
theorem v9 (n : Fin 16384) (d : Fin 1024) :
    val_main_v9 (F := Ideal) x1 x2 x3 x4 x5 (ix2 n d) = Cert.Merge.mixed x1 x2 x3 x4 x5 n d := by
  unfold Cert.Merge.mixed
  pointwise [val_main_v9, val_main_v8, val_main_v7, val_main_v6, val_main_v5, val_main_v4, val_main_v3, val_main_v2, val_main_v1, val_main_v0]

/-- The residual. -/
theorem v11 (n : Fin 16384) (d : Fin 1024) :
    val_main_v11 (F := Ideal) x0 x1 x2 x3 x4 x5 x6 (ix2 n d) = Cert.Merge.res x0 x1 x2 x3 x4 x5 x6 n d := by
  unfold Cert.Merge.res
  pointwise [val_main_v11, val_main_v10]
  simp only [v9]

/-- The second norm. -/
theorem v24 (n : Fin 16384) (d : Fin 1024) :
    val_main_v24 (F := Ideal) x0 x1 x2 x3 x4 x5 x6 x7 (ix2 n d) = Cert.Merge.nrm x0 x1 x2 x3 x4 x5 x6 x7 n d := by
  unfold Cert.Merge.nrm
  pointwise [val_main_v24, val_main_v23, val_main_v22, val_main_v21, val_main_v20, val_main_v19, val_main_v18, val_main_v17, val_main_v16,
    val_main_v15, val_main_v14, val_main_v13, val_main_v12, val_main_cst, val_main_cst_0, val_main_cst_1]
  simp only [v11]

/-- The groups' logits. -/
theorem v28 (n : Fin 16384) (g : Fin 4) :
    val_main_v28 (F := Ideal) x0 x1 x2 x3 x4 x5 x6 x7 x8 x9 (ix2 n g) = Cert.Merge.glogit x0 x1 x2 x3 x4 x5 x6 x7 x8 x9 n g := by
  unfold Cert.Merge.glogit
  pointwise [val_main_v28, val_main_v27, val_main_v26, val_main_v25]
  simp only [v24]

/-- The experts' logits. -/
theorem v43 (n : Fin 16384) (e : Fin 32) :
    val_main_v43 (F := Ideal) x0 x1 x2 x3 x4 x5 x6 x7 x10 x11 (ix2 n e) = Cert.Merge.elogit x0 x1 x2 x3 x4 x5 x6 x7 x10 x11 n e := by
  unfold Cert.Merge.elogit
  pointwise [val_main_v43, val_main_v42, val_main_v41, val_main_v40]
  simp only [v24]

/-- The experts' logits, group by group. -/
theorem v44 (n : Fin 16384) (g : Fin 4) (e : Fin 8) :
    val_main_v44 (F := Ideal) x0 x1 x2 x3 x4 x5 x6 x7 x10 x11 (ix3 n g e)
      = Cert.Merge.elogit x0 x1 x2 x3 x4 x5 x6 x7 x10 x11 n (Cert.Merge.ex g e) := by
  pointwise [val_main_v44]
  rw [v43]

end Cert.ReferenceMergeIdeal.Whole

end
-- ==== Proof.MergePre.lean ====
/-
  What the precondition of the merge says: the router's weights are bounded.
-/
module

public import proofs.«01_k».proof.Proof.Gen.Pre_bounded
public import proofs.«01_k».proof.Proof.AttnPre

@[expose] public section

set_option maxRecDepth 16384

noncomputable section

namespace Cert.Pre_bounded.Read

open Idealize.ShloMosaic
open Cert.Pre_bounded Cert.Pre_bounded.Gen Cert.Attn

instance : Subsingleton S_.Idx := ⟨fun a b => funext fun i => i.elim0⟩

/-- The word of the bound. -/
theorem bound : Ideal.ofBits .f32 0x4E800000#32 = (((2 : ℝ) ^ 30 : ℝ) : EReal) := by
  simp [Ideal.ofBits, Ideal.ieee]
  exact_mod_cast (by norm_num : (8388608 : ℝ) * 2 ^ 7 = 2 ^ 30)

/-- A value whose magnitude lies below the bound is a real below the bound. -/
theorem real_of_abs (x : EReal) (h : Ideal.cmp .olt (max x (-x)) (Ideal.ofBits .f32 0x4E800000#32) = 1#1) : ∃ r : ℝ, x = r ∧ |r| ≤ 2 ^ 30 := by
  rw [bound] at h
  have h' : max x (-x) < (((2 : ℝ) ^ 30 : ℝ) : EReal) := by
    by_contra hn
    have e : Ideal.cmp .olt (max x (-x)) (((2 : ℝ) ^ 30 : ℝ) : EReal) = BitVec.ofBool (decide (max x (-x) < (((2 : ℝ) ^ 30 : ℝ) : EReal))) := rfl
    rw [e, decide_eq_false hn] at h
    exact absurd h (by decide)
  obtain ⟨h1, h2⟩ := max_lt_iff.mp h'
  have hr : IsReal x := by
    refine IsReal.of_ne (lt_of_lt_of_le h1 le_top).ne ?_
    rintro rfl
    rw [EReal.neg_bot] at h2
    exact absurd h2 (not_lt.mpr le_top)
  obtain ⟨r, rfl⟩ := hr
  rw [← EReal.coe_neg] at h2
  exact ⟨r, rfl, abs_le.mpr ⟨by linarith [EReal.coe_lt_coe_iff.mp h2], (EReal.coe_lt_coe_iff.mp h1).le⟩⟩

/-- The precondition, read: the norm's weights and the router's weights and biases are reals of at most the bound. -/
theorem arrays (x0 : FVec Ideal S16384x1024 .f32) (x1 x2 : FVec Ideal S16384x512 .bf16) (x3 : FVec Ideal S16384x2048 .bf16)
    (x4 x5 : FVec Ideal S512x1024 .f32) (x6 : FVec Ideal S1024x1024 .f32) (x7 : FVec Ideal S1024 .f32)
    (x8 : FVec Ideal S1024x4 .f32) (x9 : FVec Ideal S4 .f32) (x10 : FVec Ideal S1024x32 .f32) (x11 : FVec Ideal S32 .f32)
    (h : fn (F := Ideal) x0 x1 x2 x3 x4 x5 x6 x7 x8 x9 x10 x11 ix0 = 1#1) :
    (∀ i, ∃ r : ℝ, x7 i = r ∧ |r| ≤ 2 ^ 30) ∧ (∀ i, ∃ r : ℝ, x8 i = r ∧ |r| ≤ 2 ^ 30) ∧ (∀ i, ∃ r : ℝ, x9 i = r ∧ |r| ≤ 2 ^ 30)
      ∧ (∀ i, ∃ r : ℝ, x10 i = r ∧ |r| ≤ 2 ^ 30) ∧ (∀ i, ∃ r : ℝ, x11 i = r ∧ |r| ≤ 2 ^ 30) := by
  unfold fn at h
  dsimp only at h
  unfold fn_part1 at h
  dsimp only at h
  obtain ⟨h, h11⟩ := Cert.Pre_finite.Read.both h
  obtain ⟨h, h10⟩ := Cert.Pre_finite.Read.both h
  obtain ⟨h, h9⟩ := Cert.Pre_finite.Read.both h
  obtain ⟨h7, h8⟩ := Cert.Pre_finite.Read.both h
  exact ⟨fun i => real_of_abs _ (Host.reduce_andi_all _ _ _ _ _ h7 i), fun i => real_of_abs _ (Host.reduce_andi_all _ _ _ _ _ h8 i),
    fun i => real_of_abs _ (Host.reduce_andi_all _ _ _ _ _ h9 i), fun i => real_of_abs _ (Host.reduce_andi_all _ _ _ _ _ h10 i),
    fun i => real_of_abs _ (Host.reduce_andi_all _ _ _ _ _ h11 i)⟩

end Cert.Pre_bounded.Read

end
-- ==== Proof.Route.lean ====
/-
  The order in which the router takes its candidates: the greater value first, and of equal values the earlier place. A
  stable sort lists them in that order; the kernel finds the first of a set by a maximum and the least place that has it.
-/
module

public import Idealize.ShloMosaic.Lib.Pointwise
public import Idealize.ShloMosaic.Lib.SortFacts

@[expose] public section

noncomputable section

namespace Cert.Route

open Idealize.ShloMosaic

variable {n : ℕ}

/-- Place `a` is taken before place `b`. -/
def Before (f : Fin n → EReal) (a b : Fin n) : Prop := f b < f a ∨ (f a = f b ∧ a < b)

/-- Place `i` is the first that is taken of the places where `p` holds. -/
structure First (f : Fin n → EReal) (p : Fin n → Prop) (i : Fin n) : Prop where
  mem : p i
  before : ∀ j, p j → j ≠ i → Before f i j

/-- A place before another has at least its value. -/
theorem Before.le {f : Fin n → EReal} {a b : Fin n} (h : Before f a b) : f b ≤ f a := h.elim le_of_lt fun e => e.1.ge

/-- The first place has the largest value of those considered. -/
theorem First.le {f : Fin n → EReal} {p : Fin n → Prop} {i : Fin n} (h : First f p i) (j : Fin n) (hj : p j) : f j ≤ f i := by
  by_cases e : j = i
  · rw [e]
  · exact (h.before j hj e).le

/-- Of the places with the first one's value none is earlier. -/
theorem First.least {f : Fin n → EReal} {p : Fin n → Prop} {i : Fin n} (h : First f p i) (j : Fin n) (hj : p j) (e : f j = f i) : i ≤ j := by
  by_cases hne : j = i
  · exact hne.ge
  · rcases h.before j hj hne with hlt | ⟨_, hlt⟩
    · exact absurd e hlt.ne
    · exact hlt.le

/-- Inserting an earlier place into a list in order leaves it in order. -/
theorem insert_ordered (f : Fin n → EReal) (R : Fin n → Fin n → Bool) (hR : ∀ a b, R a b = true ↔ f b < f a) (a : Fin n) (l : List (Fin n))
    (hl : l.Pairwise (Before f)) (ha : ∀ b ∈ l, a < b) : (insertBefore R a l).Pairwise (Before f) := by
  induction l with
  | nil => exact List.pairwise_singleton _ _
  | cons b l ih =>
    obtain ⟨hb, hl'⟩ := List.pairwise_cons.mp hl
    unfold insertBefore
    by_cases h : R b a = true
    · rw [if_pos h]
      refine List.pairwise_cons.mpr ⟨fun x hx => ?_, ih hl' fun x hx => ha x (List.mem_cons_of_mem _ hx)⟩
      rcases List.mem_cons.mp ((perm_insertBefore R a l).mem_iff.mp hx) with rfl | hx'
      · exact Or.inl ((hR _ _).mp h)
      · exact hb x hx'
    · rw [if_neg h]
      have hba : f b ≤ f a := not_lt.mp fun hlt => h ((hR _ _).mpr hlt)
      refine List.pairwise_cons.mpr ⟨fun x hx => ?_, hl⟩
      rcases List.mem_cons.mp hx with rfl | hx'
      · rcases hba.lt_or_eq with hlt | heq
        · exact Or.inl hlt
        · exact Or.inr ⟨heq.symm, ha _ List.mem_cons_self⟩
      · rcases ((hb x hx').le.trans hba).lt_or_eq with hlt | heq
        · exact Or.inl hlt
        · exact Or.inr ⟨heq.symm, ha x hx⟩

/-- The stable sort of places in increasing order is in the order of the taking. -/
theorem sort_ordered (f : Fin n → EReal) (R : Fin n → Fin n → Bool) (hR : ∀ a b, R a b = true ↔ f b < f a) (l : List (Fin n))
    (hl : l.Pairwise (· < ·)) : (stableSort R l).Pairwise (Before f) := by
  induction l with
  | nil => exact List.Pairwise.nil
  | cons a l ih =>
    obtain ⟨ha, hl'⟩ := List.pairwise_cons.mp hl
    unfold stableSort
    exact insert_ordered f R hR a _ (ih hl') fun b hb => ha b ((perm_stableSort R l).mem_iff.mp hb)

/-- Of two sorted places the earlier is taken before the later. -/
theorem sorted_before (f : Fin n → EReal) (R : Fin n → Fin n → Bool) (hR : ∀ a b, R a b = true ↔ f b < f a) (i j : Fin n) (h : i < j) :
    Before f (sortedFrom R i) (sortedFrom R j) :=
  List.pairwise_iff_get.mp (sort_ordered f R hR _ (List.pairwise_lt_finRange n)) _ _ h

/-- The sort's first place is the first of all. -/
theorem sorted_first [NeZero n] (f : Fin n → EReal) (R : Fin n → Fin n → Bool) (hR : ∀ a b, R a b = true ↔ f b < f a) :
    First f (fun _ => True) (sortedFrom R 0) := by
  refine ⟨trivial, fun j _ hj => ?_⟩
  obtain ⟨k, rfl⟩ := sortedFrom_surjective R j
  exact sorted_before f R hR _ _ (Fin.pos_iff_ne_zero.mpr fun e => hj (congrArg _ e))

/-- The sort's second place is the first of the others. -/
theorem sorted_second (f : Fin (n + 2) → EReal) (R : Fin (n + 2) → Fin (n + 2) → Bool) (hR : ∀ a b, R a b = true ↔ f b < f a) :
    First f (fun j => j ≠ sortedFrom R 0) (sortedFrom R 1) := by
  refine ⟨fun e => ?_, fun j hj hne => ?_⟩
  · exact absurd (sortedFrom_injective R e) (by simp)
  · obtain ⟨k, rfl⟩ := sortedFrom_surjective R j
    have h0 : k ≠ 0 := fun e => hj (congrArg _ e)
    have h1 : k ≠ 1 := fun e => hne (congrArg _ e)
    refine sorted_before f R hR _ _ (Fin.lt_def.mpr ?_)
    have e0 : k.val ≠ 0 := fun e => h0 (Fin.ext e)
    have e1 : k.val ≠ 1 := fun e => h1 (Fin.ext e)
    show 1 % (n + 2) < k.val
    rw [Nat.mod_eq_of_lt (by omega)]
    omega

/-- A select on a set bit takes the first. -/
theorem pick {α : Type} {m : BitVec 1} (h : m = 1#1) (x y : α) : Scalar.select m x y = x := by
  subst h
  rfl

/-- A select on a clear bit takes the second. -/
theorem skip {α : Type} {m : BitVec 1} (h : m ≠ 1#1) (x y : α) : Scalar.select m x y = y := by
  rcases BitVec.eq_zero_or_eq_one m with h0 | h1
  · subst h0
    rfl
  · exact absurd h1 h

/-- The maximum over the places where the mask is set, the others read as `lo`, is the first one's value. -/
theorem masked_top (f : Fin n → EReal) (m : Fin n → BitVec 1) (lo : EReal) (i : Fin n) (h : First f (fun l => m l = 1#1) i) (hlo : lo ≤ f i) :
    Finset.fold max ⊥ (fun l => Scalar.select (m l) (f l) lo) Finset.univ = f i := by
  refine le_antisymm ((Finset.fold_max_le _).mpr ⟨bot_le, fun l _ => ?_⟩) ((Finset.le_fold_max _).mpr (Or.inr ⟨i, Finset.mem_univ _, ?_⟩))
  · by_cases e : m l = 1#1
    · rw [pick e]
      exact h.le l e
    · rw [skip e]
      exact hlo
  · exact (pick h.mem _ _).ge

/-- The least of the words of the places where a condition holds, a large word elsewhere, is the word of the least place. -/
theorem least_word (c : Fin 128 → BitVec 1) (i : Fin 128) (hi : c i = 1#1) (hmin : ∀ l, c l = 1#1 → i ≤ l) :
    Finset.fold IntOp.minsi 2147483647#32 (fun l : Fin 128 => Scalar.select (c l) (BitVec.ofNat 32 l.val) 128#32) Finset.univ = BitVec.ofNat 32 i.val := by
  have hw : ∀ l : Fin 128, (BitVec.ofNat 32 l.val).toInt = l.val := by decide +kernel
  have hm : ∀ a b : BitVec 32, (IntOp.minsi a b).toInt = min a.toInt b.toInt := by
    intro a b
    unfold IntOp.minsi
    rw [BitVec.slt_eq_decide]
    by_cases h : a.toInt < b.toInt
    · simp [h, h.le]
    · simp [h, le_of_not_gt h]
  refine BitVec.eq_of_toInt_eq ?_
  rw [hw, ← Finset.fold_hom (op' := min) (m := BitVec.toInt) hm]
  refine le_antisymm ((Finset.fold_min_le _).mpr (Or.inr ⟨i, Finset.mem_univ _, ?_⟩)) ((Finset.le_fold_min _).mpr ⟨?_, fun l _ => ?_⟩)
  · rw [pick hi, hw]
  · have := i.isLt
    show (i.val : Int) ≤ 2147483647
    omega
  · by_cases e : c l = 1#1
    · rw [pick e, hw]
      exact_mod_cast hmin l e
    · rw [skip e]
      have := i.isLt
      show (i.val : Int) ≤ 128
      omega

/-- The least place that has the masked maximum is the first one's. -/
theorem masked_place (f : Fin 128 → EReal) (m : Fin 128 → BitVec 1) (lo : EReal) (i : Fin 128) (h : First f (fun l => m l = 1#1) i) :
    Finset.fold IntOp.minsi 2147483647#32
      (fun l : Fin 128 => Scalar.select (IntOp.andi (m l) (Ideal.cmp .oeq (Scalar.select (m l) (f l) lo) (f i))) (BitVec.ofNat 32 l.val) 128#32)
      Finset.univ = BitVec.ofNat 32 i.val := by
  have key : ∀ l, IntOp.andi (m l) (Ideal.cmp .oeq (Scalar.select (m l) (f l) lo) (f i)) = 1#1 ↔ m l = 1#1 ∧ f l = f i := by
    intro l
    have e : Ideal.cmp .oeq (Scalar.select (m l) (f l) lo) (f i) = BitVec.ofBool (decide (Scalar.select (m l) (f l) lo = f i)) := rfl
    rw [e]
    by_cases hl : m l = 1#1
    · rw [pick hl, hl]
      by_cases hf : f l = f i
      · simp [hf, IntOp.andi]
      · simp [hf, IntOp.andi]
    · have h0 : m l = 0#1 := by
        have := BitVec.eq_zero_or_eq_one (m l)
        tauto
      simp [h0, IntOp.andi]
  exact least_word _ i ((key i).mpr ⟨h.mem, rfl⟩) fun l hl => h.least l ((key l).mp hl).1 ((key l).mp hl).2

end Cert.Route

end
-- ==== Proof.MergeTop.lean ====
/-
  The best entries of a row of a matrix, as the plain reference takes them: the values and the places of a stable sort of the
  row, the greater value first.
-/
module

public import proofs.«01_k».proof.Proof.Route

@[expose] public section

noncomputable section

namespace Cert.Route

open Idealize.ShloMosaic

/-- The order of a row's places that its sort decides by. -/
abbrev greater {n : ℕ} (f : Fin n → EReal) (a b : Fin n) : Bool := FloatOps.cmpfTotal (F := Ideal) (φ := .f32) .gt (f a) (f b) == 1#1

theorem greater_iff {n : ℕ} (f : Fin n → EReal) (a b : Fin n) : greater f a b = true ↔ f b < f a := by
  have e : FloatOps.cmpfTotal (F := Ideal) (φ := .f32) .gt (f a) (f b) = BitVec.ofBool (decide (f b < f a)) := rfl
  unfold greater
  rw [e]
  by_cases h : f b < f a
  · rw [decide_eq_true h]
    exact ⟨fun _ => h, fun _ => rfl⟩
  · rw [decide_eq_false h]
    exact ⟨fun h' => absurd h' (by decide), fun h' => absurd h' h⟩

variable {m n k : ℕ} (x : FVec Ideal ⟨2, ![m, n]⟩ .f32) (h : (⟨2, ![m, n]⟩ : Shape).Slices (fun _ => 0) ⟨2, ![m, k]⟩)

theorem along_row (i : Fin m) (j l : Fin n) : (ix2 i j : (⟨2, ![m, n]⟩ : Shape).Idx).along 1 l = ix2 i l := by
  funext a
  match a with
  | ⟨0, _⟩ => rfl
  | ⟨1, _⟩ => rfl

theorem row_order (i : Fin m) (j : Fin n) :
    sortedFrom (greater fun l : Fin n => x ((ix2 i j : (⟨2, ![m, n]⟩ : Shape).Idx).along 1 l)) j = sortedFrom (greater fun l => x (ix2 i l)) j := by
  have e : (fun l : Fin n => x ((ix2 i j : (⟨2, ![m, n]⟩ : Shape).Idx).along 1 l)) = fun l => x (ix2 i l) :=
    funext fun l => congrArg x (along_row i j l)
  rw [e]

/-- The values taken. -/
theorem top_value (i : Fin m) (j : Fin k) (hj : j.val < n) :
    (Host.topK ⟨2, ![m, k]⟩ 1 (FloatOps.cmpfTotal (F := Ideal) (φ := .f32) .gt) x h).1 (ix2 i j)
      = x (ix2 i (sortedFrom (greater fun l => x (ix2 i l)) ⟨j.val, hj⟩)) := by
  have e : (extractStridedSlice ⟨2, ![m, k]⟩ (fun _ => 0) (fun q : (⟨2, ![m, n]⟩ : Shape).Idx => q) h) (ix2 i j) = ix2 i ⟨j.val, hj⟩ := by
    funext a
    refine Fin.ext ?_
    match a with
    | ⟨0, _⟩ => exact Nat.zero_add _
    | ⟨1, _⟩ => exact Nat.zero_add _
  unfold Host.topK
  dsimp only
  unfold Host.sort2
  rw [dif_pos (by decide : 1 < 2)]
  show (fun q : (⟨2, ![m, n]⟩ : Shape).Idx => x (q.along 1 (sortedFrom (greater fun l => x (q.along 1 l)) (q 1))))
    ((extractStridedSlice ⟨2, ![m, k]⟩ (fun _ => 0) (fun q : (⟨2, ![m, n]⟩ : Shape).Idx => q) h) (ix2 i j)) = _
  rw [e]
  exact congrArg x ((along_row i _ _).trans (congrArg (ix2 i) (row_order x i _)))

/-- The places taken. -/
theorem top_place (i : Fin m) (j : Fin k) (hj : j.val < n) :
    (Host.topK ⟨2, ![m, k]⟩ 1 (FloatOps.cmpfTotal (F := Ideal) (φ := .f32) .gt) x h).2 (ix2 i j)
      = BitVec.ofNat 32 (sortedFrom (greater fun l => x (ix2 i l)) ⟨j.val, hj⟩).val := by
  have e : (extractStridedSlice ⟨2, ![m, k]⟩ (fun _ => 0) (fun q : (⟨2, ![m, n]⟩ : Shape).Idx => q) h) (ix2 i j) = ix2 i ⟨j.val, hj⟩ := by
    funext a
    refine Fin.ext ?_
    match a with
    | ⟨0, _⟩ => exact Nat.zero_add _
    | ⟨1, _⟩ => exact Nat.zero_add _
  unfold Host.topK
  dsimp only
  unfold Host.sort2
  rw [dif_pos (by decide : 1 < 2)]
  show (fun q : (⟨2, ![m, n]⟩ : Shape).Idx => BitVec.ofNat 32 (q.along 1 (sortedFrom (greater fun l => x (q.along 1 l)) (q 1)) 1).val)
    ((extractStridedSlice ⟨2, ![m, k]⟩ (fun _ => 0) (fun q : (⟨2, ![m, n]⟩ : Shape).Idx => q) h) (ix2 i j)) = _
  rw [e]
  exact congrArg (fun q : Fin n => BitVec.ofNat 32 q.val) (row_order x i _)

end Cert.Route

end
-- ==== Proof.MergeSoft.lean ====
/-
  The soft maxima of the router: of the groups, whose order is their logits', and of the two experts taken.
-/
module

public import proofs.«01_k».proof.Proof.MergeMath
public import proofs.«01_k».proof.Proof.AttnMath
public import proofs.«01_k».proof.Proof.Route

@[expose] public section

noncomputable section

namespace Cert.Route

open Idealize.ShloMosaic Cert.Attn

/-- Whatever orders the places alike takes the same place first. -/
theorem First.alike {n : ℕ} {f f' : Fin n → EReal} {p : Fin n → Prop} {i : Fin n} (he : ∀ a b, f b < f a ↔ f' b < f' a)
    (h : First f p i) : First f' p i := by
  refine ⟨h.mem, fun j hj hne => ?_⟩
  rcases h.before j hj hne with hlt | ⟨e, hlt⟩
  · exact Or.inl ((he _ _).mp hlt)
  · refine Or.inr ⟨le_antisymm (not_lt.mp fun h' => ?_) (not_lt.mp fun h' => ?_), hlt⟩
    · exact absurd ((he _ _).mpr h') (by rw [e]; exact lt_irrefl _)
    · exact absurd ((he _ _).mpr h') (by rw [e]; exact lt_irrefl _)

/-- The first place of all has the largest value. -/
theorem First.top {n : ℕ} {f : Fin n → EReal} {i : Fin n} (h : First f (fun _ => True) i) : Finset.fold max ⊥ f Finset.univ = f i :=
  le_antisymm ((Finset.fold_max_le _).mpr ⟨bot_le, fun j _ => h.le j trivial⟩) ((Finset.le_fold_max _).mpr (Or.inr ⟨i, Finset.mem_univ _, le_rfl⟩))

/-- A real number less itself, exponentiated. -/
theorem exp_self {x : EReal} (h : IsReal x) : Ideal.exp (x - x) = 1 := by
  obtain ⟨r, rfl⟩ := h
  rw [← EReal.coe_sub, sub_self]
  show ((Real.exp 0 : ℝ) : EReal) = 1
  rw [Real.exp_zero]
  rfl

/-- The soft maximum of reals keeps their order. -/
theorem soft_lt {n : ℕ} (G : Fin n → EReal) (M : EReal) (hG : ∀ g, IsReal (G g)) (hM : IsReal M) (a b : Fin n) :
    Ideal.div (Ideal.exp (G b - M)) (∑ g, Ideal.exp (G g - M)) < Ideal.div (Ideal.exp (G a - M)) (∑ g, Ideal.exp (G g - M)) ↔ G b < G a := by
  choose r hr using hG
  obtain ⟨m, rfl⟩ := hM
  have e : ∀ g, Ideal.exp (G g - (m : EReal)) = ((Real.exp (r g - m) : ℝ) : EReal) := fun g => by
    rw [hr g, ← EReal.coe_sub]
    rfl
  have hs : (∑ g, Ideal.exp (G g - (m : EReal))) = ((∑ g, Real.exp (r g - m) : ℝ) : EReal) := by
    rw [coe_sum]
    exact Finset.sum_congr rfl fun g _ => e g
  have hp : 0 < ∑ g, Real.exp (r g - m) := Finset.sum_pos (fun g _ => Real.exp_pos _) ⟨a, Finset.mem_univ a⟩
  have h0 : ((∑ g, Real.exp (r g - m) : ℝ) : EReal) ≠ 0 := by exact_mod_cast hp.ne'
  rw [hs, e a, e b, hr a, hr b]
  unfold Ideal.div
  rw [if_neg h0, if_neg h0, ← EReal.coe_inv, ← EReal.coe_mul, ← EReal.coe_mul, EReal.coe_lt_coe_iff, EReal.coe_lt_coe_iff,
    mul_lt_mul_iff_left₀ (inv_pos.mpr hp), Real.exp_lt_exp, sub_lt_sub_iff_right]

end Cert.Route

end
-- ==== Proof.MergeTaken.lean ====
/-
  The router of the plain reference, read at one token: the group taken, its two experts, and their weights.
-/
module

public import proofs.«01_k».proof.Proof.MergeRef
public import proofs.«01_k».proof.Proof.MergeTop
public import proofs.«01_k».proof.Proof.MergeSoft

@[expose] public section

set_option maxRecDepth 16384

noncomputable section

namespace Cert.ReferenceMergeIdeal.Whole

open Idealize.ShloMosaic
open Cert.ReferenceMergeIdeal Cert.ReferenceMergeIdeal.Gen Cert.ReferenceMergeIdeal.Read Cert.Route Cert.Attn

variable (x0 : FVec Ideal S16384x1024 .f32) (x1 x2 : FVec Ideal S16384x512 .bf16) (x3 : FVec Ideal S16384x2048 .bf16)
  (x4 x5 : FVec Ideal S512x1024 .f32) (x6 : FVec Ideal S1024x1024 .f32) (x7 : FVec Ideal S1024 .f32)
  (x8 : FVec Ideal S1024x4 .f32) (x9 : FVec Ideal S4 .f32) (x10 : FVec Ideal S1024x32 .f32) (x11 : FVec Ideal S32 .f32)

/-- The groups' logits of a token. -/
abbrev G (n : Fin 16384) : Fin 4 → EReal := Cert.Merge.glogit x0 x1 x2 x3 x4 x5 x6 x7 x8 x9 n
/-- The experts' logits of a token. -/
abbrev E (n : Fin 16384) : Fin 32 → EReal := Cert.Merge.elogit x0 x1 x2 x3 x4 x5 x6 x7 x10 x11 n

/-- The largest group logit. -/
theorem v31 (n : Fin 16384) : val_main_v31 (F := Ideal) x0 x1 x2 x3 x4 x5 x6 x7 x8 x9 (ix1 n) = Finset.fold max ⊥ (G x0 x1 x2 x3 x4 x5 x6 x7 x8 x9 n) Finset.univ := by
  pointwise [val_main_v31, val_main_v30, val_main_cst_3, val_main_v29, val_main_cst_2]
  simp only [v28, floor]
  rw [max_eq_right bot_le]

/-- The soft maximum of the groups' logits. -/
theorem v39 (n : Fin 16384) (g : Fin 4) : val_main_v39 (F := Ideal) x0 x1 x2 x3 x4 x5 x6 x7 x8 x9 (ix2 n g)
    = Ideal.div (Ideal.exp (G x0 x1 x2 x3 x4 x5 x6 x7 x8 x9 n g - Finset.fold max ⊥ (G x0 x1 x2 x3 x4 x5 x6 x7 x8 x9 n) Finset.univ))
        (∑ g', Ideal.exp (G x0 x1 x2 x3 x4 x5 x6 x7 x8 x9 n g' - Finset.fold max ⊥ (G x0 x1 x2 x3 x4 x5 x6 x7 x8 x9 n) Finset.univ)) := by
  pointwise [val_main_v39, val_main_v38, val_main_v37, val_main_v36, val_main_cst_4, val_main_v35, val_main_v34, val_main_v33, val_main_v32]
  simp only [v28, v31]

/-- The group taken. -/
def grp (n : Fin 16384) : Fin 4 := sortedFrom (greater fun l : Fin 4 => val_main_v39 (F := Ideal) x0 x1 x2 x3 x4 x5 x6 x7 x8 x9 (ix2 n l)) 0

theorem values (n : Fin 16384) : val_main_values (F := Ideal) x0 x1 x2 x3 x4 x5 x6 x7 x8 x9 (ix2 n 0)
    = val_main_v39 (F := Ideal) x0 x1 x2 x3 x4 x5 x6 x7 x8 x9 (ix2 n (grp x0 x1 x2 x3 x4 x5 x6 x7 x8 x9 n)) :=
  top_value _ _ n 0 (by decide)

theorem indices (n : Fin 16384) : val_main_indices (F := Ideal) x0 x1 x2 x3 x4 x5 x6 x7 x8 x9 (ix2 n 0)
    = BitVec.ofNat 32 (grp x0 x1 x2 x3 x4 x5 x6 x7 x8 x9 n).val :=
  top_place _ _ n 0 (by decide)

/-- The place of a group, as its start index. -/
theorem wrapped : ∀ g : Fin 4, Scalar.select (IntOp.cmpi CmpIPredicate.slt (BitVec.ofNat 32 g.val) 0#32) (IntOp.addi (BitVec.ofNat 32 g.val) 4#32)
    (BitVec.ofNat 32 g.val) = BitVec.ofNat 32 g.val := by decide +kernel

theorem in_range : ∀ g : Fin 4, Finset.fold IntOp.andi (1#1) (fun x : Fin 1 => IntOp.andi (IntOp.cmpi CmpIPredicate.sge (BitVec.ofNat 32 g.val) 0#32)
    (IntOp.cmpi CmpIPredicate.sle (BitVec.ofNat 32 g.val) 3#32)) Finset.univ = 1#1 := by decide +kernel

theorem clamped : ∀ g : Fin 4, min (BitVec.ofNat 32 g.val).toInt.toNat 3 = g.val := by decide +kernel

theorem call0_v11 (n : Fin 16384) : val_main_call0_v11 (F := Ideal) x0 x1 x2 x3 x4 x5 x6 x7 x8 x9 (ix2 n 0) = 1#1 := by
  pointwise [val_main_call0_v11, val_main_call0_c_3, val_main_call0_v10, val_main_call0_v9, val_main_call0_v8, val_main_call0_v7,
    val_main_call0_c_1, val_main_call0_v6, val_main_call0_v5, val_main_call0_c_2, val_main_call0_v4, val_main_call0_v3, val_main_call0_v2,
    val_main_call0_c_0, val_main_call0_v1, val_main_call0_v0, val_main_call0_c, val_main_v45]
  rw [indices, wrapped]
  exact in_range _

theorem call0_v4 (n : Fin 16384) : val_main_call0_v4 (F := Ideal) x0 x1 x2 x3 x4 x5 x6 x7 x8 x9 (ix3 n 0 0)
    = BitVec.ofNat 32 (grp x0 x1 x2 x3 x4 x5 x6 x7 x8 x9 n).val := by
  pointwise [val_main_call0_v4, val_main_call0_v3, val_main_call0_v2,
    val_main_call0_c_0, val_main_call0_v1, val_main_call0_v0, val_main_call0_c, val_main_v45]
  rw [indices]
  exact wrapped _

/-- The gathered group: element `(n, 0, e)` is the operand's at the group the start index names. -/
theorem gather_apply (x : FVec Ideal S16384x4x8 .f32) (idx : IVec S16384x1x1 32) (n : Fin 16384) (e : Fin 8) (g : Fin 4)
    (hg : min (idx (ix3 n 0 0)).toInt.toNat 3 = g.val) :
    Host.gather gather_S16384x4x8_S16384x1x1_S16384x1x8_2_1_0_0_1_2_118 x idx (ix3 n 0 e) = x (ix3 n g e) := by
  unfold Host.gather
  congr 1
  funext a
  refine Fin.ext ?_
  show GatherDims.start _ (ix3 n 0 e) idx a + GatherDims.batchCoord _ (ix3 n 0 e) a + GatherDims.offCoord _ (ix3 n 0 e) a = _
  match a with
  | ⟨0, _⟩ =>
    have hs : GatherDims.start gather_S16384x4x8_S16384x1x1_S16384x1x8_2_1_0_0_1_2_118 (ix3 n 0 e) idx 0 = 0 := by
      unfold GatherDims.start
      exact dif_neg (fun hm => absurd (List.mem_singleton.mp hm) (by decide))
    have hb : GatherDims.batchCoord gather_S16384x4x8_S16384x1x1_S16384x1x8_2_1_0_0_1_2_118 (ix3 n 0 e) 0 = n.val := by
      unfold GatherDims.batchCoord
      exact dif_pos (List.mem_singleton.mpr rfl)
    have ho : GatherDims.offCoord gather_S16384x4x8_S16384x1x1_S16384x1x8_2_1_0_0_1_2_118 (ix3 n 0 e) 0 = 0 :=
      GatherDims.offCoord_eq_zero _ _ _ (fun h => ((GatherDims.mem_sKept _ _).mp h).2 (List.mem_singleton.mpr rfl))
    exact (congrArg₂ (· + ·) (congrArg₂ (· + ·) hs hb) ho).trans (by show 0 + n.val + 0 = n.val; omega)
  | ⟨1, _⟩ =>
    have hs : GatherDims.start gather_S16384x4x8_S16384x1x1_S16384x1x8_2_1_0_0_1_2_118 (ix3 n 0 e) idx 1 = g.val := by
      unfold GatherDims.start
      refine (dif_pos (List.mem_singleton.mpr rfl)).trans ?_
      refine Eq.trans ?_ hg
      refine congrArg (fun z => min (idx z).toInt.toNat 3) ?_
      funext b
      refine Fin.ext ?_
      match b with
      | ⟨0, _⟩ => rfl
      | ⟨1, _⟩ => rfl
      | ⟨2, _⟩ => rfl
    have hb : GatherDims.batchCoord gather_S16384x4x8_S16384x1x1_S16384x1x8_2_1_0_0_1_2_118 (ix3 n 0 e) 1 = 0 :=
      GatherDims.batchCoord_eq_zero _ _ _ (fun h => absurd (List.mem_singleton.mp h) (by decide))
    have ho : GatherDims.offCoord gather_S16384x4x8_S16384x1x1_S16384x1x8_2_1_0_0_1_2_118 (ix3 n 0 e) 1 = 0 :=
      GatherDims.offCoord_eq_zero _ _ _ (fun h => ((GatherDims.mem_sKept _ _).mp h).1 (List.mem_singleton.mpr rfl))
    exact (congrArg₂ (· + ·) (congrArg₂ (· + ·) hs hb) ho).trans rfl
  | ⟨2, _⟩ =>
    have hs : GatherDims.start gather_S16384x4x8_S16384x1x1_S16384x1x8_2_1_0_0_1_2_118 (ix3 n 0 e) idx 2 = 0 := by
      unfold GatherDims.start
      exact dif_neg (fun hm => absurd (List.mem_singleton.mp hm) (by decide))
    have hb : GatherDims.batchCoord gather_S16384x4x8_S16384x1x1_S16384x1x8_2_1_0_0_1_2_118 (ix3 n 0 e) 2 = 0 :=
      GatherDims.batchCoord_eq_zero _ _ _ (fun h => absurd (List.mem_singleton.mp h) (by decide))
    have ho : GatherDims.offCoord gather_S16384x4x8_S16384x1x1_S16384x1x8_2_1_0_0_1_2_118 (ix3 n 0 e) 2 = e.val := by
      unfold GatherDims.offCoord
      exact dif_pos ((GatherDims.mem_sKept _ _).mpr ⟨fun h => absurd (List.mem_singleton.mp h) (by decide),
        fun h => absurd (List.mem_singleton.mp h) (by decide)⟩)
    exact (congrArg₂ (· + ·) (congrArg₂ (· + ·) hs hb) ho).trans (by show 0 + 0 + e.val = e.val; omega)

/-- The logits of the taken group's experts. -/
theorem v47 (n : Fin 16384) (e : Fin 8) : val_main_v47 (F := Ideal) x0 x1 x2 x3 x4 x5 x6 x7 x8 x9 x10 x11 (ix2 n e)
    = E x0 x1 x2 x3 x4 x5 x6 x7 x10 x11 n (Cert.Merge.ex (grp x0 x1 x2 x3 x4 x5 x6 x7 x8 x9 n) e) := by
  pointwise [val_main_v47, val_main_v46, val_main_call0_v13]
  rw [call0_v11]
  show val_main_call0_v12 (F := Ideal) x0 x1 x2 x3 x4 x5 x6 x7 x8 x9 x10 x11 _ = _
  refine Eq.trans ?_ (v44 x0 x1 x2 x3 x4 x5 x6 x7 x10 x11 n (grp x0 x1 x2 x3 x4 x5 x6 x7 x8 x9 n) e)
  unfold val_main_call0_v12
  exact gather_apply _ _ n e _ (by rw [call0_v4]; exact clamped _)

/-- The first expert taken, by its place in its group. -/
def fst (n : Fin 16384) : Fin 8 :=
  sortedFrom (greater fun l : Fin 8 => val_main_v47 (F := Ideal) x0 x1 x2 x3 x4 x5 x6 x7 x8 x9 x10 x11 (ix2 n l)) 0
/-- The second. -/
def snd (n : Fin 16384) : Fin 8 :=
  sortedFrom (greater fun l : Fin 8 => val_main_v47 (F := Ideal) x0 x1 x2 x3 x4 x5 x6 x7 x8 x9 x10 x11 (ix2 n l)) 1

/-- Of the two the first is taken first, and the second first of the others. -/
theorem experts_first (n : Fin 16384) :
    First (fun e => E x0 x1 x2 x3 x4 x5 x6 x7 x10 x11 n (Cert.Merge.ex (grp x0 x1 x2 x3 x4 x5 x6 x7 x8 x9 n) e)) (fun _ => True)
      (fst x0 x1 x2 x3 x4 x5 x6 x7 x8 x9 x10 x11 n)
    ∧ First (fun e => E x0 x1 x2 x3 x4 x5 x6 x7 x10 x11 n (Cert.Merge.ex (grp x0 x1 x2 x3 x4 x5 x6 x7 x8 x9 n) e))
      (fun j => j ≠ fst x0 x1 x2 x3 x4 x5 x6 x7 x8 x9 x10 x11 n) (snd x0 x1 x2 x3 x4 x5 x6 x7 x8 x9 x10 x11 n) := by
  have e : (fun l : Fin 8 => val_main_v47 (F := Ideal) x0 x1 x2 x3 x4 x5 x6 x7 x8 x9 x10 x11 (ix2 n l))
      = fun e => E x0 x1 x2 x3 x4 x5 x6 x7 x10 x11 n (Cert.Merge.ex (grp x0 x1 x2 x3 x4 x5 x6 x7 x8 x9 n) e) :=
    funext fun l => v47 x0 x1 x2 x3 x4 x5 x6 x7 x8 x9 x10 x11 n l
  unfold fst snd
  rw [e]
  exact ⟨sorted_first _ _ (greater_iff _), sorted_second _ _ (greater_iff _)⟩

/-- The group taken is the first of the groups' logits, which are reals. -/
theorem group_first (n : Fin 16384) (h : ∀ g, IsReal (G x0 x1 x2 x3 x4 x5 x6 x7 x8 x9 n g)) :
    First (G x0 x1 x2 x3 x4 x5 x6 x7 x8 x9 n) (fun _ => True) (grp x0 x1 x2 x3 x4 x5 x6 x7 x8 x9 n) := by
  have hM : IsReal (Finset.fold max ⊥ (G x0 x1 x2 x3 x4 x5 x6 x7 x8 x9 n) Finset.univ) := by
    refine IsReal.of_ne (ne_of_lt ?_) (ne_of_gt ?_)
    · exact (Finset.fold_max_lt _).mpr ⟨bot_lt_top, fun g _ => (h g).lt_top⟩
    · exact (Finset.lt_fold_max _).mpr (Or.inr ⟨0, Finset.mem_univ _, (h 0).bot_lt⟩)
  refine First.alike (fun a b => ?_) (sorted_first _ _ (greater_iff _))
  simp only [v39]
  exact soft_lt _ _ h hM a b

/-- Its weight. -/
theorem group_weight (n : Fin 16384) (h : ∀ g, IsReal (G x0 x1 x2 x3 x4 x5 x6 x7 x8 x9 n g)) :
    val_main_values (F := Ideal) x0 x1 x2 x3 x4 x5 x6 x7 x8 x9 (ix2 n 0)
      = Ideal.div 1 (∑ g', Ideal.exp (G x0 x1 x2 x3 x4 x5 x6 x7 x8 x9 n g' - G x0 x1 x2 x3 x4 x5 x6 x7 x8 x9 n (grp x0 x1 x2 x3 x4 x5 x6 x7 x8 x9 n))) := by
  rw [values, v39, (group_first x0 x1 x2 x3 x4 x5 x6 x7 x8 x9 n h).top, exp_self (h _)]

/-- The experts' values and places. -/
theorem values5 (n : Fin 16384) : val_main_values_5 (F := Ideal) x0 x1 x2 x3 x4 x5 x6 x7 x8 x9 x10 x11 (ix2 n 0)
      = E x0 x1 x2 x3 x4 x5 x6 x7 x10 x11 n (Cert.Merge.ex (grp x0 x1 x2 x3 x4 x5 x6 x7 x8 x9 n) (fst x0 x1 x2 x3 x4 x5 x6 x7 x8 x9 x10 x11 n))
    ∧ val_main_values_5 (F := Ideal) x0 x1 x2 x3 x4 x5 x6 x7 x8 x9 x10 x11 (ix2 n 1)
      = E x0 x1 x2 x3 x4 x5 x6 x7 x10 x11 n (Cert.Merge.ex (grp x0 x1 x2 x3 x4 x5 x6 x7 x8 x9 n) (snd x0 x1 x2 x3 x4 x5 x6 x7 x8 x9 x10 x11 n)) :=
  ⟨(top_value _ _ n 0 (by decide)).trans (v47 x0 x1 x2 x3 x4 x5 x6 x7 x8 x9 x10 x11 n _),
    (top_value _ _ n 1 (by decide)).trans (v47 x0 x1 x2 x3 x4 x5 x6 x7 x8 x9 x10 x11 n _)⟩

theorem indices6 (n : Fin 16384) : val_main_indices_6 (F := Ideal) x0 x1 x2 x3 x4 x5 x6 x7 x8 x9 x10 x11 (ix2 n 0)
      = BitVec.ofNat 32 (fst x0 x1 x2 x3 x4 x5 x6 x7 x8 x9 x10 x11 n).val
    ∧ val_main_indices_6 (F := Ideal) x0 x1 x2 x3 x4 x5 x6 x7 x8 x9 x10 x11 (ix2 n 1)
      = BitVec.ofNat 32 (snd x0 x1 x2 x3 x4 x5 x6 x7 x8 x9 x10 x11 n).val :=
  ⟨top_place _ _ n 0 (by decide), top_place _ _ n 1 (by decide)⟩

/-- The larger of the two. -/
theorem v50 (n : Fin 16384) : val_main_v50 (F := Ideal) x0 x1 x2 x3 x4 x5 x6 x7 x8 x9 x10 x11 (ix1 n)
    = E x0 x1 x2 x3 x4 x5 x6 x7 x10 x11 n (Cert.Merge.ex (grp x0 x1 x2 x3 x4 x5 x6 x7 x8 x9 n) (fst x0 x1 x2 x3 x4 x5 x6 x7 x8 x9 x10 x11 n)) := by
  pointwise [val_main_v50, val_main_v49, val_main_cst_8, val_main_v48, val_main_cst_7]
  simp only [floor]
  rw [max_eq_right bot_le]
  obtain ⟨e0, e1⟩ := values5 x0 x1 x2 x3 x4 x5 x6 x7 x8 x9 x10 x11 n
  refine le_antisymm ((Finset.fold_max_le _).mpr ⟨bot_le, fun k _ => ?_⟩) ((Finset.le_fold_max _).mpr (Or.inr ⟨0, Finset.mem_univ _, e0.ge⟩))
  match k with
  | 0 => exact e0.le
  | 1 => exact e1.le.trans ((experts_first x0 x1 x2 x3 x4 x5 x6 x7 x8 x9 x10 x11 n).1.le _ trivial)

theorem v54 (n : Fin 16384) (k : Fin 2) : val_main_v54 (F := Ideal) x0 x1 x2 x3 x4 x5 x6 x7 x8 x9 x10 x11 (ix2 n k)
    = Ideal.exp (val_main_values_5 (F := Ideal) x0 x1 x2 x3 x4 x5 x6 x7 x8 x9 x10 x11 (ix2 n k)
      - E x0 x1 x2 x3 x4 x5 x6 x7 x10 x11 n (Cert.Merge.ex (grp x0 x1 x2 x3 x4 x5 x6 x7 x8 x9 n) (fst x0 x1 x2 x3 x4 x5 x6 x7 x8 x9 x10 x11 n))) := by
  pointwise [val_main_v54, val_main_v53, val_main_v52, val_main_v51]
  rw [v50]

/-- The weight of each expert taken. -/
theorem v60 (n : Fin 16384) (k : Fin 2) : val_main_v60 (F := Ideal) x0 x1 x2 x3 x4 x5 x6 x7 x8 x9 x10 x11 (ix2 n k)
    = Ideal.div (val_main_v54 (F := Ideal) x0 x1 x2 x3 x4 x5 x6 x7 x8 x9 x10 x11 (ix2 n k))
        (val_main_v54 (F := Ideal) x0 x1 x2 x3 x4 x5 x6 x7 x8 x9 x10 x11 (ix2 n 0) + val_main_v54 (F := Ideal) x0 x1 x2 x3 x4 x5 x6 x7 x8 x9 x10 x11 (ix2 n 1))
      * val_main_values (F := Ideal) x0 x1 x2 x3 x4 x5 x6 x7 x8 x9 (ix2 n 0) := by
  pointwise [val_main_v60, val_main_v59, val_main_v58, val_main_v57, val_main_v56, val_main_v55, val_main_cst_9]
  rw [Fin.sum_univ_two]

theorem flat : ∀ (g : Fin 4) (a : Fin 8), IntOp.addi (IntOp.muli (BitVec.ofNat 32 g.val) 8#32) (BitVec.ofNat 32 a.val)
    = BitVec.ofNat 32 (Cert.Merge.ex g a).val := by decide +kernel

/-- The places of the two among all the experts. -/
theorem v64 (n : Fin 16384) : val_main_v64 (F := Ideal) x0 x1 x2 x3 x4 x5 x6 x7 x8 x9 x10 x11 (ix2 n 0)
      = BitVec.ofNat 32 (Cert.Merge.ex (grp x0 x1 x2 x3 x4 x5 x6 x7 x8 x9 n) (fst x0 x1 x2 x3 x4 x5 x6 x7 x8 x9 x10 x11 n)).val
    ∧ val_main_v64 (F := Ideal) x0 x1 x2 x3 x4 x5 x6 x7 x8 x9 x10 x11 (ix2 n 1)
      = BitVec.ofNat 32 (Cert.Merge.ex (grp x0 x1 x2 x3 x4 x5 x6 x7 x8 x9 n) (snd x0 x1 x2 x3 x4 x5 x6 x7 x8 x9 x10 x11 n)).val := by
  obtain ⟨e0, e1⟩ := indices6 x0 x1 x2 x3 x4 x5 x6 x7 x8 x9 x10 x11 n
  constructor
  · pointwise [val_main_v64, val_main_v63, val_main_v62, val_main_v61, val_main_c]
    rw [indices, e0]
    exact flat _ _
  · pointwise [val_main_v64, val_main_v63, val_main_v62, val_main_v61, val_main_c]
    rw [indices, e1]
    exact flat _ _

theorem same_place : ∀ p e : Fin 32, IntOp.cmpi CmpIPredicate.eq (BitVec.ofNat 32 p.val) (BitVec.ofNat 32 e.val) = if e.val = p.val then 1#1 else 0#1 := by
  decide +kernel

theorem one_of : FloatOps.uitofp (F := Ideal) FTy.f32 1#1 = (1 : EReal) := by
  show (((1#1 : BitVec 1).toNat : ℝ) : EReal) = 1
  simp

theorem zero_of : FloatOps.uitofp (F := Ideal) FTy.f32 0#1 = (0 : EReal) := by
  show (((0#1 : BitVec 1).toNat : ℝ) : EReal) = 0
  simp

theorem fill : FloatOps.sitofp (F := Ideal) FTy.f32 0#32 = (0 : EReal) := by
  show (((0#32 : BitVec 32).toInt : ℝ) : EReal) = 0
  simp

/-- The place of an expert taken, marked. -/
theorem v65 (n : Fin 16384) (k : Fin 2) (e p : Fin 32)
    (h : val_main_v64 (F := Ideal) x0 x1 x2 x3 x4 x5 x6 x7 x8 x9 x10 x11 (ix2 n k) = BitVec.ofNat 32 p.val) :
    val_main_v65 (F := Ideal) x0 x1 x2 x3 x4 x5 x6 x7 x8 x9 x10 x11 (ix3 n k e) = if e.val = p.val then 1 else 0 := by
  pointwise [val_main_v65, val_main_call1_v4, val_main_call1_v3, val_main_call1_v2, val_main_call1_v1, val_main_call1_v0]
  rw [h, same_place]
  by_cases hp : e.val = p.val
  · rw [if_pos hp, if_pos hp, one_of]
  · rw [if_neg hp, if_neg hp, zero_of]

/-- The two weights, each at its expert's place. -/
theorem v66 (n : Fin 16384) (e : Fin 32) : val_main_v66 (F := Ideal) x0 x1 x2 x3 x4 x5 x6 x7 x8 x9 x10 x11 (ix2 n e)
    = val_main_v60 (F := Ideal) x0 x1 x2 x3 x4 x5 x6 x7 x8 x9 x10 x11 (ix2 n 0)
        * (if e.val = (Cert.Merge.ex (grp x0 x1 x2 x3 x4 x5 x6 x7 x8 x9 n) (fst x0 x1 x2 x3 x4 x5 x6 x7 x8 x9 x10 x11 n)).val then 1 else 0)
      + val_main_v60 (F := Ideal) x0 x1 x2 x3 x4 x5 x6 x7 x8 x9 x10 x11 (ix2 n 1)
        * (if e.val = (Cert.Merge.ex (grp x0 x1 x2 x3 x4 x5 x6 x7 x8 x9 n) (snd x0 x1 x2 x3 x4 x5 x6 x7 x8 x9 x10 x11 n)).val then 1 else 0) := by
  obtain ⟨e0, e1⟩ := v64 x0 x1 x2 x3 x4 x5 x6 x7 x8 x9 x10 x11 n
  pointwise [val_main_v66]
  rw [Fin.sum_univ_two, v65 x0 x1 x2 x3 x4 x5 x6 x7 x8 x9 x10 x11 n 0 e _ e0, v65 x0 x1 x2 x3 x4 x5 x6 x7 x8 x9 x10 x11 n 1 e _ e1]

/-- The weights of a token: for real logits, those of the group taken and its two experts. -/
theorem v68 (n : Fin 16384) (l : Fin 128) (hG : ∀ g, IsReal (G x0 x1 x2 x3 x4 x5 x6 x7 x8 x9 n g)) (hE : ∀ e, IsReal (E x0 x1 x2 x3 x4 x5 x6 x7 x10 x11 n e)) :
    val_main_v68 (F := Ideal) x0 x1 x2 x3 x4 x5 x6 x7 x8 x9 x10 x11 (ix2 n l)
      = Cert.Merge.weight (G x0 x1 x2 x3 x4 x5 x6 x7 x8 x9 n) (E x0 x1 x2 x3 x4 x5 x6 x7 x10 x11 n) (grp x0 x1 x2 x3 x4 x5 x6 x7 x8 x9 n)
        (fst x0 x1 x2 x3 x4 x5 x6 x7 x8 x9 x10 x11 n) (snd x0 x1 x2 x3 x4 x5 x6 x7 x8 x9 x10 x11 n) l := by
  obtain ⟨w0, w1⟩ := values5 x0 x1 x2 x3 x4 x5 x6 x7 x8 x9 x10 x11 n
  have hne := (experts_first x0 x1 x2 x3 x4 x5 x6 x7 x8 x9 x10 x11 n).2.mem
  have t0 : val_main_v54 (F := Ideal) x0 x1 x2 x3 x4 x5 x6 x7 x8 x9 x10 x11 (ix2 n 0) = 1 := by
    rw [v54, w0, exp_self (hE _)]
  have t1 := v54 x0 x1 x2 x3 x4 x5 x6 x7 x8 x9 x10 x11 n 1
  rw [w1] at t1
  pointwise [val_main_v68, val_main_call2_v0, val_main_c_10]
  rw [fill]
  unfold Cert.Merge.weight
  by_cases hl : l.val < 32
  · rw [dif_pos hl, v66]
    by_cases ha : l.val = (Cert.Merge.ex (grp x0 x1 x2 x3 x4 x5 x6 x7 x8 x9 n) (fst x0 x1 x2 x3 x4 x5 x6 x7 x8 x9 x10 x11 n)).val
    · have hb : ¬ l.val = (Cert.Merge.ex (grp x0 x1 x2 x3 x4 x5 x6 x7 x8 x9 n) (snd x0 x1 x2 x3 x4 x5 x6 x7 x8 x9 x10 x11 n)).val := by
        intro hb
        exact hne (Fin.ext (by have := ha.symm.trans hb; simp only [Cert.Merge.ex] at this; omega))
      rw [if_pos ha, if_neg hb, if_pos ha, mul_one, mul_zero, add_zero, v60, t0, t1, group_weight x0 x1 x2 x3 x4 x5 x6 x7 x8 x9 n hG]
    · rw [if_neg ha, if_neg ha, mul_zero, zero_add]
      by_cases hb : l.val = (Cert.Merge.ex (grp x0 x1 x2 x3 x4 x5 x6 x7 x8 x9 n) (snd x0 x1 x2 x3 x4 x5 x6 x7 x8 x9 x10 x11 n)).val
      · rw [if_pos hb, if_pos hb, mul_one, v60, t0, t1, group_weight x0 x1 x2 x3 x4 x5 x6 x7 x8 x9 n hG]
      · rw [if_neg hb, if_neg hb, mul_zero]
  · rw [dif_neg hl, if_neg (fun h => hl (lt_of_eq_of_lt h (Fin.isLt _))), if_neg (fun h => hl (lt_of_eq_of_lt h (Fin.isLt _)))]

end Cert.ReferenceMergeIdeal.Whole

end
-- ==== Proof.MergeBound.lean ====
/-
  Under the bound on the router's weights every logit is a real above the value the kernel hides a lane by. The second norm
  is bounded whatever the residual is: a row that is not of reals is normalised to zero.
-/
module

public import proofs.«01_k».proof.Proof.MergeMath
public import proofs.«01_k».proof.Proof.AttnMath

@[expose] public section

set_option maxRecDepth 16384

noncomputable section

namespace Cert.Merge

open Idealize.ShloMosaic Cert.Attn

/-- A real of magnitude at most `B`. -/
def Within (B : ℝ) (x : EReal) : Prop := ∃ r : ℝ, x = r ∧ |r| ≤ B

theorem Within.real {B : ℝ} {x : EReal} : Within B x → IsReal x := fun ⟨r, h, _⟩ => ⟨r, h⟩

theorem Within.mul {A B : ℝ} {x y : EReal} (hA : 0 ≤ A) : Within A x → Within B y → Within (A * B) (x * y) := by
  rintro ⟨a, rfl, ha⟩ ⟨b, rfl, hb⟩
  refine ⟨a * b, (EReal.coe_mul a b).symm, ?_⟩
  rw [abs_mul]
  exact mul_le_mul ha hb (abs_nonneg b) hA

theorem Within.add {A B : ℝ} {x y : EReal} : Within A x → Within B y → Within (A + B) (x + y) := by
  rintro ⟨a, rfl, ha⟩ ⟨b, rfl, hb⟩
  exact ⟨a + b, (EReal.coe_add a b).symm, (abs_add_le a b).trans (add_le_add ha hb)⟩

theorem Within.sum {n : ℕ} {B : ℝ} (f : Fin n → EReal) (h : ∀ k, Within B (f k)) : Within (n * B) (∑ k, f k) := by
  choose r hr hb using h
  refine ⟨∑ k, r k, ?_, ?_⟩
  · rw [coe_sum]
    exact Finset.sum_congr rfl fun k _ => hr k
  · refine (Finset.abs_sum_le_sum_abs _ _).trans ((Finset.sum_le_sum fun k _ => hb k).trans (le_of_eq ?_))
    rw [Finset.sum_const, Finset.card_univ, Fintype.card_fin, nsmul_eq_mul]

theorem width : Ideal.ofBits .f32 0x44800000#32 = ((1024 : ℝ) : EReal) := by
  simp [Ideal.ofBits, Ideal.ieee]
  exact_mod_cast (by norm_num : (8388608 : ℝ) * (2 ^ 13)⁻¹ = 1024)

theorem small : ∃ e : ℝ, 0 < e ∧ Ideal.ofBits .f32 0x358637BD#32 = e := by
  simp only [Ideal.ofBits, Ideal.ieee]
  rw [if_neg (by decide), if_neg (by decide)]
  refine ⟨_, ?_, rfl⟩
  rw [if_neg (by decide)]
  norm_num [Nat.shiftRight_eq_div_pow]

/-- The value the kernel hides a lane by. -/
theorem hidden : ∃ r : ℝ, Ideal.ofBits .f32 0xFF7FFFFF#32 = r ∧ r ≤ -(2 ^ 76) := by
  simp only [Ideal.ofBits, Ideal.ieee]
  rw [if_neg (by decide), if_neg (by decide)]
  refine ⟨_, rfl, ?_⟩
  rw [if_pos (by decide)]
  norm_num [Nat.shiftRight_eq_div_pow]

theorem square_nonneg (x : EReal) : 0 ≤ x * x := by
  rcases le_total 0 x with h | h
  · exact mul_nonneg h h
  · exact EReal.mul_nonneg_iff.mpr (Or.inr ⟨h, h⟩)

/-- An element of a row over the row's root mean square is of magnitude at most the root of the row's width. -/
theorem normed (f : Fin 1024 → EReal) (k : Fin 1024) :
    Within 32 (f k * Ideal.rsqrt (Ideal.div (∑ j, f j * f j) (Ideal.ofBits .f32 0x44800000#32) + Ideal.ofBits .f32 0x358637BD#32)) := by
  obtain ⟨e, he, hee⟩ := small
  rw [width, hee]
  have hd : ∀ x : EReal, Ideal.div x ((1024 : ℝ) : EReal) = x * (((1024 : ℝ)⁻¹ : ℝ) : EReal) := by
    intro x
    have h0 : ((1024 : ℝ) : EReal) ≠ 0 := by exact_mod_cast (by norm_num : (1024 : ℝ) ≠ 0)
    unfold Ideal.div
    rw [if_neg h0, EReal.coe_inv]
  rw [hd]
  by_cases hr : ∀ j, IsReal (f j)
  · choose a ha using hr
    have hs : (∑ j, f j * f j) = ((∑ j, a j * a j : ℝ) : EReal) := by
      rw [coe_sum]
      exact Finset.sum_congr rfl fun j _ => by rw [ha j, EReal.coe_mul]
    have hk : a k * a k ≤ ∑ j, a j * a j := Finset.single_le_sum (f := fun j => a j * a j) (fun j _ => mul_self_nonneg (a j)) (Finset.mem_univ k)
    have hv : 0 < (∑ j, a j * a j) * (1024 : ℝ)⁻¹ + e := by
      have := mul_self_nonneg (a k)
      have : 0 ≤ (∑ j, a j * a j) * (1024 : ℝ)⁻¹ := mul_nonneg (by linarith) (by norm_num)
      linarith
    rw [hs, ← EReal.coe_mul, ← EReal.coe_add]
    have hq : Ideal.rsqrt (((∑ j, a j * a j) * (1024 : ℝ)⁻¹ + e : ℝ) : EReal) = ((Real.sqrt ((∑ j, a j * a j) * (1024 : ℝ)⁻¹ + e))⁻¹ : ℝ) := by
      show (if _ then _ else if _ then _ else _) = _
      rw [if_neg hv.not_gt, if_neg hv.ne']
    rw [hq, ha k, ← EReal.coe_mul]
    refine ⟨_, rfl, ?_⟩
    have hp := Real.sqrt_pos.mpr hv
    rw [abs_mul, abs_inv, abs_of_pos hp, ← div_eq_mul_inv, div_le_iff₀ hp]
    have hsq : a k ^ 2 ≤ (32 * Real.sqrt ((∑ j, a j * a j) * (1024 : ℝ)⁻¹ + e)) ^ 2 := by
      rw [mul_pow, Real.sq_sqrt hv.le]
      linarith [sq (a k)]
    exact abs_le.mpr (abs_le_of_sq_le_sq' hsq (by positivity))
  · obtain ⟨j, hj⟩ := not_forall.mp hr
    have hjj : f j * f j = ⊤ := by
      induction h : f j with
      | bot => rfl
      | top => rfl
      | coe r => exact absurd ⟨r, h⟩ hj
    have hs : (∑ j, f j * f j) = ⊤ :=
      top_le_iff.mp (hjj ▸ Finset.single_le_sum (f := fun j => f j * f j) (fun i _ => square_nonneg (f i)) (Finset.mem_univ j))
    rw [hs, EReal.top_mul_coe_of_pos (by norm_num), EReal.top_add_coe]
    refine ⟨0, ?_, by norm_num⟩
    show f k * 0 = _
    rw [mul_zero, EReal.coe_zero]

/-- A logit over normed activations and bounded weights. -/
theorem logit_within (f w : Fin 1024 → EReal) (b : EReal) (hf : ∀ k, Within (32 * 2 ^ 30) (f k)) (hw : ∀ k, Within (2 ^ 30) (w k))
    (hb : Within (2 ^ 30) b) : Within (2 ^ 76) ((∑ k, f k * w k) + b) := by
  obtain ⟨r, hr, hle⟩ := (Within.sum _ fun k => (hf k).mul (by norm_num) (hw k)).add hb
  exact ⟨r, hr, hle.trans (by norm_num)⟩

theorem Within.above {x : EReal} : Within (2 ^ 76) x → Ideal.ofBits .f32 0xFF7FFFFF#32 ≤ x := by
  rintro ⟨r, rfl, h⟩
  obtain ⟨l, hl, hle⟩ := hidden
  rw [hl]
  exact EReal.coe_le_coe_iff.mpr (hle.trans (abs_le.mp h).1)

end Cert.Merge

end
-- ==== Proof.MergeRow.lean ====
/-
  The router's choice on one row of lanes: the experts' logits in the first thirty-two lanes, the groups' in the four after.
-/
module

public import proofs.«01_k».proof.Proof.MergeMath
public import proofs.«01_k».proof.Proof.Route

@[expose] public section

noncomputable section

namespace Cert.Route

open Idealize.ShloMosaic Cert.Merge

/-- A place is first among places laid out in order as it was before they were. -/
theorem First.laid {n k : ℕ} {f : Fin n → EReal} {f' : Fin k → EReal} {p : Fin n → Prop} {p' : Fin k → Prop} {i : Fin n} (u : Fin n → Fin k)
    (hu : ∀ a b, a < b → u a < u b) (hf : ∀ a, f' (u a) = f a) (hp : p' (u i)) (hs : ∀ j, p' j → ∃ a, u a = j ∧ p a)
    (h : First f p i) : First f' p' (u i) := by
  refine ⟨hp, fun j hj hne => ?_⟩
  obtain ⟨a, rfl, ha⟩ := hs j hj
  rcases h.before a ha (fun e => hne (congrArg u e)) with hlt | ⟨e, hlt⟩
  · exact Or.inl (by rw [hf, hf]; exact hlt)
  · exact Or.inr ⟨by rw [hf, hf]; exact e, hu _ _ hlt⟩

/-- The lane of a group. -/
abbrev glane (g : Fin 4) : Fin 128 := ⟨32 + g.val, by omega⟩
/-- The lane of an expert. -/
abbrev elane (e : Fin 32) : Fin 128 := ⟨e.val, by omega⟩

/-- The lanes of the groups. -/
abbrev groups (l : Fin 128) : BitVec 1 := IntOp.andi (IntOp.cmpi .sge (BitVec.ofNat 32 l.val) 32#32) (IntOp.cmpi .slt (BitVec.ofNat 32 l.val) 36#32)
/-- The lanes of the experts of group `g`. -/
abbrev inside (g : Fin 4) (l : Fin 128) : BitVec 1 := IntOp.cmpi .eq (IntOp.shrsi .vector (BitVec.ofNat 32 l.val) 3#32) (BitVec.ofNat 32 g.val)
/-- The lanes of the experts of group `g` other than `p`. -/
abbrev others (g : Fin 4) (p : Fin 32) (l : Fin 128) : BitVec 1 := IntOp.andi (inside g l) (IntOp.cmpi .ne (BitVec.ofNat 32 l.val) (BitVec.ofNat 32 p.val))

theorem groups_iff : ∀ l : Fin 128, groups l = 1#1 ↔ 32 ≤ l.val ∧ l.val < 36 := by decide +kernel

theorem inside_iff : ∀ (g : Fin 4) (l : Fin 128), inside g l = 1#1 ↔ l.val / 8 = g.val := by decide +kernel

theorem others_iff : ∀ (g : Fin 4) (p : Fin 32) (l : Fin 128), others g p l = 1#1 ↔ l.val / 8 = g.val ∧ l.val ≠ p.val := by decide +kernel

/-- A lane's number against an expert's. -/
theorem lane_is : ∀ (p : Fin 32) (l : Fin 128), IntOp.cmpi .eq (BitVec.ofNat 32 l.val) (BitVec.ofNat 32 p.val) = if l.val = p.val then 1#1 else 0#1 := by
  decide +kernel

/-- The lane of a group less the number of lanes before the groups. -/
theorem group_of : ∀ g : Fin 4, IntOp.subi (BitVec.ofNat 32 (glane g).val) 32#32 = BitVec.ofNat 32 g.val := by decide +kernel

variable {L : Fin 128 → EReal} {G : Fin 4 → EReal} {E : Fin 32 → EReal} (hG : ∀ g, L (glane g) = G g) (hE : ∀ e, L (elane e) = E e)
  {g : Fin 4} {a b : Fin 8}

include hG in
/-- The group taken has the first lane among the groups'. -/
theorem group_lane (h : First G (fun _ => True) g) : First L (fun l => groups l = 1#1) (glane g) := by
  refine First.laid glane (fun a b hab => ?_) hG ?_ (fun j hj => ?_) h
  · show 32 + a.val < 32 + b.val
    exact Nat.add_lt_add_left hab 32
  · exact (groups_iff _).mpr ⟨by show 32 ≤ 32 + g.val; omega, by show 32 + g.val < 36; omega⟩
  · obtain ⟨h1, h2⟩ := (groups_iff j).mp hj
    exact ⟨⟨j.val - 32, by omega⟩, Fin.ext (by show 32 + (j.val - 32) = j.val; omega), trivial⟩

include hE in
/-- The expert taken first has the first lane among the group's. -/
theorem first_lane (h : First (fun e => E (ex g e)) (fun _ => True) a) : First L (fun l => inside g l = 1#1) (elane (ex g a)) := by
  refine First.laid (fun e => elane (ex g e)) (fun c d hcd => ?_) (fun e => hE _) ?_ (fun j hj => ?_) h
  · show g.val * 8 + c.val < g.val * 8 + d.val
    exact Nat.add_lt_add_left hcd _
  · exact (inside_iff _ _).mpr (by show (g.val * 8 + a.val) / 8 = g.val; omega)
  · have h1 := (inside_iff g j).mp hj
    exact ⟨⟨j.val - g.val * 8, by omega⟩, Fin.ext (by show g.val * 8 + (j.val - g.val * 8) = j.val; omega), trivial⟩

include hE in
/-- The expert taken second has the first lane among the group's others. -/
theorem second_lane (h : First (fun e => E (ex g e)) (fun j => j ≠ a) b) : First L (fun l => others g (ex g a) l = 1#1) (elane (ex g b)) := by
  refine First.laid (fun e => elane (ex g e)) (fun c d hcd => ?_) (fun e => hE _) ?_ (fun j hj => ?_) h
  · show g.val * 8 + c.val < g.val * 8 + d.val
    exact Nat.add_lt_add_left hcd _
  · have hne : b.val ≠ a.val := fun e => h.mem (Fin.ext e)
    exact (others_iff _ _ _).mpr ⟨by show (g.val * 8 + b.val) / 8 = g.val; omega, by show g.val * 8 + b.val ≠ g.val * 8 + a.val; omega⟩
  · obtain ⟨h1, h2⟩ := (others_iff g _ j).mp hj
    have h2' : j.val ≠ g.val * 8 + a.val := h2
    refine ⟨⟨j.val - g.val * 8, by omega⟩, Fin.ext (by show g.val * 8 + (j.val - g.val * 8) = j.val; omega), fun e => h2' ?_⟩
    have := congrArg Fin.val e
    have : j.val - g.val * 8 = a.val := this
    omega

include hG in
/-- The exponentials over the groups' lanes, nothing elsewhere, add up to the groups'. -/
theorem group_sum (M : EReal) : (∑ l : Fin 128, Scalar.select (groups l) (Ideal.exp (L l - M)) (0 : EReal)) = ∑ g : Fin 4, Ideal.exp (G g - M) := by
  refine (Finset.sum_of_injOn glane (fun c _ d _ e => Fin.ext ?_) (fun _ _ => Finset.mem_univ _) (fun l _ hl => ?_) (fun c _ => ?_)).symm
  · have : 32 + c.val = 32 + d.val := congrArg Fin.val e
    omega
  · refine skip (fun h => hl ?_) _ _
    obtain ⟨h1, h2⟩ := (groups_iff l).mp h
    exact ⟨⟨l.val - 32, by omega⟩, Finset.mem_coe.mpr (Finset.mem_univ _), Fin.ext (by show 32 + (l.val - 32) = l.val; omega)⟩
  · rw [pick ((groups_iff (glane c)).mpr ⟨by show 32 ≤ 32 + c.val; omega, by show 32 + c.val < 36; omega⟩), hG]

/-- The two weights, each put at its expert's lane. -/
theorem placed (l : Fin 128) (p w : EReal) (hp : p = Ideal.div 1 (∑ g' : Fin 4, Ideal.exp (G g' - G g)))
    (hw : w = Ideal.exp (E (ex g b) - E (ex g a))) :
    Scalar.select (IntOp.cmpi .eq (BitVec.ofNat 32 l.val) (BitVec.ofNat 32 (ex g a).val)) (Ideal.div 1 (1 + w) * p)
      (Scalar.select (IntOp.cmpi .eq (BitVec.ofNat 32 l.val) (BitVec.ofNat 32 (ex g b).val)) (Ideal.div w (1 + w) * p) (0 : EReal))
    = weight G E g a b l := by
  subst hp hw
  unfold weight
  rw [lane_is, lane_is]
  by_cases h1 : l.val = (ex g a).val
  · rw [if_pos h1, if_pos h1]
    rfl
  · rw [if_neg h1, if_neg h1]
    by_cases h2 : l.val = (ex g b).val
    · rw [if_pos h2, if_pos h2]
      rfl
    · rw [if_neg h2, if_neg h2]
      rfl

end Cert.Route

end
-- ==== Proof.MergeRouter.lean ====
/-
  The values a point of the merge's launch computes from its blocks, read at one element of one row.
-/
module

public import proofs.«01_k».proof.Proof.Gen.KernelMergeIdeal.Value
public import proofs.«01_k».proof.Proof.MergeRow
public import proofs.«01_k».proof.Proof.AttnMath
public import Idealize.ShloMosaic.Lib.Tactic
public import Idealize.ShloMosaic.Lib.Pointwise

@[expose] public section

set_option maxRecDepth 16384

noncomputable section

namespace Cert.KernelMergeIdeal.Body

open Idealize.ShloMosaic Idealize.ShloMosaic.TcCoe Idealize.SL.Sem
open Cert.KernelMergeIdeal Cert.KernelMergeIdeal.Gen Cert.Route Cert.Merge

/-- The residual. -/
theorem pay2_apply (a b : Vec Ideal S512x1024 .bf16) (x : Vec Ideal S512x512 .bf16) (u : Vec Ideal S512x1024 .bf16) (y : Vec Ideal S512x512 .bf16)
    (v : Vec Ideal S512x1024 .bf16) (z : Vec Ideal S512x1024 .f32) (w : Vec Ideal S1024x1024 .bf16) (r : Fin 512) (d : Fin 1024) :
    k0_pay2 a b x u y v z w (ix2 r d) = z (ix2 r d) + ∑ k : Fin 1024, (a (ix2 r k) * (∑ j : Fin 512, x (ix2 r j) * u (ix2 j k))
      + b (ix2 r k) * ∑ j : Fin 512, y (ix2 r j) * v (ix2 j k)) * w (ix2 k d) := by
  pointwise [k0_pay2]

/-- The residual's norm, before its weights. -/
theorem pay3_apply (a b : Vec Ideal S512x1024 .bf16) (x : Vec Ideal S512x512 .bf16) (u : Vec Ideal S512x1024 .bf16) (y : Vec Ideal S512x512 .bf16)
    (v : Vec Ideal S512x1024 .bf16) (z : Vec Ideal S512x1024 .f32) (w : Vec Ideal S1024x1024 .bf16) (r : Fin 512) (d : Fin 1024) :
    k0_pay3 a b x u y v z w (ix2 r d) = k0_pay2 a b x u y v z w (ix2 r d)
      * Ideal.rsqrt (Ideal.div (∑ k, k0_pay2 a b x u y v z w (ix2 r k) * k0_pay2 a b x u y v z w (ix2 r k)) (Ideal.ofBits FTy.f32 0x44800000#32)
        + Ideal.ofBits FTy.f32 0x358637BD#32) := by
  pointwise [k0_pay3]

/-- The norm. -/
theorem pay5_apply (h : FVec Ideal S512x1024 .f32) (g : Vec Ideal S1x1024 .f32) (r : Fin 512) (d : Fin 1024) :
    k0_pay5 h g (ix2 r d) = h (ix2 r d) * g (ix2 0 d) := by
  pointwise [k0_pay5, k0_pay4]

/-- The logits. -/
theorem pay6_apply (h : FVec Ideal S512x1024 .f32) (g : Vec Ideal S1x1024 .f32) (w : Vec Ideal S1024x128 .f32) (c : Vec Ideal S1x128 .f32)
    (r : Fin 512) (l : Fin 128) : k0_pay6 h g w c (ix2 r l) = (∑ k, h (ix2 r k) * g (ix2 0 k) * w (ix2 k l)) + c (ix2 0 l) := by
  pointwise [k0_pay6, k0_pay4]

theorem pay7_apply (r : Fin 512) (l : Fin 128) : k0_pay7 (ix2 r l) = groups l := by
  pointwise [k0_pay7]

section Groups

variable (h : FVec Ideal S512x1024 .f32) (gn : Vec Ideal S1x1024 .f32) (w : Vec Ideal S1024x128 .f32) (c : Vec Ideal S1x128 .f32) (r : Fin 512)
  {G : Fin 4 → EReal} {g : Fin 4} (hG : ∀ g, k0_pay6 h gn w c (ix2 r (glane g)) = G g) (hg : First G (fun _ => True) g)
  (hlo : Ideal.ofBits .f32 0xFF7FFFFF#32 ≤ G g)

include hG hg hlo in
/-- The largest of the groups' logits. -/
theorem pay9_apply : k0_pay9 h gn w c (ix2 r 0) = G g := by
  pointwise [k0_pay9, k0_pay8]
  simp only [pay7_apply, Cert.Attn.floor]
  rw [masked_top (fun l => k0_pay6 h gn w c (ix2 r l)) groups _ (glane g) (group_lane (L := fun l => k0_pay6 h gn w c (ix2 r l)) hG hg) ((hG g).symm ▸ hlo)]
  exact hG g

include hG hg hlo in
/-- The group's weight. -/
theorem pay10_apply : k0_pay10 h gn w c (ix2 r 0) = Ideal.div 1 (∑ g', Ideal.exp (G g' - G g)) := by
  pointwise [k0_pay10]
  simp only [pay7_apply, pay9_apply h gn w c r hG hg hlo]
  rw [group_sum (L := fun l => k0_pay6 h gn w c (ix2 r l)) hG]

include hG hg hlo in
/-- The group's number. -/
theorem pay11_apply : k0_pay11 h gn w c (ix2 r 0) = BitVec.ofNat 32 g.val := by
  have e8 : ∀ l, k0_pay8 h gn w c (ix2 r l) = Scalar.select (groups l) (k0_pay6 h gn w c (ix2 r l)) (Ideal.ofBits .f32 0xFF7FFFFF#32) := fun l => by
    pointwise [k0_pay8]
    rw [pay7_apply]
  have e := masked_place (fun l => k0_pay6 h gn w c (ix2 r l)) groups (Ideal.ofBits .f32 0xFF7FFFFF#32) (glane g)
    (group_lane (L := fun l => k0_pay6 h gn w c (ix2 r l)) hG hg)
  dsimp only at e
  rw [hG g] at e
  pointwise [k0_pay11]
  simp only [pay7_apply, e8, pay9_apply h gn w c r hG hg hlo]
  exact (congrArg (fun q => IntOp.subi q 32#32) e).trans (group_of g)

end Groups

section Experts

variable (y : FVec Ideal S512x128 .f32) (i : IVec S512x128 32) (v : IVec S512x1 32) (r : Fin 512)
  {E : Fin 32 → EReal} {g : Fin 4} {a b : Fin 8} (hE : ∀ e, y (ix2 r (elane e)) = E e) (hi : ∀ l : Fin 128, i (ix2 r l) = BitVec.ofNat 32 l.val)
  (hv : v (ix2 r 0) = BitVec.ofNat 32 g.val)
  (ha : First (fun e => E (ex g e)) (fun _ => True) a) (hb : First (fun e => E (ex g e)) (fun j => j ≠ a) b)
  (hla : Ideal.ofBits .f32 0xFF7FFFFF#32 ≤ E (ex g a)) (hlb : Ideal.ofBits .f32 0xFF7FFFFF#32 ≤ E (ex g b))

include hi hv in
theorem pay12_apply (l : Fin 128) : k0_pay12 i v 3#32 (ix2 r l) = inside g l := by
  pointwise [k0_pay12]
  rw [hi, hv]

include hi hv in
theorem pay13_apply (l : Fin 128) : k0_pay13 y i v 3#32 (ix2 r l) = Scalar.select (inside g l) (y (ix2 r l)) (Ideal.ofBits .f32 0xFF7FFFFF#32) := by
  pointwise [k0_pay13]
  rw [pay12_apply i v r hi hv]

include hE hi hv ha hla in
/-- The largest of the group's experts' logits. -/
theorem pay14_apply : k0_pay14 y i v 3#32 (ix2 r 0) = E (ex g a) := by
  pointwise [k0_pay14]
  simp only [pay13_apply y i v r hi hv, Cert.Attn.floor]
  rw [masked_top (fun l => y (ix2 r l)) (inside g) _ (elane (ex g a)) (first_lane (L := fun l => y (ix2 r l)) hE ha) ((hE _).symm ▸ hla)]
  exact hE _

include hE hi hv ha hla in
/-- Its expert. -/
theorem pay15_apply : k0_pay15 y i v 3#32 (ix2 r 0) = BitVec.ofNat 32 (ex g a).val := by
  have e := masked_place (fun l => y (ix2 r l)) (inside g) (Ideal.ofBits .f32 0xFF7FFFFF#32) (elane (ex g a)) (first_lane (L := fun l => y (ix2 r l)) hE ha)
  dsimp only at e
  rw [hE] at e
  pointwise [k0_pay15]
  simp only [pay12_apply i v r hi hv, pay13_apply y i v r hi hv, pay14_apply y i v r hE hi hv ha hla, hi]
  exact e

include hE hi hv ha hla in
theorem pay16_apply (l : Fin 128) : k0_pay16 y i v 3#32 (ix2 r l) = others g (ex g a) l := by
  pointwise [k0_pay16]
  rw [pay12_apply i v r hi hv, hi, pay15_apply y i v r hE hi hv ha hla]

include hE hi hv ha hla in
theorem pay17_apply (l : Fin 128) : k0_pay17 y i v 3#32 (ix2 r l) = Scalar.select (others g (ex g a) l) (y (ix2 r l)) (Ideal.ofBits .f32 0xFF7FFFFF#32) := by
  pointwise [k0_pay17]
  rw [pay16_apply y i v r hE hi hv ha hla]

include hE hi hv ha hla hb hlb in
/-- The largest of the others' logits. -/
theorem pay18_apply : k0_pay18 y i v 3#32 (ix2 r 0) = E (ex g b) := by
  pointwise [k0_pay18]
  simp only [pay17_apply y i v r hE hi hv ha hla, Cert.Attn.floor]
  rw [masked_top (fun l => y (ix2 r l)) (others g (ex g a)) _ (elane (ex g b)) (second_lane (L := fun l => y (ix2 r l)) hE hb) ((hE _).symm ▸ hlb)]
  exact hE _

include hE hi hv ha hla hb hlb in
/-- The second expert's share relative to the first's. -/
theorem pay19_apply : k0_pay19 y i v 3#32 (ix2 r 0) = Ideal.exp (E (ex g b) - E (ex g a)) := by
  pointwise [k0_pay19]
  rw [pay18_apply y i v r hE hi hv ha hb hla hlb, pay14_apply y i v r hE hi hv ha hla]

variable (q : FVec Ideal S512x1 .f32) {G : Fin 4 → EReal} (hq : q (ix2 r 0) = Ideal.div 1 (∑ g', Ideal.exp (G g' - G g)))

include hE hi hv ha hla hb hlb in
/-- The second expert's weight, at its lane. -/
theorem pay22_apply (l : Fin 128) : k0_pay22 y i q v 3#32 (ix2 r l)
    = Scalar.select (IntOp.cmpi .eq (BitVec.ofNat 32 l.val) (BitVec.ofNat 32 (ex g b).val))
        (Ideal.div (Ideal.exp (E (ex g b) - E (ex g a))) (1 + Ideal.exp (E (ex g b) - E (ex g a))) * q (ix2 r 0)) (0 : EReal) := by
  have e := masked_place (fun l => y (ix2 r l)) (others g (ex g a)) (Ideal.ofBits .f32 0xFF7FFFFF#32) (elane (ex g b)) (second_lane (L := fun l => y (ix2 r l)) hE hb)
  dsimp only at e
  rw [hE] at e
  pointwise [k0_pay22]
  simp only [pay16_apply y i v r hE hi hv ha hla, pay17_apply y i v r hE hi hv ha hla, pay18_apply y i v r hE hi hv ha hb hla hlb,
    pay19_apply y i v r hE hi hv ha hb hla hlb, hi]
  exact congrArg (fun p => Scalar.select (IntOp.cmpi .eq (BitVec.ofNat 32 l.val) p)
    (Ideal.div (Ideal.exp (E (ex g b) - E (ex g a))) (1 + Ideal.exp (E (ex g b) - E (ex g a))) * q (ix2 r 0)) (0 : EReal)) e

include hE hi hv ha hla hb hlb hq in
/-- The row of weights. -/
theorem weights (l : Fin 128) : k0_pay1 (k0_pay20 y i v 3#32) (k0_pay21 y i q v 3#32) (k0_pay22 y i q v 3#32) (ix2 r l) = weight G E g a b l := by
  have e20 : k0_pay20 y i v 3#32 (ix2 r l) = IntOp.cmpi .eq (BitVec.ofNat 32 l.val) (BitVec.ofNat 32 (ex g a).val) := by
    pointwise [k0_pay20]
    rw [hi, pay15_apply y i v r hE hi hv ha hla]
  have e21 : k0_pay21 y i q v 3#32 (ix2 r 0) = Ideal.div 1 (1 + Ideal.exp (E (ex g b) - E (ex g a))) * q (ix2 r 0) := by
    pointwise [k0_pay21]
    rw [pay19_apply y i v r hE hi hv ha hb hla hlb]
  pointwise [k0_pay1]
  rw [e20, e21, pay22_apply y i v r hE hi hv ha hb hla hlb]
  exact placed l _ _ hq rfl

end Experts

end Cert.KernelMergeIdeal.Body

end
-- ==== Proof.MergeKernel.lean ====
/-
  The merge as the launch computes it, read at one element of each of its three results.
-/
module

public import proofs.«01_k».proof.Proof.MergeRouter
public import proofs.«01_k».proof.Proof.MergeBound
public import Idealize.ShloMosaic.Lib.Pipeline.ValueKit
public import Idealize.ShloMosaic.Lib.WritesUnit
public import Idealize.ShloMosaic.Lib.Pipeline.ReadBack
public import Idealize.ShloMosaic.Lib.Tactic

@[expose] public section

set_option maxRecDepth 16384

noncomputable section

namespace Cert.KernelMergeIdeal.Body

open Idealize.ShloMosaic Idealize.ShloMosaic.TcCoe Idealize.SL.Sem
open Cert.KernelMergeIdeal Cert.KernelMergeIdeal.Gen Cert.KernelMergeIdeal.Value Cert.Route Cert.Merge

variable (m : (ℓ : Loc nD τ sig) → Buf (Elt Ideal) ℓ) (c : Dev nD)

/-- Where the windows sit: the tokens' at the point's rows, the weights' at their arrays' origins. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val, 0] ∧ win0_11.index t = ![t.val, 0]
    ∧ win0_12.index t = ![t.val, 0] := (by decide +kernel : ∀ t : Fin grid0.N, _)

/-- The tokens, the two paths and the gates. -/
abbrev X0 : FVec Ideal ⟨2, ![16384, 1024]⟩ .f32 := m ((c : Thread nD τ).loc main_arg0)
abbrev X1 : FVec Ideal ⟨2, ![16384, 512]⟩ .bf16 := m ((c : Thread nD τ).loc main_arg1)
abbrev X2 : FVec Ideal ⟨2, ![16384, 512]⟩ .bf16 := m ((c : Thread nD τ).loc main_arg2)
abbrev X3 : FVec Ideal ⟨2, ![16384, 2048]⟩ .bf16 := m ((c : Thread nD τ).loc main_arg3)
/-- The paths' weights, the mixture's, and the norm's. -/
abbrev X4 : FVec Ideal ⟨2, ![512, 1024]⟩ .f32 := m ((c : Thread nD τ).loc main_arg4)
abbrev X5 : FVec Ideal ⟨2, ![512, 1024]⟩ .f32 := m ((c : Thread nD τ).loc main_arg5)
abbrev X6 : FVec Ideal ⟨2, ![1024, 1024]⟩ .f32 := m ((c : Thread nD τ).loc main_arg6)
abbrev X7 : FVec Ideal ⟨1, ![1024]⟩ .f32 := m ((c : Thread nD τ).loc main_arg7)
/-- The router's weights and biases, for the groups and for the experts. -/
abbrev X8 : FVec Ideal ⟨2, ![1024, 4]⟩ .f32 := m ((c : Thread nD τ).loc main_arg8)
abbrev X9 : FVec Ideal ⟨1, ![4]⟩ .f32 := m ((c : Thread nD τ).loc main_arg9)
abbrev X10 : FVec Ideal ⟨2, ![1024, 32]⟩ .f32 := m ((c : Thread nD τ).loc main_arg10)
abbrev X11 : FVec Ideal ⟨1, ![32]⟩ .f32 := m ((c : Thread nD τ).loc main_arg11)

theorem lt_N (t : Fin cfg0.N) : t.val < 32 := Nat.lt_of_lt_of_eq t.isLt N_0

/-- The token of row `r` of point `t`'s block. -/
abbrev tok (t : Fin cfg0.N) (r : Fin 512) : Fin 16384 := ⟨512 * t.val + r.val, by have := lt_N t; omega⟩

/-- When the loop starts, the router's weights are the experts' and the groups' side by side, with columns of zero after. -/
theorem entry8 : (V m c main_v1 : FVec Ideal S1024x128 .f32) = pad S1024x128 ![0, 0] ![0, 92] ![0, 0]
    (concatenate S1024x36 1 [⟨S1024x32, X10 m c⟩, ⟨S1024x4, X8 m c⟩] concatenates_S1024x32_S1024x4_S1024x36_d1)
    (sitofp (F := Ideal) .f32 (constantI S_ 32 0#32)) pads_S1024x36_S1024x128_000_0920 h_S_ := by
  rfl

/-- The router's biases likewise. -/
theorem entry9 : (V m c main_v4 : FVec Ideal S1x128 .f32) = broadcastInDim S1x128 ![1] bcast_S128_S1x128_1 (pad S128 ![0] ![92] ![0]
    (concatenate S36 0 [⟨S32, X11 m c⟩, ⟨S4, X9 m c⟩] concatenates_S32_S4_S36_d0)
    (sitofp (F := Ideal) .f32 (constantI S_ 32 0#32)) pads_S36_S128_0920 h_S_) := by
  rfl

variable (t : Fin cfg0.N)

theorem read0 (r : Fin 512) (d : Fin 1024) : (iblk m c 0 t : FVec Ideal S512x1024 .f32) (ix2 r d) = X0 m c (ix2 (tok t r) d) := by
  have := lt_N t
  blk_ext [iblk, V, idx t]

theorem read1 (r : Fin 512) (d : Fin 512) : (iblk m c 1 t : FVec Ideal S512x512 .bf16) (ix2 r d) = X1 m c (ix2 (tok t r) d) := by
  have := lt_N t
  blk_ext [iblk, V, idx t]

theorem read2 (r : Fin 512) (d : Fin 512) : (iblk m c 2 t : FVec Ideal S512x512 .bf16) (ix2 r d) = X2 m c (ix2 (tok t r) d) := by
  have := lt_N t
  blk_ext [iblk, V, idx t]

theorem read3 (r : Fin 512) (d : Fin 2048) : (iblk m c 3 t : FVec Ideal S512x2048 .bf16) (ix2 r d) = X3 m c (ix2 (tok t r) d) := by
  have := lt_N t
  blk_ext [iblk, V, idx t]

theorem entry4 : (V m c main_v5 : FVec Ideal S512x1024 .bf16) = truncf .bf16 (X4 m c) bitsLt_bf16_f32 := by
  rfl
theorem entry5 : (V m c main_v6 : FVec Ideal S512x1024 .bf16) = truncf .bf16 (X5 m c) bitsLt_bf16_f32 := by
  rfl
theorem entry6 : (V m c main_v7 : FVec Ideal S1024x1024 .bf16) = truncf .bf16 (X6 m c) bitsLt_bf16_f32 := by
  rfl
theorem entry7 : (V m c main_v8 : FVec Ideal S1x1024 .f32) = broadcastInDim S1x1024 ![1] bcast_S1024_S1x1024_1 (X7 m c) := by
  rfl

theorem read4 (k : Fin 512) (d : Fin 1024) : (iblk m c 4 t : FVec Ideal S512x1024 .bf16) (ix2 k d) = X4 m c (ix2 k d) := by
  have e : (iblk m c 4 t : FVec Ideal S512x1024 .bf16) (ix2 k d) = (V m c main_v5 : FVec Ideal S512x1024 .bf16) (ix2 k d) := by
    blk_ext [iblk, idx t]
  rw [e, entry4]
  pointwise

theorem read5 (k : Fin 512) (d : Fin 1024) : (iblk m c 5 t : FVec Ideal S512x1024 .bf16) (ix2 k d) = X5 m c (ix2 k d) := by
  have e : (iblk m c 5 t : FVec Ideal S512x1024 .bf16) (ix2 k d) = (V m c main_v6 : FVec Ideal S512x1024 .bf16) (ix2 k d) := by
    blk_ext [iblk, idx t]
  rw [e, entry5]
  pointwise

theorem read6 (k : Fin 1024) (d : Fin 1024) : (iblk m c 6 t : FVec Ideal S1024x1024 .bf16) (ix2 k d) = X6 m c (ix2 k d) := by
  have e : (iblk m c 6 t : FVec Ideal S1024x1024 .bf16) (ix2 k d) = (V m c main_v7 : FVec Ideal S1024x1024 .bf16) (ix2 k d) := by
    blk_ext [iblk, idx t]
  rw [e, entry6]
  pointwise

theorem read7 (d : Fin 1024) : (iblk m c 7 t : FVec Ideal S1x1024 .f32) (ix2 0 d) = X7 m c (ix1 d) := by
  have e : (iblk m c 7 t : FVec Ideal S1x1024 .f32) (ix2 0 d) = (V m c main_v8 : FVec Ideal S1x1024 .f32) (ix2 0 d) := by
    blk_ext [iblk, idx t]
  rw [e, entry7]
  pointwise

theorem whole8 (k : Fin 1024) (l : Fin 128) : (iblk m c 8 t : FVec Ideal S1024x128 .f32) (ix2 k l) = (V m c main_v1 : FVec Ideal S1024x128 .f32) (ix2 k l) := by
  blk_ext [iblk, idx t]

theorem whole9 (l : Fin 128) : (iblk m c 9 t : FVec Ideal S1x128 .f32) (ix2 0 l) = (V m c main_v4 : FVec Ideal S1x128 .f32) (ix2 0 l) := by
  blk_ext [iblk, idx t]

theorem read8 (k : Fin 1024) (e : Fin 32) : (iblk m c 8 t : FVec Ideal S1024x128 .f32) (ix2 k (elane e)) = X10 m c (ix2 k e) := by
  rw [whole8, entry8]
  pointwise
  rw [dif_pos (by omega)]

theorem read8' (k : Fin 1024) (g : Fin 4) : (iblk m c 8 t : FVec Ideal S1024x128 .f32) (ix2 k (glane g)) = X8 m c (ix2 k g) := by
  rw [whole8, entry8]
  pointwise
  rw [dif_pos (by omega)]

theorem read9 (e : Fin 32) : (iblk m c 9 t : FVec Ideal S1x128 .f32) (ix2 0 (elane e)) = X11 m c (ix1 e) := by
  rw [whole9, entry9]
  pointwise
  rw [dif_pos (by omega)]

theorem read9' (g : Fin 4) : (iblk m c 9 t : FVec Ideal S1x128 .f32) (ix2 0 (glane g)) = X9 m c (ix1 g) := by
  rw [whole9, entry9]
  pointwise
  rw [dif_pos (by omega)]

/-- Loading a whole block gives the block. -/
theorem ld_whole {e : EltTy} {a b : ℕ} (x : Vec Ideal ⟨2, ![a, b]⟩ e) (inb) : View.ld x (Rect.unit (s := ⟨2, ![a, b]⟩) ![0, 0] ![a, b] inb) = x := by
  funext i
  refine congrArg x (funext fun z => Fin.ext ?_)
  match z with
  | ⟨0, _⟩ => show 0 + 1 * (i 0).val = (i 0).val; omega
  | ⟨1, _⟩ => show 0 + 1 * (i 1).val = (i 1).val; omega

theorem ld2 (x : Vec Ideal S512x512 .bf16) : View.ld x r0_2 = x := ld_whole x _
theorem ld3 (x : Vec Ideal S512x1024 .bf16) : View.ld x r0_3 = x := ld_whole x _
theorem ld3' (x : Vec Ideal S512x1024 .f32) : View.ld x r0_3 = x := ld_whole x _
theorem ld4 (x : Vec Ideal S1024x1024 .bf16) : View.ld x r0_4 = x := ld_whole x _
theorem ld5 (x : Vec Ideal S1x1024 .f32) : View.ld x r0_5 = x := ld_whole x _
theorem ld6 (x : Vec Ideal S1024x128 .f32) : View.ld x r0_6 = x := ld_whole x _
theorem ld7 (x : Vec Ideal S1x128 .f32) : View.ld x r0_7 = x := ld_whole x _

section Loads

variable (x0 : Vec Ideal S512x1024 .f32) (x1 x2 : Vec Ideal S512x512 .bf16) (x3 : Vec Ideal S512x2048 .bf16) (x4 x5 : Vec Ideal S512x1024 .bf16)
  (x6 : Vec Ideal S1024x1024 .bf16) (x7 : Vec Ideal S1x1024 .f32) (x8 : Vec Ideal S1024x128 .f32) (x9 : Vec Ideal S1x128 .f32)

theorem pay23_of : k0_pay23 x0 x1 x2 x3 x4 x5 x6 x7 x8 x9 = k0_pay3 (View.ld x3 r0_0) (View.ld x3 r0_1) x1 x4 x2 x5 x0 x6 := by
  unfold k0_pay23
  rw [ld2, ld2, ld3, ld3, ld3', ld4]

theorem pay25_of : k0_pay25 x0 x1 x2 x3 x4 x5 x6 x7 x8 x9 = k0_pay6 (k0_pay23 x0 x1 x2 x3 x4 x5 x6 x7 x8 x9) x7 x8 x9 := by
  unfold k0_pay25
  rw [ld5, ld6, ld7]

theorem pay26_of : k0_pay26 x0 x1 x2 x3 x4 x5 x6 x7 x8 x9 = k0_pay10 (k0_pay23 x0 x1 x2 x3 x4 x5 x6 x7 x8 x9) x7 x8 x9 := by
  unfold k0_pay26
  rw [ld5, ld6, ld7]

theorem pay27_of : k0_pay27 x0 x1 x2 x3 x4 x5 x6 x7 x8 x9 = k0_pay11 (k0_pay23 x0 x1 x2 x3 x4 x5 x6 x7 x8 x9) x7 x8 x9 := by
  unfold k0_pay27
  rw [ld5, ld6, ld7]

end Loads

/-- The first half of a block's gates. -/
theorem gate0 (r : Fin 512) (d : Fin 1024) : (View.ld (iblk m c 3 t) r0_0 : Vec Ideal S512x1024 .bf16) (ix2 r d) = X3 m c (ix2 (tok t r) ⟨d.val, by omega⟩) := by
  refine Eq.trans (View.ld_unit_apply_of _ _ _ _ _ (ix2 r ⟨d.val, by omega⟩) (fun a => ?_)) (read3 m c t r _)
  match a with
  | ⟨0, _⟩ => show r.val = 0 + r.val; omega
  | ⟨1, _⟩ => show d.val = 0 + d.val; omega

/-- The second half. -/
theorem gate1 (r : Fin 512) (d : Fin 1024) : (View.ld (iblk m c 3 t) r0_1 : Vec Ideal S512x1024 .bf16) (ix2 r d) = X3 m c (ix2 (tok t r) ⟨1024 + d.val, by omega⟩) := by
  refine Eq.trans (View.ld_unit_apply_of _ _ _ _ _ (ix2 r ⟨1024 + d.val, by omega⟩) (fun a => ?_)) (read3 m c t r _)
  match a with
  | ⟨0, _⟩ => show r.val = 0 + r.val; omega
  | ⟨1, _⟩ => rfl

/-- A block's residuals are the tokens'. -/
theorem row2 (r : Fin 512) (d : Fin 1024) :
    k0_pay2 (View.ld (iblk m c 3 t) r0_0) (View.ld (iblk m c 3 t) r0_1) (iblk m c 1 t) (iblk m c 4 t) (iblk m c 2 t) (iblk m c 5 t) (iblk m c 0 t) (iblk m c 6 t) (ix2 r d)
      = res (X0 m c) (X1 m c) (X2 m c) (X3 m c) (X4 m c) (X5 m c) (X6 m c) (tok t r) d := by
  rw [pay2_apply]
  unfold res mixed
  simp only [gate0 m c t, gate1 m c t, read0 m c t, read1 m c t, read2 m c t, read4 m c t, read5 m c t, read6 m c t]

/-- A block's rows, normed. -/
abbrev rows3 : FVec Ideal S512x1024 .f32 :=
  k0_pay3 (View.ld (iblk m c 3 t) r0_0) (View.ld (iblk m c 3 t) r0_1) (iblk m c 1 t) (iblk m c 4 t) (iblk m c 2 t) (iblk m c 5 t) (iblk m c 0 t) (iblk m c 6 t)

theorem row3 (r : Fin 512) (d : Fin 1024) : rows3 m c t (ix2 r d) * (iblk m c 7 t : FVec Ideal S1x1024 .f32) (ix2 0 d)
    = nrm (X0 m c) (X1 m c) (X2 m c) (X3 m c) (X4 m c) (X5 m c) (X6 m c) (X7 m c) (tok t r) d := by
  unfold rows3
  rw [pay3_apply]
  unfold nrm
  simp only [row2 m c t, read7 m c t]

/-- The groups' logits, in their lanes. -/
theorem row_groups (r : Fin 512) (g : Fin 4) : k0_pay6 (rows3 m c t) (iblk m c 7 t) (iblk m c 8 t) (iblk m c 9 t) (ix2 r (glane g))
    = glogit (X0 m c) (X1 m c) (X2 m c) (X3 m c) (X4 m c) (X5 m c) (X6 m c) (X7 m c) (X8 m c) (X9 m c) (tok t r) g := by
  rw [pay6_apply]
  unfold glogit
  simp only [row3 m c t]
  rw [read9']
  exact congrArg (fun q => q + _) (Finset.sum_congr rfl fun k _ => congrArg _ (read8' m c t k g))

/-- The experts' logits, in theirs. -/
theorem row_experts (r : Fin 512) (e : Fin 32) : k0_pay6 (rows3 m c t) (iblk m c 7 t) (iblk m c 8 t) (iblk m c 9 t) (ix2 r (elane e))
    = elogit (X0 m c) (X1 m c) (X2 m c) (X3 m c) (X4 m c) (X5 m c) (X6 m c) (X7 m c) (X10 m c) (X11 m c) (tok t r) e := by
  rw [pay6_apply]
  unfold elogit
  simp only [row3 m c t]
  rw [read9]
  exact congrArg (fun q => q + _) (Finset.sum_congr rfl fun k _ => congrArg _ (read8 m c t k e))

/-- The residual a point writes back. -/
theorem out10 (r : Fin 512) (d : Fin 1024) : out0_10 (iblk m c 0 t) (iblk m c 1 t) (iblk m c 2 t) (iblk m c 3 t) (iblk m c 4 t) (iblk m c 5 t)
      (iblk m c 6 t) (iblk m c 7 t) (iblk m c 8 t) (iblk m c 9 t) (ix2 r d)
    = res (X0 m c) (X1 m c) (X2 m c) (X3 m c) (X4 m c) (X5 m c) (X6 m c) (tok t r) d := by
  frame_out
  exact row2 m c t r d

theorem pay23_eq : k0_pay23 (iblk m c 0 t) (iblk m c 1 t) (iblk m c 2 t) (iblk m c 3 t) (iblk m c 4 t) (iblk m c 5 t)
      (iblk m c 6 t) (iblk m c 7 t) (iblk m c 8 t) (iblk m c 9 t) = rows3 m c t := by
  exact pay23_of _ _ _ _ _ _ _ _ _ _

/-- The norm a point writes back. -/
theorem out11 (r : Fin 512) (d : Fin 1024) : out0_11 (iblk m c 0 t) (iblk m c 1 t) (iblk m c 2 t) (iblk m c 3 t) (iblk m c 4 t) (iblk m c 5 t)
      (iblk m c 6 t) (iblk m c 7 t) (iblk m c 8 t) (iblk m c 9 t) (ix2 r d)
    = nrm (X0 m c) (X1 m c) (X2 m c) (X3 m c) (X4 m c) (X5 m c) (X6 m c) (X7 m c) (tok t r) d := by
  frame_out
  rw [pay23_eq]
  exact (pay5_apply _ _ r d).trans (row3 m c t r d)

theorem pay25_eq : k0_pay25 (iblk m c 0 t) (iblk m c 1 t) (iblk m c 2 t) (iblk m c 3 t) (iblk m c 4 t) (iblk m c 5 t)
      (iblk m c 6 t) (iblk m c 7 t) (iblk m c 8 t) (iblk m c 9 t) = k0_pay6 (rows3 m c t) (iblk m c 7 t) (iblk m c 8 t) (iblk m c 9 t) := by
  rw [← pay23_eq]
  exact pay25_of _ _ _ _ _ _ _ _ _ _

theorem pay26_eq : k0_pay26 (iblk m c 0 t) (iblk m c 1 t) (iblk m c 2 t) (iblk m c 3 t) (iblk m c 4 t) (iblk m c 5 t)
      (iblk m c 6 t) (iblk m c 7 t) (iblk m c 8 t) (iblk m c 9 t) = k0_pay10 (rows3 m c t) (iblk m c 7 t) (iblk m c 8 t) (iblk m c 9 t) := by
  rw [← pay23_eq]
  exact pay26_of _ _ _ _ _ _ _ _ _ _

theorem pay27_eq : k0_pay27 (iblk m c 0 t) (iblk m c 1 t) (iblk m c 2 t) (iblk m c 3 t) (iblk m c 4 t) (iblk m c 5 t)
      (iblk m c 6 t) (iblk m c 7 t) (iblk m c 8 t) (iblk m c 9 t) = k0_pay11 (rows3 m c t) (iblk m c 7 t) (iblk m c 8 t) (iblk m c 9 t) := by
  rw [← pay23_eq]
  exact pay27_of _ _ _ _ _ _ _ _ _ _

theorem pay24_apply (r : Fin 512) (l : Fin 128) : k0_pay24 (F := Ideal) (iblk m c 0 t) (iblk m c 1 t) (iblk m c 2 t) (iblk m c 3 t) (iblk m c 4 t) (iblk m c 5 t)
      (iblk m c 6 t) (iblk m c 7 t) (iblk m c 8 t) (iblk m c 9 t) (ix2 r l) = BitVec.ofNat 32 l.val := by
  pointwise [k0_pay24]

/-- The experts' weights a point writes back, when the logits are not below what hides a lane. -/
theorem out12 (r : Fin 512) (l : Fin 128) {g : Fin 4} {a b : Fin 8}
    (hg : First (glogit (X0 m c) (X1 m c) (X2 m c) (X3 m c) (X4 m c) (X5 m c) (X6 m c) (X7 m c) (X8 m c) (X9 m c) (tok t r)) (fun _ => True) g)
    (ha : First (fun e => elogit (X0 m c) (X1 m c) (X2 m c) (X3 m c) (X4 m c) (X5 m c) (X6 m c) (X7 m c) (X10 m c) (X11 m c) (tok t r) (ex g e)) (fun _ => True) a)
    (hb : First (fun e => elogit (X0 m c) (X1 m c) (X2 m c) (X3 m c) (X4 m c) (X5 m c) (X6 m c) (X7 m c) (X10 m c) (X11 m c) (tok t r) (ex g e)) (fun j => j ≠ a) b)
    (hG : ∀ g, Ideal.ofBits .f32 0xFF7FFFFF#32 ≤ glogit (X0 m c) (X1 m c) (X2 m c) (X3 m c) (X4 m c) (X5 m c) (X6 m c) (X7 m c) (X8 m c) (X9 m c) (tok t r) g)
    (hE : ∀ e, Ideal.ofBits .f32 0xFF7FFFFF#32 ≤ elogit (X0 m c) (X1 m c) (X2 m c) (X3 m c) (X4 m c) (X5 m c) (X6 m c) (X7 m c) (X10 m c) (X11 m c) (tok t r) e) :
    out0_12 (iblk m c 0 t) (iblk m c 1 t) (iblk m c 2 t) (iblk m c 3 t) (iblk m c 4 t) (iblk m c 5 t)
      (iblk m c 6 t) (iblk m c 7 t) (iblk m c 8 t) (iblk m c 9 t) (ix2 r l)
    = weight (glogit (X0 m c) (X1 m c) (X2 m c) (X3 m c) (X4 m c) (X5 m c) (X6 m c) (X7 m c) (X8 m c) (X9 m c) (tok t r))
        (elogit (X0 m c) (X1 m c) (X2 m c) (X3 m c) (X4 m c) (X5 m c) (X6 m c) (X7 m c) (X10 m c) (X11 m c) (tok t r)) g a b l := by
  frame_out
  rw [pay25_eq, pay26_eq, pay27_eq]
  exact weights _ _ _ r (row_experts m c t r) (pay24_apply m c t r) (pay11_apply _ _ _ _ r (row_groups m c t r) hg (hG g)) ha hb (hE _) (hE _) _
    (pay10_apply _ _ _ _ r (row_groups m c t r) hg (hG g)) l

/-- The point whose block holds a token. -/
abbrev pt (n : Fin 16384) : Fin cfg0.N := ⟨n.val / 512, Nat.lt_of_lt_of_eq (by omega : n.val / 512 < 32) N_0.symm⟩
/-- Its row there. -/
abbrev row (n : Fin 16384) : Fin 512 := ⟨n.val % 512, Nat.mod_lt _ (by decide)⟩

theorem tok_pt (n : Fin 16384) : tok (pt n) (row n) = n := Fin.ext (by show 512 * (n.val / 512) + n.val % 512 = n.val; omega)

theorem flushes : ∀ t : Fin cfg0.N, (cfg0.win 10).flush t = true ∧ (cfg0.win 11).flush t = true ∧ (cfg0.win 12).flush t = true :=
  (by decide +kernel : ∀ t : Fin grid0.N, (cfg0.win 10).flush t = true ∧ (cfg0.win 11).flush t = true ∧ (cfg0.win 12).flush t = true)

/-- The launch's residuals. -/
theorem result10 (n : Fin 16384) (d : Fin 1024) : (dats m 0 c).arrAt 10 cfg0.N (ix2 n d)
    = res (X0 m c) (X1 m c) (X2 m c) (X3 m c) (X4 m c) (X5 m c) (X6 m c) n d := by
  have hx := congrFun ((blocks10 m c (pt n) (flushes _).1).trans (flushed10 m c (pt n))) (ix2 (row n) d)
  have ho := out10 m c (pt n) (row n) d
  rw [tok_pt] at ho
  refine Eq.trans ?_ (hx.trans ho)
  refine congrArg ((dats m 0 c).arrAt 10 cfg0.N) ?_
  funext a
  refine Fin.ext ?_
  match a with
  | ⟨0, _⟩ =>
    show n.val = win0_10.index (pt n) (0 : Fin 2) * 512 + 1 * (n.val % 512)
    rw [(idx (pt n)).2.2.2.2.2.2.2.2.2.2.1]
    show n.val = n.val / 512 * 512 + 1 * (n.val % 512)
    omega
  | ⟨1, _⟩ =>
    show d.val = win0_10.index (pt n) (1 : Fin 2) * 1024 + 1 * d.val
    rw [(idx (pt n)).2.2.2.2.2.2.2.2.2.2.1]
    show d.val = 0 * 1024 + 1 * d.val
    omega

/-- The launch's norms. -/
theorem result11 (n : Fin 16384) (d : Fin 1024) : (dats m 0 c).arrAt 11 cfg0.N (ix2 n d)
    = nrm (X0 m c) (X1 m c) (X2 m c) (X3 m c) (X4 m c) (X5 m c) (X6 m c) (X7 m c) n d := by
  have hx := congrFun ((blocks11 m c (pt n) (flushes _).2.1).trans (flushed11 m c (pt n))) (ix2 (row n) d)
  have ho := out11 m c (pt n) (row n) d
  rw [tok_pt] at ho
  refine Eq.trans ?_ (hx.trans ho)
  refine congrArg ((dats m 0 c).arrAt 11 cfg0.N) ?_
  funext a
  refine Fin.ext ?_
  match a with
  | ⟨0, _⟩ =>
    show n.val = win0_11.index (pt n) (0 : Fin 2) * 512 + 1 * (n.val % 512)
    rw [(idx (pt n)).2.2.2.2.2.2.2.2.2.2.2.1]
    show n.val = n.val / 512 * 512 + 1 * (n.val % 512)
    omega
  | ⟨1, _⟩ =>
    show d.val = win0_11.index (pt n) (1 : Fin 2) * 1024 + 1 * d.val
    rw [(idx (pt n)).2.2.2.2.2.2.2.2.2.2.2.1]
    show d.val = 0 * 1024 + 1 * d.val
    omega

/-- The launch's weights are the block's, at the token's row. -/
theorem result12 (n : Fin 16384) (l : Fin 128) : (dats m 0 c).arrAt 12 cfg0.N (ix2 n l)
    = out0_12 (iblk m c 0 (pt n)) (iblk m c 1 (pt n)) (iblk m c 2 (pt n)) (iblk m c 3 (pt n)) (iblk m c 4 (pt n)) (iblk m c 5 (pt n))
      (iblk m c 6 (pt n)) (iblk m c 7 (pt n)) (iblk m c 8 (pt n)) (iblk m c 9 (pt n)) (ix2 (row n) l) := by
  have hx := congrFun ((blocks12 m c (pt n) (flushes _).2.2).trans (flushed12 m c (pt n))) (ix2 (row n) l)
  refine Eq.trans ?_ hx
  refine congrArg ((dats m 0 c).arrAt 12 cfg0.N) ?_
  funext a
  refine Fin.ext ?_
  match a with
  | ⟨0, _⟩ =>
    show n.val = win0_12.index (pt n) (0 : Fin 2) * 512 + 1 * (n.val % 512)
    rw [(idx (pt n)).2.2.2.2.2.2.2.2.2.2.2.2]
    show n.val = n.val / 512 * 512 + 1 * (n.val % 512)
    omega
  | ⟨1, _⟩ =>
    show l.val = win0_12.index (pt n) (1 : Fin 2) * 128 + 1 * l.val
    rw [(idx (pt n)).2.2.2.2.2.2.2.2.2.2.2.2]
    show l.val = 0 * 128 + 1 * l.val
    omega

end Cert.KernelMergeIdeal.Body

end
-- ==== Proof.MergeWhole.lean ====
/-
  The merge's results, the launch's beside the reference's: the third of them where the norm's weights and the router's
  weights and biases are bounded.
-/
module

public import proofs.«01_k».proof.Proof.MergeTaken
public import proofs.«01_k».proof.Proof.MergeBound
public import proofs.«01_k».proof.Proof.MergeKernel

@[expose] public section

set_option maxRecDepth 16384

noncomputable section

namespace Cert.Merge

open Idealize.ShloMosaic Idealize.ShloMosaic.TcCoe

section Logits

variable (x0 : FVec Ideal ⟨2, ![16384, 1024]⟩ .f32) (x1 x2 : FVec Ideal ⟨2, ![16384, 512]⟩ .bf16) (x3 : FVec Ideal ⟨2, ![16384, 2048]⟩ .bf16)
  (x4 x5 : FVec Ideal ⟨2, ![512, 1024]⟩ .f32) (x6 : FVec Ideal ⟨2, ![1024, 1024]⟩ .f32) (x7 : FVec Ideal ⟨1, ![1024]⟩ .f32)
  (x8 : FVec Ideal ⟨2, ![1024, 4]⟩ .f32) (x9 : FVec Ideal ⟨1, ![4]⟩ .f32) (x10 : FVec Ideal ⟨2, ![1024, 32]⟩ .f32) (x11 : FVec Ideal ⟨1, ![32]⟩ .f32)
  (h7 : ∀ i, Within (2 ^ 30) (x7 i)) (h8 : ∀ i, Within (2 ^ 30) (x8 i)) (h9 : ∀ i, Within (2 ^ 30) (x9 i))
  (h10 : ∀ i, Within (2 ^ 30) (x10 i)) (h11 : ∀ i, Within (2 ^ 30) (x11 i)) (n : Fin 16384)

include h7 in
/-- The norm is bounded, whatever the residual. -/
theorem nrm_within (d : Fin 1024) : Within (32 * 2 ^ 30) (nrm x0 x1 x2 x3 x4 x5 x6 x7 n d) :=
  (normed (fun k => res x0 x1 x2 x3 x4 x5 x6 n k) d).mul (by norm_num) (h7 _)

include h7 h8 h9 in
/-- So are the groups' logits. -/
theorem glogit_within (g : Fin 4) : Within (2 ^ 76) (glogit x0 x1 x2 x3 x4 x5 x6 x7 x8 x9 n g) :=
  logit_within (fun k => nrm x0 x1 x2 x3 x4 x5 x6 x7 n k) (fun k => x8 (ix2 k g)) _ (nrm_within x0 x1 x2 x3 x4 x5 x6 x7 h7 n) (fun k => h8 _) (h9 _)

include h7 h10 h11 in
/-- And the experts'. -/
theorem elogit_within (e : Fin 32) : Within (2 ^ 76) (elogit x0 x1 x2 x3 x4 x5 x6 x7 x10 x11 n e) :=
  logit_within (fun k => nrm x0 x1 x2 x3 x4 x5 x6 x7 n k) (fun k => x10 (ix2 k e)) _ (nrm_within x0 x1 x2 x3 x4 x5 x6 x7 h7 n) (fun k => h10 _) (h11 _)

/-- The reference's second result. -/
theorem v67 (d : Fin 1024) : Cert.ReferenceMergeIdeal.Read.val_main_v67 (F := Ideal) x0 x1 x2 x3 x4 x5 x6 x7 (ix2 n d) = nrm x0 x1 x2 x3 x4 x5 x6 x7 n d := by
  open Cert.ReferenceMergeIdeal.Read in
  pointwise [val_main_v67]
  rw [Cert.ReferenceMergeIdeal.Whole.v24]

end Logits

open Cert.KernelMergeIdeal Cert.KernelMergeIdeal.Gen Cert.KernelMergeIdeal.Body

variable (m : (ℓ : Loc nD τ sig) → Buf (Elt Ideal) ℓ) (c : Dev nD)
  (h7 : ∀ i, Within (2 ^ 30) (X7 m c i)) (h8 : ∀ i, Within (2 ^ 30) (X8 m c i)) (h9 : ∀ i, Within (2 ^ 30) (X9 m c i))
  (h10 : ∀ i, Within (2 ^ 30) (X10 m c i)) (h11 : ∀ i, Within (2 ^ 30) (X11 m c i))

include h7 h8 h9 h10 h11 in
/-- The experts' weights: the launch's are the reference's. -/
theorem weights_eq (n : Fin 16384) (l : Fin 128) :
    Cert.ReferenceMergeIdeal.Read.val_main_v68 (F := Ideal) (X0 m c) (X1 m c) (X2 m c) (X3 m c) (X4 m c) (X5 m c) (X6 m c) (X7 m c) (X8 m c) (X9 m c)
      (X10 m c) (X11 m c) (ix2 n l) = (dats m 0 c).arrAt 12 cfg0.N (ix2 n l) := by
  have hG := glogit_within (X0 m c) (X1 m c) (X2 m c) (X3 m c) (X4 m c) (X5 m c) (X6 m c) (X7 m c) (X8 m c) (X9 m c) h7 h8 h9 n
  have hE := elogit_within (X0 m c) (X1 m c) (X2 m c) (X3 m c) (X4 m c) (X5 m c) (X6 m c) (X7 m c) (X10 m c) (X11 m c) h7 h10 h11 n
  have hg := Cert.ReferenceMergeIdeal.Whole.group_first (X0 m c) (X1 m c) (X2 m c) (X3 m c) (X4 m c) (X5 m c) (X6 m c) (X7 m c) (X8 m c) (X9 m c) n
    (fun g => (hG g).real)
  have he := Cert.ReferenceMergeIdeal.Whole.experts_first (X0 m c) (X1 m c) (X2 m c) (X3 m c) (X4 m c) (X5 m c) (X6 m c) (X7 m c) (X8 m c) (X9 m c)
    (X10 m c) (X11 m c) n
  have hr := Cert.ReferenceMergeIdeal.Whole.v68 (X0 m c) (X1 m c) (X2 m c) (X3 m c) (X4 m c) (X5 m c) (X6 m c) (X7 m c) (X8 m c) (X9 m c)
    (X10 m c) (X11 m c) n l (fun g => (hG g).real) (fun e => (hE e).real)
  refine hr.trans (Eq.symm ((result12 m c n l).trans ?_))
  have ho := out12 m c (pt n) (row n) l (g := _) (a := _) (b := _) ((tok_pt n).symm ▸ hg) ((tok_pt n).symm ▸ he.1) ((tok_pt n).symm ▸ he.2)
    (fun g => (tok_pt n).symm ▸ (hG g).above) (fun e => (tok_pt n).symm ▸ (hE e).above)
  rw [tok_pt] at ho
  exact ho

include h7 h8 h9 h10 h11 in
/-- The same at arrays equal to the launch's arguments. -/
theorem weights_of (y0 : FVec Ideal ⟨2, ![16384, 1024]⟩ .f32) (y1 y2 : FVec Ideal ⟨2, ![16384, 512]⟩ .bf16) (y3 : FVec Ideal ⟨2, ![16384, 2048]⟩ .bf16)
    (y4 y5 : FVec Ideal ⟨2, ![512, 1024]⟩ .f32) (y6 : FVec Ideal ⟨2, ![1024, 1024]⟩ .f32) (y7 : FVec Ideal ⟨1, ![1024]⟩ .f32)
    (y8 : FVec Ideal ⟨2, ![1024, 4]⟩ .f32) (y9 : FVec Ideal ⟨1, ![4]⟩ .f32) (y10 : FVec Ideal ⟨2, ![1024, 32]⟩ .f32) (y11 : FVec Ideal ⟨1, ![32]⟩ .f32)
    (e0 : y0 = X0 m c) (e1 : y1 = X1 m c) (e2 : y2 = X2 m c) (e3 : y3 = X3 m c) (e4 : y4 = X4 m c) (e5 : y5 = X5 m c) (e6 : y6 = X6 m c)
    (e7 : y7 = X7 m c) (e8 : y8 = X8 m c) (e9 : y9 = X9 m c) (e10 : y10 = X10 m c) (e11 : y11 = X11 m c) (n : Fin 16384) (l : Fin 128) :
    Cert.ReferenceMergeIdeal.Read.val_main_v68 (F := Ideal) y0 y1 y2 y3 y4 y5 y6 y7 y8 y9 y10 y11 (ix2 n l) = (dats m 0 c).arrAt 12 cfg0.N (ix2 n l) := by
  subst e0 e1 e2 e3 e4 e5 e6 e7 e8 e9 e10 e11
  exact weights_eq m c h7 h8 h9 h10 h11 n l

/-- The residuals: the reference's at arrays equal to the launch's arguments are the launch's. -/
theorem residuals_of
    (y0 : FVec Ideal ⟨2, ![16384, 1024]⟩ .f32) (y1 y2 : FVec Ideal ⟨2, ![16384, 512]⟩ .bf16) (y3 : FVec Ideal ⟨2, ![16384, 2048]⟩ .bf16)
    (y4 y5 : FVec Ideal ⟨2, ![512, 1024]⟩ .f32) (y6 : FVec Ideal ⟨2, ![1024, 1024]⟩ .f32)
    (e0 : y0 = X0 m c) (e1 : y1 = X1 m c) (e2 : y2 = X2 m c) (e3 : y3 = X3 m c) (e4 : y4 = X4 m c) (e5 : y5 = X5 m c) (e6 : y6 = X6 m c) (n : Fin 16384) (d : Fin 1024) :
    Cert.ReferenceMergeIdeal.Read.val_main_v11 (F := Ideal) y0 y1 y2 y3 y4 y5 y6 (ix2 n d) = (dats m 0 c).arrAt 10 cfg0.N (ix2 n d) := by
  subst e0 e1 e2 e3 e4 e5 e6
  exact (Cert.ReferenceMergeIdeal.Whole.v11 _ _ _ _ _ _ _ n d).trans (result10 m c n d).symm

/-- The norms likewise. -/
theorem norms_of
    (y0 : FVec Ideal ⟨2, ![16384, 1024]⟩ .f32) (y1 y2 : FVec Ideal ⟨2, ![16384, 512]⟩ .bf16) (y3 : FVec Ideal ⟨2, ![16384, 2048]⟩ .bf16)
    (y4 y5 : FVec Ideal ⟨2, ![512, 1024]⟩ .f32) (y6 : FVec Ideal ⟨2, ![1024, 1024]⟩ .f32) (y7 : FVec Ideal ⟨1, ![1024]⟩ .f32)
    (e0 : y0 = X0 m c) (e1 : y1 = X1 m c) (e2 : y2 = X2 m c) (e3 : y3 = X3 m c) (e4 : y4 = X4 m c) (e5 : y5 = X5 m c) (e6 : y6 = X6 m c)
    (e7 : y7 = X7 m c) (n : Fin 16384) (d : Fin 1024) :
    Cert.ReferenceMergeIdeal.Read.val_main_v67 (F := Ideal) y0 y1 y2 y3 y4 y5 y6 y7 (ix2 n d) = (dats m 0 c).arrAt 11 cfg0.N (ix2 n d) := by
  subst e0 e1 e2 e3 e4 e5 e6 e7
  exact (v67 _ _ _ _ _ _ _ _ n d).trans (result11 m c n d).symm

end Cert.Merge

end
-- ==== Proof.MoeMath.lean ====
/-
  The mathematics of the feed-forward layer: the weighted contribution of one group of eight experts to one channel of one
  token, and the normalised sum of the residual and the four groups' contributions.
-/
module

public import Idealize.ShloMosaic.Lib.Pointwise

@[expose] public section

noncomputable section

namespace Cert.Moe

open Idealize.ShloMosaic

/-- The gate `z · 1/(1 + e^(-z))`. -/
def silu (z : EReal) : EReal := z * Ideal.div 1 (1 + Ideal.exp (-z))

/-- The number of expert `e` of group `g`. -/
abbrev expert (g : Fin 4) (e : Fin 8) : Fin 32 := ⟨8 * g.val + e.val, by omega⟩

/-- The lane of the combine weights that belongs to expert `e` of group `g`. -/
abbrev lane (g : Fin 4) (e : Fin 8) : Fin 128 := ⟨8 * g.val + e.val, by omega⟩

variable (h : FVec Ideal ⟨2, ![16384, 1024]⟩ .bf16) (comb : FVec Ideal ⟨2, ![16384, 128]⟩ .f32)
  (wg wu : FVec Ideal ⟨3, ![32, 1024, 256]⟩ .f32) (wd : FVec Ideal ⟨3, ![32, 256, 1024]⟩ .f32)

/-- One hidden value of one expert, gated and weighted, times its down weight to channel `d`. -/
def hidden (n : Fin 16384) (d : Fin 1024) (g : Fin 4) (e : Fin 8) (f : Fin 256) : EReal :=
  silu (∑ k : Fin 1024, h (ix2 n k) * wg (ix3 (expert g e) k f))
    * (∑ k : Fin 1024, h (ix2 n k) * wu (ix3 (expert g e) k f))
    * comb (ix2 n (lane g e)) * wd (ix3 (expert g e) f d)

/-- What group `g` adds to channel `d` of token `n`. -/
def group (n : Fin 16384) (d : Fin 1024) (g : Fin 4) : EReal :=
  ∑ e : Fin 8, ∑ f : Fin 256, hidden h comb wg wu wd n d g e f

/-- The residual plus the four groups' contributions. -/
def total (x : FVec Ideal ⟨2, ![16384, 1024]⟩ .f32) (n : Fin 16384) (d : Fin 1024) : EReal :=
  x (ix2 n d) + (group h comb wg wu wd n d 0 + group h comb wg wu wd n d 1 + group h comb wg wu wd n d 2
    + group h comb wg wu wd n d 3)

/-- A row `y` scaled by the inverse root of its mean square plus a small constant, and by `w`, at channel `d`. -/
def rmsNorm (y : Fin 1024 → EReal) (w : EReal) (d : Fin 1024) : EReal :=
  y d * Ideal.rsqrt (Ideal.div (∑ k, y k * y k) (Ideal.ofBits FTy.f32 0x44800000#32) + Ideal.ofBits FTy.f32 0x358637BD#32) * w

/-- A sum over 2048 hidden lanes is the sum over eight experts of the sums over each one's 256 lanes. -/
theorem sum_lanes (F : Fin 8 → Fin 256 → EReal) :
    (∑ f : Fin 2048, F ⟨f.val / 256, by omega⟩ ⟨f.val % 256, Nat.mod_lt _ (by decide)⟩) = ∑ e : Fin 8, ∑ f : Fin 256, F e f := by
  rw [← Fintype.sum_prod_type' F]
  refine (Fintype.sum_equiv (finProdFinEquiv (m := 8) (n := 256)) _ _ fun x => ?_).symm
  obtain ⟨a, b⟩ := x
  have ha : (finProdFinEquiv (a, b)).val = b.val + 256 * a.val := rfl
  congr 1
  · apply Fin.ext; show a.val = (finProdFinEquiv (a, b)).val / 256; omega
  · apply Fin.ext; show b.val = (finProdFinEquiv (a, b)).val % 256; omega

end Cert.Moe

end
-- ==== Proof.MoeRef.lean ====
/-
  The reference of the feed-forward layer read at one element: the normalised sum of the residual and the four groups of
  experts.
-/
module

public import proofs.«01_k».proof.Proof.Gen.ReferenceMoeIdeal.Read
public import proofs.«01_k».proof.Proof.MoeMath

@[expose] public section

set_option maxRecDepth 16384

noncomputable section

namespace Cert.ReferenceMoeIdeal.Whole

open Idealize.ShloMosaic Cert.ReferenceMoeIdeal Cert.ReferenceMoeIdeal.Gen Cert.ReferenceMoeIdeal.Read

variable (x1 : FVec Ideal S16384x1024 .bf16) (x2 : FVec Ideal S16384x128 .f32) (x3 x4 : FVec Ideal S32x1024x256 .f32)
  (x5 : FVec Ideal S32x256x1024 .f32)

/-- The reference's product for group 0 is that group's contribution. -/
theorem group0 (n : Fin 16384) (d : Fin 1024) :
    val_main_v14 (F := Ideal) x1 x2 x3 x4 x5 (ix2 n d) = Cert.Moe.group x1 x2 x3 x4 x5 n d 0 := by
  unfold Cert.Moe.group Cert.Moe.hidden Cert.Moe.silu
  pointwise [val_main_v3, val_main_v4, val_main_v5, val_main_v6, val_main_v7, val_main_v8, val_main_v9, val_main_v10, val_main_v11, val_main_v12, val_main_v13, val_main_v14, val_main_v0, val_main_v1, val_main_call0_v0, val_main_call0_v1, val_main_call0_v2, val_main_call0_v3, val_main_call0_v4, val_main_call0_v5, val_main_call0_cst, val_main_call0_cst_0]
  have he : ∀ (e : Fin 8) (he), (⟨e.val, he⟩ : Fin 32) = Cert.Moe.expert 0 e := fun e _ => Fin.ext (by show e.val = 8 * 0 + e.val; omega)
  have hl : ∀ (e : Fin 8) (he), (⟨e.val, he⟩ : Fin 128) = Cert.Moe.lane 0 e := fun e _ => Fin.ext (by show e.val = 8 * 0 + e.val; omega)
  simp only [he, hl]

/-- The reference's product for group 1 is that group's contribution. -/
theorem group1 (n : Fin 16384) (d : Fin 1024) :
    val_main_v27 (F := Ideal) x1 x2 x3 x4 x5 (ix2 n d) = Cert.Moe.group x1 x2 x3 x4 x5 n d 1 := by
  unfold Cert.Moe.group Cert.Moe.hidden Cert.Moe.silu
  pointwise [val_main_v16, val_main_v17, val_main_v18, val_main_v19, val_main_v20, val_main_v21, val_main_v22, val_main_v23, val_main_v24, val_main_v25, val_main_v26, val_main_v27, val_main_v0, val_main_v1, val_main_call1_v0, val_main_call1_v1, val_main_call1_v2, val_main_call1_v3, val_main_call1_v4, val_main_call1_v5, val_main_call1_cst, val_main_call1_cst_0]
  have he : ∀ (e : Fin 8) (he), (⟨8 + e.val, he⟩ : Fin 32) = Cert.Moe.expert 1 e := fun e _ => Fin.ext (by show 8 + e.val = 8 * 1 + e.val; omega)
  have hl : ∀ (e : Fin 8) (he), (⟨8 + e.val, he⟩ : Fin 128) = Cert.Moe.lane 1 e := fun e _ => Fin.ext (by show 8 + e.val = 8 * 1 + e.val; omega)
  simp only [he, hl]

/-- The reference's product for group 2 is that group's contribution. -/
theorem group2 (n : Fin 16384) (d : Fin 1024) :
    val_main_v40 (F := Ideal) x1 x2 x3 x4 x5 (ix2 n d) = Cert.Moe.group x1 x2 x3 x4 x5 n d 2 := by
  unfold Cert.Moe.group Cert.Moe.hidden Cert.Moe.silu
  pointwise [val_main_v29, val_main_v30, val_main_v31, val_main_v32, val_main_v33, val_main_v34, val_main_v35, val_main_v36, val_main_v37, val_main_v38, val_main_v39, val_main_v40, val_main_v0, val_main_v1, val_main_call2_v0, val_main_call2_v1, val_main_call2_v2, val_main_call2_v3, val_main_call2_v4, val_main_call2_v5, val_main_call2_cst, val_main_call2_cst_0]
  have he : ∀ (e : Fin 8) (he), (⟨16 + e.val, he⟩ : Fin 32) = Cert.Moe.expert 2 e := fun e _ => Fin.ext (by show 16 + e.val = 8 * 2 + e.val; omega)
  have hl : ∀ (e : Fin 8) (he), (⟨16 + e.val, he⟩ : Fin 128) = Cert.Moe.lane 2 e := fun e _ => Fin.ext (by show 16 + e.val = 8 * 2 + e.val; omega)
  simp only [he, hl]

/-- The reference's product for group 3 is that group's contribution. -/
theorem group3 (n : Fin 16384) (d : Fin 1024) :
    val_main_v53 (F := Ideal) x1 x2 x3 x4 x5 (ix2 n d) = Cert.Moe.group x1 x2 x3 x4 x5 n d 3 := by
  unfold Cert.Moe.group Cert.Moe.hidden Cert.Moe.silu
  pointwise [val_main_v42, val_main_v43, val_main_v44, val_main_v45, val_main_v46, val_main_v47, val_main_v48, val_main_v49, val_main_v50, val_main_v51, val_main_v52, val_main_v53, val_main_v0, val_main_v1, val_main_call3_v0, val_main_call3_v1, val_main_call3_v2, val_main_call3_v3, val_main_call3_v4, val_main_call3_v5, val_main_call3_cst, val_main_call3_cst_0]
  have he : ∀ (e : Fin 8) (he), (⟨24 + e.val, he⟩ : Fin 32) = Cert.Moe.expert 3 e := fun e _ => Fin.ext (by show 24 + e.val = 8 * 3 + e.val; omega)
  have hl : ∀ (e : Fin 8) (he), (⟨24 + e.val, he⟩ : Fin 128) = Cert.Moe.lane 3 e := fun e _ => Fin.ext (by show 24 + e.val = 8 * 3 + e.val; omega)
  simp only [he, hl]

/-- The reference at one element: the normalised sum. -/
theorem whole (x0 : FVec Ideal S16384x1024 .f32) (x6 : FVec Ideal S1024 .f32) (n : Fin 16384) (d : Fin 1024) :
    val_main_v68 (F := Ideal) x0 x1 x2 x3 x4 x5 x6 (ix2 n d)
      = Cert.Moe.rmsNorm (Cert.Moe.total x1 x2 x3 x4 x5 x0 n) (x6 (ix1 d)) d := by
  unfold Cert.Moe.rmsNorm Cert.Moe.total
  pointwise [val_main_v68, val_main_v67, val_main_v66, val_main_v65, val_main_v64, val_main_v63, val_main_v62, val_main_v61,
    val_main_v60, val_main_v59, val_main_v58, val_main_v57, val_main_v56, val_main_cst_0, val_main_cst_1, val_main_cst_2,
    val_main_v55, val_main_v54, val_main_v41, val_main_v28, val_main_v15, val_main_v2, val_main_cst]
  simp only [group0, group1, group2, group3]

end Cert.ReferenceMoeIdeal.Whole

end
-- ==== Proof.MoeBody.lean ====
/-
  The feed-forward kernel's body: what one grid point leaves in the running sum and, at a tile's last point, in the result
  block, as functions of the blocks it reads; and those functions read at one element.
-/
module

public import proofs.«01_k».proof.Proof.Gen.KernelMoeIdeal.Value
public import proofs.«01_k».proof.Proof.MoeMath
public import Idealize.ShloMosaic.Lib.Tactic

@[expose] public section

set_option maxRecDepth 16384

noncomputable section

namespace Cert.KernelMoeIdeal.Body

open Idealize.ShloMosaic Idealize.ShloMosaic.TcCoe Idealize.SL.Sem
open Cert.KernelMoeIdeal Cert.KernelMoeIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- One group of experts added to the running sum `acc` of a tile of 512 tokens: the gated hidden values of the group,
    weighted by the tokens' combine weights, times the group's down projection. -/
def step (g : BitVec 32) (h : Vec Ideal S512x1024 .bf16) (comb : Vec Ideal S512x128 .f32) (wg wu : Vec Ideal S1x1024x2048 .bf16)
    (wd : Vec Ideal S1x2048x1024 .bf16) (acc : Vec Ideal S512x1024 .f32) : Vec Ideal S512x1024 .f32 :=
  k0_pay1 g (k0_pay4 h wg) (k0_pay5 h wu) comb (iota Kind.tc S128x2048 32 [0] iota_S128x2048_d0_w32) k0_pay6 k0_pay7 k0_pay8 acc wd

/-- The block written back after the last group: the running sum, normalised by its root mean square and scaled. -/
def norm (acc : Vec Ideal S512x1024 .f32) (ln : Vec Ideal S1x1024 .f32) : Vec Ideal S512x1024 .f32 := k0_pay2 acc ln

/-- A tile's first point leaves the group's contribution added to the residual. -/
theorem sout_A (c : Dev nD) (i : grid0.Coords)
    (arg2 : Memref sig .tc .vmem S512x1024 .f32) (harg2 : arg2.IsWhole)
    (arg3 : Memref sig .tc .vmem S512x1024 .bf16) (harg3 : arg3.IsWhole)
    (arg4 : Memref sig .tc .vmem S512x128 .f32) (harg4 : arg4.IsWhole)
    (arg5 : Memref sig .tc .vmem S1x1024x2048 .bf16) (harg5 : arg5.IsWhole)
    (arg6 : Memref sig .tc .vmem S1x1024x2048 .bf16) (harg6 : arg6.IsWhole)
    (arg7 : Memref sig .tc .vmem S1x2048x1024 .bf16) (harg7 : arg7.IsWhole)
    (arg8 : Memref sig .tc .vmem S1x1024 .f32) (harg8 : arg8.IsWhole)
    (arg9 : Memref sig .tc .vmem S512x1024 .f32) (harg9 : arg9.IsWhole)
    (arg10 : Memref sig .tc .vmem S512x1024 .f32) (harg10 : arg10.IsWhole) (hc0) (hc1)
    (x0 : Vec Ideal S512x1024 .f32) (x1 : Vec Ideal S512x1024 .bf16) (x2 : Vec Ideal S512x128 .f32) (x3 : Vec Ideal S1x1024x2048 .bf16)
    (x4 : Vec Ideal S1x1024x2048 .bf16) (x5 : Vec Ideal S1x2048x1024 .bf16) (x6 : Vec Ideal S1x1024 .f32) :
    sout0_A_0 c i arg2 harg2 arg3 harg3 arg4 harg4 arg5 harg5 arg6 harg6 arg7 harg7 arg8 harg8 arg9 harg9 arg10 harg10 hc0 hc1 x0 x1 x2 x3 x4 x5 x6
      = step (BitVec.ofNat 32 (i 1).val) x1 x2 x3 x4 x5 x0 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S512x1024) hz2]
  simp only [View.readAt_eq_ld, harg2.read_unread, harg3.read_unread, harg4.read_unread, harg5.read_unread, harg6.read_unread,
    harg7.read_unread, harg8.read_unread, harg10.read_unread, View.ld_unit_zero (S := S512x1024) hz2,
    View.ld_unit_zero (S := S512x128) hz2, View.ld_unit_zero (S := S1x1024) hz2, View.ld_unit_zero (S := S1x1024x2048) hz3,
    View.ld_unit_zero (S := S1x2048x1024) hz3, View.readCov_unit_zero (S := S512x1024) _ hz2]
  unfold k0_pay3; rw [shapeCast_self]; rfl

/-- A tile's later points add the group's contribution to what the point before left. -/
theorem sout_B (c : Dev nD) (i : grid0.Coords)
    (arg2 : Memref sig .tc .vmem S512x1024 .f32) (harg2 : arg2.IsWhole)
    (arg3 : Memref sig .tc .vmem S512x1024 .bf16) (harg3 : arg3.IsWhole)
    (arg4 : Memref sig .tc .vmem S512x128 .f32) (harg4 : arg4.IsWhole)
    (arg5 : Memref sig .tc .vmem S1x1024x2048 .bf16) (harg5 : arg5.IsWhole)
    (arg6 : Memref sig .tc .vmem S1x1024x2048 .bf16) (harg6 : arg6.IsWhole)
    (arg7 : Memref sig .tc .vmem S1x2048x1024 .bf16) (harg7 : arg7.IsWhole)
    (arg8 : Memref sig .tc .vmem S1x1024 .f32) (harg8 : arg8.IsWhole)
    (arg9 : Memref sig .tc .vmem S512x1024 .f32) (harg9 : arg9.IsWhole)
    (arg10 : Memref sig .tc .vmem S512x1024 .f32) (harg10 : arg10.IsWhole) (hc0) (hc1)
    (x0 : Vec Ideal S512x1024 .f32) (x1 : Vec Ideal S512x1024 .bf16) (x2 : Vec Ideal S512x128 .f32) (x3 : Vec Ideal S1x1024x2048 .bf16)
    (x4 : Vec Ideal S1x1024x2048 .bf16) (x5 : Vec Ideal S1x2048x1024 .bf16) (x6 : Vec Ideal S1x1024 .f32) (xs0 : Vec Ideal S512x1024 .f32) :
    sout0_B_0 c i arg2 harg2 arg3 harg3 arg4 harg4 arg5 harg5 arg6 harg6 arg7 harg7 arg8 harg8 arg9 harg9 arg10 harg10 hc0 hc1 x0 x1 x2 x3 x4 x5 x6 xs0
      = step (BitVec.ofNat 32 (i 1).val) x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg8.read_unread, harg10.read_unread, View.ld_unit_zero (S := S512x1024) hz2,
    View.ld_unit_zero (S := S512x128) hz2, View.ld_unit_zero (S := S1x1024) hz2, View.ld_unit_zero (S := S1x1024x2048) hz3,
    View.ld_unit_zero (S := S1x2048x1024) hz3, View.readCov_unit_zero (S := S512x1024) _ hz2]
  rfl

/-- So does its last point. -/
theorem sout_C (c : Dev nD) (i : grid0.Coords)
    (arg2 : Memref sig .tc .vmem S512x1024 .f32) (harg2 : arg2.IsWhole)
    (arg3 : Memref sig .tc .vmem S512x1024 .bf16) (harg3 : arg3.IsWhole)
    (arg4 : Memref sig .tc .vmem S512x128 .f32) (harg4 : arg4.IsWhole)
    (arg5 : Memref sig .tc .vmem S1x1024x2048 .bf16) (harg5 : arg5.IsWhole)
    (arg6 : Memref sig .tc .vmem S1x1024x2048 .bf16) (harg6 : arg6.IsWhole)
    (arg7 : Memref sig .tc .vmem S1x2048x1024 .bf16) (harg7 : arg7.IsWhole)
    (arg8 : Memref sig .tc .vmem S1x1024 .f32) (harg8 : arg8.IsWhole)
    (arg9 : Memref sig .tc .vmem S512x1024 .f32) (harg9 : arg9.IsWhole)
    (arg10 : Memref sig .tc .vmem S512x1024 .f32) (harg10 : arg10.IsWhole) (hc0) (hc1)
    (x0 : Vec Ideal S512x1024 .f32) (x1 : Vec Ideal S512x1024 .bf16) (x2 : Vec Ideal S512x128 .f32) (x3 : Vec Ideal S1x1024x2048 .bf16)
    (x4 : Vec Ideal S1x1024x2048 .bf16) (x5 : Vec Ideal S1x2048x1024 .bf16) (x6 : Vec Ideal S1x1024 .f32) (xs0 : Vec Ideal S512x1024 .f32) :
    sout0_C_0 c i arg2 harg2 arg3 harg3 arg4 harg4 arg5 harg5 arg6 harg6 arg7 harg7 arg8 harg8 arg9 harg9 arg10 harg10 hc0 hc1 x0 x1 x2 x3 x4 x5 x6 xs0
      = step (BitVec.ofNat 32 (i 1).val) x1 x2 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz2]
  simp only [View.readAt_eq_ld, harg2.read_unread, harg3.read_unread, harg4.read_unread, harg5.read_unread, harg6.read_unread,
    harg7.read_unread, harg8.read_unread, harg10.read_unread, View.ld_unit_zero (S := S512x1024) hz2,
    View.ld_unit_zero (S := S512x128) hz2, View.ld_unit_zero (S := S1x1024) hz2, View.ld_unit_zero (S := S1x1024x2048) hz3,
    View.ld_unit_zero (S := S1x2048x1024) hz3, View.readCov_unit_zero (S := S512x1024) _ hz2]
  rfl

/-- The last point writes back the normalised sum. -/
theorem out_C (c : Dev nD) (i : grid0.Coords)
    (arg2 : Memref sig .tc .vmem S512x1024 .f32) (harg2 : arg2.IsWhole)
    (arg3 : Memref sig .tc .vmem S512x1024 .bf16) (harg3 : arg3.IsWhole)
    (arg4 : Memref sig .tc .vmem S512x128 .f32) (harg4 : arg4.IsWhole)
    (arg5 : Memref sig .tc .vmem S1x1024x2048 .bf16) (harg5 : arg5.IsWhole)
    (arg6 : Memref sig .tc .vmem S1x1024x2048 .bf16) (harg6 : arg6.IsWhole)
    (arg7 : Memref sig .tc .vmem S1x2048x1024 .bf16) (harg7 : arg7.IsWhole)
    (arg8 : Memref sig .tc .vmem S1x1024 .f32) (harg8 : arg8.IsWhole)
    (arg9 : Memref sig .tc .vmem S512x1024 .f32) (harg9 : arg9.IsWhole)
    (arg10 : Memref sig .tc .vmem S512x1024 .f32) (harg10 : arg10.IsWhole) (hc0) (hc1)
    (x0 : Vec Ideal S512x1024 .f32) (x1 : Vec Ideal S512x1024 .bf16) (x2 : Vec Ideal S512x128 .f32) (x3 : Vec Ideal S1x1024x2048 .bf16)
    (x4 : Vec Ideal S1x1024x2048 .bf16) (x5 : Vec Ideal S1x2048x1024 .bf16) (x6 : Vec Ideal S1x1024 .f32) (xs0 : Vec Ideal S512x1024 .f32) :
    out0_C_7 c i arg2 harg2 arg3 harg3 arg4 harg4 arg5 harg5 arg6 harg6 arg7 harg7 arg8 harg8 arg9 harg9 arg10 harg10 hc0 hc1 x0 x1 x2 x3 x4 x5 x6 xs0
      = norm (step (BitVec.ofNat 32 (i 1).val) x1 x2 x3 x4 x5 xs0) x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz2]
  simp only [View.readAt_eq_ld, harg2.read_unread, harg3.read_unread, harg4.read_unread, harg5.read_unread, harg6.read_unread,
    harg7.read_unread, harg8.read_unread, harg10.read_unread, View.ld_unit_zero (S := S512x1024) hz2,
    View.ld_unit_zero (S := S512x128) hz2, View.ld_unit_zero (S := S1x1024) hz2, View.ld_unit_zero (S := S1x1024x2048) hz3,
    View.ld_unit_zero (S := S1x2048x1024) hz3, View.readCov_unit_zero (S := S512x1024) _ hz2]
  rfl

/-- The column a hidden lane belongs to, in units of one expert's 256 lanes. -/
theorem column (l : Fin 128) (f : Fin 2048) :
    Scalar.select (k0_pay7 (ix2 l f)) (k0_pay8 (ix2 l f)) (k0_pay6 (ix2 l f)) = BitVec.ofNat 32 (f.val / 256) := by
  pointwise [k0_pay7, k0_pay8, k0_pay6]
  revert f
  decide +kernel

/-- Whether lane `l` of the combine weights is the one of expert `e` of group `g`, decided on 32-bit words. -/
theorem lane_word : ∀ (g : Fin 4) (e : Fin 8) (l : Fin 128),
    IntOp.cmpi .eq (BitVec.ofNat 32 l.val) (IntOp.addi (Scalar.muli (BitVec.ofNat 32 g.val) 8#32) (BitVec.ofNat 32 e.val))
      = BitVec.ofBool (decide (l = Cert.Moe.lane g e)) := by decide +kernel

/-- A row of combine weights times the one-hot column of expert `e` of group `g` is that expert's weight. -/
theorem weight (g : Fin 4) (e : Fin 8) (w : Fin 128 → EReal) :
    (∑ l : Fin 128, Scalar.select (IntOp.cmpi .eq (BitVec.ofNat 32 l.val)
      (IntOp.addi (Scalar.muli (BitVec.ofNat 32 g.val) 8#32) (BitVec.ofNat 32 e.val))) (w l) 0) = w (Cert.Moe.lane g e) := by
  have hs : ∀ l : Fin 128, Scalar.select (IntOp.cmpi .eq (BitVec.ofNat 32 l.val)
      (IntOp.addi (Scalar.muli (BitVec.ofNat 32 g.val) 8#32) (BitVec.ofNat 32 e.val))) (w l) 0
        = if l = Cert.Moe.lane g e then w l else 0 := by
    intro l
    rw [lane_word]
    by_cases h : l = Cert.Moe.lane g e
    · simp [h, Scalar.select]
    · simp [h, Scalar.select]
  rw [Finset.sum_congr rfl fun l _ => hs l, Finset.sum_ite_eq' Finset.univ _ w, if_pos (Finset.mem_univ _)]

/-- A step at one element: the running sum plus the sum over the group's 2048 hidden lanes. -/
theorem step_apply (g : Fin 4) (h : Vec Ideal S512x1024 .bf16) (comb : Vec Ideal S512x128 .f32) (wg wu : Vec Ideal S1x1024x2048 .bf16)
    (wd : Vec Ideal S1x2048x1024 .bf16) (acc : Vec Ideal S512x1024 .f32) (r : Fin 512) (d : Fin 1024) :
    step (BitVec.ofNat 32 g.val) h comb wg wu wd acc (ix2 r d) = acc (ix2 r d) + ∑ f : Fin 2048,
      Cert.Moe.silu (∑ k : Fin 1024, h (ix2 r k) * wg (ix3 0 k f)) * (∑ k : Fin 1024, h (ix2 r k) * wu (ix3 0 k f))
        * comb (ix2 r (Cert.Moe.lane g ⟨f.val / 256, by omega⟩)) * wd (ix3 0 f d) := by
  unfold Cert.Moe.silu
  pointwise [step, k0_pay1, k0_pay4, k0_pay5]
  refine congrArg (acc (ix2 r d) + ·) (Finset.sum_congr rfl fun f _ => ?_)
  simp only [column, zero_sub]
  rw [weight g ⟨f.val / 256, by omega⟩ fun l => comb (ix2 r l)]

/-- The written block at one element: the row normalised. -/
theorem norm_apply (acc : Vec Ideal S512x1024 .f32) (ln : Vec Ideal S1x1024 .f32) (r : Fin 512) (d : Fin 1024) :
    norm acc ln (ix2 r d) = Cert.Moe.rmsNorm (fun k => acc (ix2 r k)) (ln (ix2 0 d)) d := by
  unfold Cert.Moe.rmsNorm
  pointwise [norm, k0_pay2]

end Cert.KernelMoeIdeal.Body

end
-- ==== Proof.MoeKernel.lean ====
/-
  The feed-forward kernel's result array: the sum carried over a tile's four points, one group of eight experts at a time, and
  what the last of them writes back, read at one element.
-/
module

public import proofs.«01_k».proof.Proof.MoeBody
public import Idealize.ShloMosaic.Lib.Pipeline.ValueKit

@[expose] public section

set_option maxRecDepth 16384

noncomputable section

namespace Cert.KernelMoeIdeal.Body

open Idealize.ShloMosaic Idealize.ShloMosaic.TcCoe Idealize.SL.Sem
open Cert.KernelMoeIdeal Cert.KernelMoeIdeal.Gen

variable (m : (ℓ : Loc nD τ sig) → Buf (Elt Ideal) ℓ) (c : Dev nD)

/-- Where each window's block sits at a point, and the point's coordinate along the groups. -/
theorem idx : ∀ t : Fin cfg0.N, win0_0.index t = ![t.val / 4, 0] ∧ win0_1.index t = ![t.val / 4, 0] ∧ win0_2.index t = ![t.val / 4, 0]
    ∧ win0_3.index t = ![t.val % 4, 0, 0] ∧ win0_4.index t = ![t.val % 4, 0, 0] ∧ win0_5.index t = ![t.val % 4, 0, 0]
    ∧ win0_6.index t = ![0, 0] ∧ (grid0.coords t 1).val = t.val % 4 := (by decide +kernel : ∀ t : Fin grid0.N, _)

/-- The residual, at its literal shape. -/
abbrev X : FVec Ideal ⟨2, ![16384, 1024]⟩ .f32 := m ((c : Thread nD τ).loc main_arg0)
/-- The normalised tokens. -/
abbrev H : FVec Ideal ⟨2, ![16384, 1024]⟩ .bf16 := m ((c : Thread nD τ).loc main_arg1)
/-- The combine weights. -/
abbrev C : FVec Ideal ⟨2, ![16384, 128]⟩ .f32 := m ((c : Thread nD τ).loc main_arg2)
/-- The gate weights. -/
abbrev Wg : FVec Ideal ⟨3, ![32, 1024, 256]⟩ .f32 := m ((c : Thread nD τ).loc main_arg3)
/-- The up weights. -/
abbrev Wu : FVec Ideal ⟨3, ![32, 1024, 256]⟩ .f32 := m ((c : Thread nD τ).loc main_arg4)
/-- The down weights. -/
abbrev Wd : FVec Ideal ⟨3, ![32, 256, 1024]⟩ .f32 := m ((c : Thread nD τ).loc main_arg5)
/-- The last norm's weights. -/
abbrev Ln : FVec Ideal ⟨1, ![1024]⟩ .f32 := m ((c : Thread nD τ).loc main_arg6)

theorem lt_N (t : Fin cfg0.N) : t.val < 128 := Nat.lt_of_lt_of_eq t.isLt N_0

/-- The token of row `r` of point `t`'s tile. -/
abbrev tok (t : Fin cfg0.N) (r : Fin 512) : Fin 16384 := ⟨512 * (t.val / 4) + r.val, by have := lt_N t; omega⟩
/-- The group of point `t`. -/
abbrev grp (t : Fin cfg0.N) : Fin 4 := ⟨t.val % 4, by omega⟩

variable (t : Fin cfg0.N)

theorem read0 (r : Fin 512) (d : Fin 1024) : (iblk m c 0 t : FVec Ideal S512x1024 .f32) (ix2 r d) = X m c (ix2 (tok t r) d) := by
  have := lt_N t
  blk_ext [iblk, V, idx t]

theorem read1 (r : Fin 512) (k : Fin 1024) : (iblk m c 1 t : FVec Ideal S512x1024 .bf16) (ix2 r k) = H m c (ix2 (tok t r) k) := by
  have := lt_N t
  blk_ext [iblk, V, idx t]

theorem read2 (r : Fin 512) (l : Fin 128) : (iblk m c 2 t : FVec Ideal S512x128 .f32) (ix2 r l) = C m c (ix2 (tok t r) l) := by
  have := lt_N t
  blk_ext [iblk, V, idx t]

theorem read3 (k : Fin 1024) (f : Fin 2048) : (iblk m c 3 t : FVec Ideal S1x1024x2048 .bf16) (ix3 0 k f)
    = Wg m c (ix3 (Cert.Moe.expert (grp t) ⟨f.val / 256, by omega⟩) k ⟨f.val % 256, Nat.mod_lt _ (by decide)⟩) := by
  have := lt_N t
  blk_simp [iblk, idx t]
  entry_read
  pointwise
  blk_ext [idx t]

theorem read4 (k : Fin 1024) (f : Fin 2048) : (iblk m c 4 t : FVec Ideal S1x1024x2048 .bf16) (ix3 0 k f)
    = Wu m c (ix3 (Cert.Moe.expert (grp t) ⟨f.val / 256, by omega⟩) k ⟨f.val % 256, Nat.mod_lt _ (by decide)⟩) := by
  have := lt_N t
  blk_simp [iblk, idx t]
  entry_read
  pointwise
  blk_ext [idx t]

theorem read5 (f : Fin 2048) (d : Fin 1024) : (iblk m c 5 t : FVec Ideal S1x2048x1024 .bf16) (ix3 0 f d)
    = Wd m c (ix3 (Cert.Moe.expert (grp t) ⟨f.val / 256, by omega⟩) ⟨f.val % 256, Nat.mod_lt _ (by decide)⟩ d) := by
  have := lt_N t
  blk_simp [iblk, idx t]
  entry_read
  pointwise
  blk_ext [idx t]

theorem read6 (d : Fin 1024) : (iblk m c 6 t : FVec Ideal S1x1024 .f32) (ix2 0 d) = Ln m c (ix1 d) := by
  have := lt_N t
  blk_simp [iblk, idx t]
  entry_read
  pointwise
  blk_ext [idx t]

/-- What a point adds to the running sum is its group's contribution. -/
theorem step_block (acc : Vec Ideal S512x1024 .f32) (r : Fin 512) (d : Fin 1024) :
    step (BitVec.ofNat 32 (grid0.coords t 1).val) (iblk m c 1 t) (iblk m c 2 t) (iblk m c 3 t) (iblk m c 4 t) (iblk m c 5 t) acc (ix2 r d)
      = acc (ix2 r d) + Cert.Moe.group (H m c) (C m c) (Wg m c) (Wu m c) (Wd m c) (tok t r) d (grp t) := by
  rw [show (grid0.coords t 1).val = (grp t).val from (idx t).2.2.2.2.2.2.2]
  refine (step_apply (grp t) _ _ _ _ _ _ r d).trans (congrArg (acc (ix2 r d) + ·) ?_)
  refine Eq.trans ?_ (Cert.Moe.sum_lanes (Cert.Moe.hidden (H m c) (C m c) (Wg m c) (Wu m c) (Wd m c) (tok t r) d (grp t)))
  refine Finset.sum_congr rfl fun f _ => ?_
  unfold Cert.Moe.hidden
  simp only [read1 m c t, read2 m c t, read3 m c t, read4 m c t, read5 m c t]

/-- The first point of a tile leaves the residual plus the first group's contribution. -/
theorem carried_first (h0 : t.val % 4 = 0) (r : Fin 512) (d : Fin 1024) :
    (outsAt0 m c t.val t.isLt).2 (ix2 r d) = X m c (ix2 (tok t r) d)
      + Cert.Moe.group (H m c) (C m c) (Wg m c) (Wu m c) (Wd m c) (tok t r) d (grp t) := by
  rw [outsAt0_A m c t h0 (by omega)]
  dsimp only
  rw [sout_A, step_block, read0]

/-- Every later point of a tile adds its group's contribution to what the point before left. -/
theorem carried_next (h0 : ¬t.val % 4 = 0) (r : Fin 512) (d : Fin 1024) :
    (outsAt0 m c t.val t.isLt).2 (ix2 r d) = (outsAt0 m c (t.val - 1) (Nat.lt_of_le_of_lt (Nat.sub_le _ _) t.isLt)).2 (ix2 r d)
      + Cert.Moe.group (H m c) (C m c) (Wg m c) (Wu m c) (Wd m c) (tok t r) d (grp t) := by
  by_cases h1 : t.val % 4 = 3
  · rw [outsAt0_C m c t h0 h1]
    dsimp only
    rw [sout_C, step_block]
  · rw [outsAt0_B m c t h0 h1]
    dsimp only
    rw [sout_B, step_block]

/-- A tile's last point holds, in the running sum, the residual and all four groups' contributions. -/
theorem carried_last (b : ℕ) (hb : 4 * b + 3 < cfg0.N) (r : Fin 512) (d : Fin 1024) (n : Fin 16384) (hn : n.val = 512 * b + r.val) :
    (outsAt0 m c (4 * b + 3) hb).2 (ix2 r d) = Cert.Moe.total (H m c) (C m c) (Wg m c) (Wu m c) (Wd m c) (X m c) n d := by
  have hN : 4 * b + 3 < 128 := Nat.lt_of_lt_of_eq hb N_0
  have e0 := carried_first m c ⟨4 * b, by omega⟩ (by show 4 * b % 4 = 0; omega) r d
  have e1 := carried_next m c ⟨4 * b + 1, by omega⟩ (by show ¬(4 * b + 1) % 4 = 0; omega) r d
  have e2 := carried_next m c ⟨4 * b + 2, by omega⟩ (by show ¬(4 * b + 2) % 4 = 0; omega) r d
  have e3 := carried_next m c ⟨4 * b + 3, hb⟩ (by show ¬(4 * b + 3) % 4 = 0; omega) r d
  have t0 : tok ⟨4 * b, by omega⟩ r = n := Fin.ext (by show 512 * (4 * b / 4) + r.val = n.val; omega)
  have t1 : tok ⟨4 * b + 1, by omega⟩ r = n := Fin.ext (by show 512 * ((4 * b + 1) / 4) + r.val = n.val; omega)
  have t2 : tok ⟨4 * b + 2, by omega⟩ r = n := Fin.ext (by show 512 * ((4 * b + 2) / 4) + r.val = n.val; omega)
  have t3 : tok ⟨4 * b + 3, hb⟩ r = n := Fin.ext (by show 512 * ((4 * b + 3) / 4) + r.val = n.val; omega)
  have g0 : grp ⟨4 * b, by omega⟩ = 0 := Fin.ext (by show 4 * b % 4 = 0; omega)
  have g1 : grp ⟨4 * b + 1, by omega⟩ = 1 := Fin.ext (by show (4 * b + 1) % 4 = 1; omega)
  have g2 : grp ⟨4 * b + 2, by omega⟩ = 2 := Fin.ext (by show (4 * b + 2) % 4 = 2; omega)
  have g3 : grp ⟨4 * b + 3, hb⟩ = 3 := Fin.ext (by show (4 * b + 3) % 4 = 3; omega)
  rw [t0, g0] at e0
  rw [t1, g1] at e1
  rw [t2, g2] at e2
  rw [t3, g3] at e3
  refine e3.trans ?_
  refine (congrArg (· + _) (e2.trans (congrArg (· + _) (e1.trans (congrArg (· + _) e0))))).trans ?_
  unfold Cert.Moe.total
  simp only [add_assoc]

/-- A tile's last point writes back the normalised rows. -/
theorem written_last (b : ℕ) (hb : 4 * b + 3 < cfg0.N) (r : Fin 512) (d : Fin 1024) (n : Fin 16384) (hn : n.val = 512 * b + r.val) :
    (outsAt0 m c (4 * b + 3) hb).1 (ix2 r d)
      = Cert.Moe.rmsNorm (Cert.Moe.total (H m c) (C m c) (Wg m c) (Wu m c) (Wd m c) (X m c) n) (Ln m c (ix1 d)) d := by
  have hs : (outsAt0 m c (4 * b + 3) hb).1 = norm (outsAt0 m c (4 * b + 3) hb).2 (iblk m c 6 ⟨4 * b + 3, hb⟩) := by
    have e := outsAt0_C m c ⟨4 * b + 3, hb⟩ (by show ¬(4 * b + 3) % 4 = 0; omega) (by show (4 * b + 3) % 4 = 3; omega)
    refine (congrArg Prod.fst e).trans (Eq.trans ?_ (congrArg (fun z => norm (Prod.snd z) (iblk m c 6 ⟨4 * b + 3, hb⟩)) e.symm))
    dsimp only
    rw [out_C, sout_C]
  rw [hs]
  refine (norm_apply _ _ r d).trans ?_
  rw [read6]
  exact congrArg (fun y => Cert.Moe.rmsNorm y (Ln m c (ix1 d)) d) (funext fun k => carried_last m c b hb r k n hn)

/-- The result array at one element. -/
theorem result (n : Fin 16384) (d : Fin 1024) : Cert.KernelMoeIdeal.Value.G7 m c (ix2 n d)
    = Cert.Moe.rmsNorm (Cert.Moe.total (H m c) (C m c) (Wg m c) (Wu m c) (Wd m c) (X m c) n) (Ln m c (ix1 d)) d := by
  have hp : 4 * (n.val / 512) + 3 < cfg0.N := Nat.lt_of_lt_of_eq (by omega) N_0.symm
  refine Eq.trans ?_ (written_last m c (n.val / 512) hp ⟨n.val % 512, Nat.mod_lt _ (by decide)⟩ d n
    (by show n.val = 512 * (n.val / 512) + n.val % 512; omega))
  have hq : Cert.KernelMoeIdeal.Value.pt7Of (ix2 n d) = 4 * (n.val / 512) + 3 := by
    show 4 * (1 * (n.val / 512 - 0) + 1 * (d.val / 1024 - 0)) + 3 = _
    omega
  have hl : Cert.KernelMoeIdeal.Value.loc7Of (ix2 n d) = ix2 ⟨n.val % 512, Nat.mod_lt _ (by decide)⟩ d := by
    funext a
    match a with
    | ⟨0, _⟩ => rfl
    | ⟨1, _⟩ => exact Fin.ext (Nat.mod_eq_of_lt d.isLt)
  unfold Cert.KernelMoeIdeal.Value.G7
  rw [hl, dif_pos (hq ▸ hp), ← Cert.KernelMoeIdeal.Value.outsAt0_sweep m c _ (hq ▸ hp)]
  have hc : ∀ (p q : ℕ) (h : p < cfg0.N) (h' : q < cfg0.N), p = q → outsAt0 m c p h = outsAt0 m c q h' := by
    intro p q h h' e; subst e; rfl
  rw [hc _ _ (hq ▸ hp) hp hq]

end Cert.KernelMoeIdeal.Body

end
-- ==== Proof.lean ====
/-
  The claims of `Cert.Claim`, each from the generated run of its program: the frames, and the equality of each kernel's result
  array with its reference's, element by element.
-/
module

public import proofs.«01_k».proof.Defs
public import proofs.«01_k».proof.Proof.Gen.KernelProj.Frame
public import proofs.«01_k».proof.Proof.Gen.KernelProjIdeal.Value
public import proofs.«01_k».proof.Proof.Gen.KernelBias.Frame
public import proofs.«01_k».proof.Proof.Gen.KernelBiasIdeal.Frame
public import proofs.«01_k».proof.Proof.Gen.KernelAttn.Frame
public import proofs.«01_k».proof.Proof.Gen.KernelAttnIdeal.Value
public import proofs.«01_k».proof.Proof.Gen.KernelRwkv.Frame
public import proofs.«01_k».proof.Proof.Gen.KernelRwkvIdeal.Frame
public import proofs.«01_k».proof.Proof.Gen.KernelMerge.Frame
public import proofs.«01_k».proof.Proof.Gen.KernelMergeIdeal.Value
public import proofs.«01_k».proof.Proof.Gen.KernelMoe.Frame
public import proofs.«01_k».proof.Proof.Gen.KernelMoeIdeal.Value
public import proofs.«01_k».proof.Proof.Gen.Pre_bounded
public import proofs.«01_k».proof.Proof.Gen.Pre_finite
public import proofs.«01_k».proof.Proof.Gen.ReferenceProjIdeal.Run
public import proofs.«01_k».proof.Proof.Gen.ReferenceBiasIdeal.Run
public import proofs.«01_k».proof.Proof.Gen.ReferenceAttnIdeal.Run
public import proofs.«01_k».proof.Proof.Gen.ReferenceMergeIdeal.Run
public import proofs.«01_k».proof.Proof.Gen.ReferenceMoeIdeal.Run
public import proofs.«01_k».proof.Proof.ProjRef
public import proofs.«01_k».proof.Proof.ProjKernel
public import proofs.«01_k».proof.Proof.BiasTail
public import proofs.«01_k».proof.Proof.AttnRef
public import proofs.«01_k».proof.Proof.AttnPre
public import proofs.«01_k».proof.Proof.AttnKernel
public import proofs.«01_k».proof.Proof.MergeRef
public import proofs.«01_k».proof.Proof.MergePre
public import proofs.«01_k».proof.Proof.MergeWhole
public import proofs.«01_k».proof.Proof.MoeRef
public import proofs.«01_k».proof.Proof.MoeKernel
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceProjIdeal : quiescent_ReferenceProjIdeal := fun m ρ _ =>
  (θ_run Cert.ReferenceProjIdeal.defs _ _).mono (fun r h => ⟨fun c => (h c).2.2.2.2.2, sem_eq_zero_of_no_sems (by decide) r.2⟩)
    (Cert.ReferenceProjIdeal.Value.run (F := Ideal) m ρ)

theorem quiescent_ReferenceBiasIdeal : quiescent_ReferenceBiasIdeal := fun m ρ _ =>
  (θ_run Cert.ReferenceBiasIdeal.defs _ _).mono (fun r h => ⟨fun c => (h c).2, sem_eq_zero_of_no_sems (by decide) r.2⟩)
    (Cert.ReferenceBiasIdeal.Value.run (F := Ideal) m ρ)

theorem quiescent_ReferenceAttnIdeal : quiescent_ReferenceAttnIdeal := fun m ρ _ =>
  (θ_run Cert.ReferenceAttnIdeal.defs _ _).mono (fun r h => ⟨fun c => (h c).2, sem_eq_zero_of_no_sems (by decide) r.2⟩)
    (Cert.ReferenceAttnIdeal.Value.run (F := Ideal) m ρ)

theorem quiescent_ReferenceAttnIdeal_pre_finite : quiescent_ReferenceAttnIdeal_pre_finite := fun m ρ _ =>
  (θ_run Cert.ReferenceAttnIdeal.defs _ _).mono (fun r h => ⟨fun c => (h c).2, sem_eq_zero_of_no_sems (by decide) r.2⟩)
    (Cert.ReferenceAttnIdeal.Value.run (F := Ideal) m ρ)

theorem quiescent_ReferenceMergeIdeal : quiescent_ReferenceMergeIdeal := fun m ρ _ =>
  (θ_run Cert.ReferenceMergeIdeal.defs _ _).mono (fun r h => ⟨fun c => (h c).2.2.2, sem_eq_zero_of_no_sems (by decide) r.2⟩)
    (Cert.ReferenceMergeIdeal.Value.run (F := Ideal) m ρ)

theorem quiescent_ReferenceMergeIdeal_pre_bounded : quiescent_ReferenceMergeIdeal_pre_bounded := fun m ρ _ =>
  (θ_run Cert.ReferenceMergeIdeal.defs _ _).mono (fun r h => ⟨fun c => (h c).2.2.2, sem_eq_zero_of_no_sems (by decide) r.2⟩)
    (Cert.ReferenceMergeIdeal.Value.run (F := Ideal) m ρ)

theorem quiescent_ReferenceMoeIdeal : quiescent_ReferenceMoeIdeal := fun m ρ _ =>
  (θ_run Cert.ReferenceMoeIdeal.defs _ _).mono (fun r h => ⟨fun c => (h c).2, sem_eq_zero_of_no_sems (by decide) r.2⟩)
    (Cert.ReferenceMoeIdeal.Value.run (F := Ideal) m ρ)

/-- Two arrays of two axes that agree at every row and column are equal. -/
theorem ext2 {a b : ℕ} {α : Type} {x y : (⟨2, ![a, b]⟩ : Shape).Idx → α} (h : ∀ (n : Fin a) (d : Fin b), x (ix2 n d) = y (ix2 n d)) :
    x = y := by
  funext j
  obtain ⟨n, d, rfl⟩ : ∃ (n : Fin a) (d : Fin b), j = ix2 n d := ⟨j 0, j 1, by ext a; fin_cases a <;> rfl⟩
  exact h n d

/-- Two arrays over the sequences equal at every chunk's row and every head's lane are equal. -/
theorem ext_heads {α : Type} {x y : (⟨3, ![8, 2048, 512]⟩ : Shape).Idx → α}
    (h : ∀ (b : Fin 8) (n : Fin 32) (r : Fin 64) (g : Fin 8) (e : Fin 64),
      x (ix3 b (Cert.Attn.row n r) (Cert.Attn.lane g e)) = y (ix3 b (Cert.Attn.row n r) (Cert.Attn.lane g e))) : x = y := by
  funext i
  have key := h (i 0) ⟨(i 1).val / 64, by have h1 : (i 1).val < 2048 := (i 1).isLt; omega⟩ ⟨(i 1).val % 64, Nat.mod_lt _ (by decide)⟩
    ⟨(i 2).val / 64, by have h2 : (i 2).val < 512 := (i 2).isLt; omega⟩ ⟨(i 2).val % 64, Nat.mod_lt _ (by decide)⟩
  have e : (ix3 (i 0) (Cert.Attn.row ⟨(i 1).val / 64, by have h1 : (i 1).val < 2048 := (i 1).isLt; omega⟩ ⟨(i 1).val % 64, Nat.mod_lt _ (by decide)⟩)
      (Cert.Attn.lane ⟨(i 2).val / 64, by have h2 : (i 2).val < 512 := (i 2).isLt; omega⟩ ⟨(i 2).val % 64, Nat.mod_lt _ (by decide)⟩)
      : (⟨3, ![8, 2048, 512]⟩ : Shape).Idx) = i := by
    funext a
    match a with
    | ⟨0, _⟩ => rfl
    | ⟨1, _⟩ => exact Fin.ext (Nat.div_add_mod (i 1).val 64)
    | ⟨2, _⟩ => exact Fin.ext (Nat.div_add_mod (i 2).val 64)
  rw [e] at key
  exact key

/-- The projection's five arrays are its reference's. -/
theorem algebraic_KernelProjIdeal_ReferenceProjIdeal : algebraic_KernelProjIdeal_ReferenceProjIdeal := by
  intro m ρ m' ρ' _ hagree
  refine ⟨_, _, _, _, _, Cert.KernelProjIdeal.Value.run (F := Ideal) m ρ, ?_⟩
  refine (θ_run Cert.ReferenceProjIdeal.defs _ _).mono (fun _ h c => ⟨?_, ?_, ?_, ?_, ?_, (h c).2.2.2.2.2⟩) (Cert.ReferenceProjIdeal.Value.run (F := Ideal) m' ρ')
  all_goals obtain ⟨h0, h1, h2, h3⟩ := hagree c
  · rw [(h c).1, Cert.ReferenceProjIdeal.Read.val_main_v34_eq, h0, h1, h2]
    exact ext2 fun n d => (Cert.ReferenceProjIdeal.Whole.q _ _ _ n d).trans (Cert.KernelProjIdeal.Body.result4 m c n d).symm
  · rw [(h c).2.1, Cert.ReferenceProjIdeal.Read.val_main_v36_eq, h0, h1, h2]
    exact ext2 fun n d => (Cert.ReferenceProjIdeal.Whole.k _ _ _ n d).trans (Cert.KernelProjIdeal.Body.result5 m c n d).symm
  · rw [(h c).2.2.1, Cert.ReferenceProjIdeal.Read.val_main_v38_eq, h0, h1, h2]
    exact ext2 fun n d => (Cert.ReferenceProjIdeal.Whole.v _ _ _ n d).trans (Cert.KernelProjIdeal.Body.result6 m c n d).symm
  · rw [(h c).2.2.2.1, Cert.ReferenceProjIdeal.Read.val_main_v39_eq, h0, h1, h2, h3]
    exact ext2 fun n d => (Cert.ReferenceProjIdeal.Whole.rw' _ _ _ _ n d).trans (Cert.KernelProjIdeal.Body.result7 m c n d).symm
  · rw [(h c).2.2.2.2.1, Cert.ReferenceProjIdeal.Read.val_main_v41_eq, h0, h1, h2]
    exact ext2 fun n d => (Cert.ReferenceProjIdeal.Whole.gates _ _ _ n d).trans (Cert.KernelProjIdeal.Body.result8 m c n d).symm

/-- Two arrays of three axes that agree at every place are equal. -/
theorem ext3 {a b d : ℕ} {α : Type} {x y : (⟨3, ![a, b, d]⟩ : Shape).Idx → α} (h : ∀ (i : Fin a) (j : Fin b) (k : Fin d), x (ix3 i j k) = y (ix3 i j k)) :
    x = y := by
  funext p
  obtain ⟨i, j, k, rfl⟩ : ∃ (i : Fin a) (j : Fin b) (k : Fin d), p = ix3 i j k := ⟨p 0, p 1, p 2, by ext a; fin_cases a <;> rfl⟩
  exact h i j k

/-- The relative bias is the table's lookup, over the whole band. -/
theorem algebraic_KernelBiasIdeal_ReferenceBiasIdeal : algebraic_KernelBiasIdeal_ReferenceBiasIdeal := by
  intro m ρ m' ρ' hpre hagree
  refine ⟨_, Cert.Bias.run m ρ, ?_⟩
  refine (θ_run Cert.ReferenceBiasIdeal.defs _ _).mono (fun _ h c => ⟨?_, (h c).2⟩) (Cert.ReferenceBiasIdeal.Value.run (F := Ideal) m' ρ')
  have h0 := hagree c
  rw [(h c).1, Cert.ReferenceBiasIdeal.Read.val_main_v18_eq, h0]
  exact ext3 fun h r k => (Cert.Bias.whole _ h r k).trans (Cert.Bias.bias m c h r k).symm

/-- At finite queries, keys and bias the attention's array is its reference's. -/
theorem algebraic_KernelAttnIdeal_ReferenceAttnIdeal_pre_finite : algebraic_KernelAttnIdeal_ReferenceAttnIdeal_pre_finite := by
  intro m ρ m' ρ' hpre hagree
  refine ⟨_, Cert.KernelAttnIdeal.Value.run (F := Ideal) m ρ, ?_⟩
  refine (θ_run Cert.ReferenceAttnIdeal.defs _ _).mono (fun _ h c => ⟨?_, (h c).2⟩) (Cert.ReferenceAttnIdeal.Value.run (F := Ideal) m' ρ')
  obtain ⟨h0, h1, h2, h3⟩ := hagree c
  rw [(h c).1, Cert.ReferenceAttnIdeal.Read.val_main_v65_eq, h0, h1, h2, h3]
  obtain ⟨hq, hk, hb⟩ := Cert.Pre_finite.Read.arrays _ _ _ _ (congrFun (hpre c) ix0)
  refine ext_heads fun b n r h e => ?_
  refine (Cert.ReferenceAttnIdeal.Whole.out _ _ _ _ b n r h e).trans ?_
  refine Eq.trans ?_ (Cert.KernelAttnIdeal.Body.result m c b n r h e).symm
  exact (Cert.Attn.mean_eq _ _ (Cert.Attn.score_real _ _ _ hq hk hb b n h r)).symm

/-- At bounded norm weights and bounded router weights and biases the merge's three arrays are its reference's. -/
theorem algebraic_KernelMergeIdeal_ReferenceMergeIdeal_pre_bounded : algebraic_KernelMergeIdeal_ReferenceMergeIdeal_pre_bounded := by
  intro m ρ m' ρ' hpre hagree
  refine ⟨_, _, _, Cert.KernelMergeIdeal.Value.run_blocks (F := Ideal) m ρ, ?_⟩
  refine (θ_run Cert.ReferenceMergeIdeal.defs _ _).mono (fun _ h c => ⟨?_, ?_, ?_, (h c).2.2.2⟩) (Cert.ReferenceMergeIdeal.Value.run (F := Ideal) m' ρ')
  all_goals obtain ⟨h0, h1, h2, h3, h4, h5, h6, h7, h8, h9, h10, h11⟩ := hagree c
  · rw [(h c).1, Cert.ReferenceMergeIdeal.Read.val_main_v11_eq]
    exact ext2 fun n d => Cert.Merge.residuals_of m c _ _ _ _ _ _ _ h0 h1 h2 h3 h4 h5 h6 n d
  · rw [(h c).2.1, Cert.ReferenceMergeIdeal.Read.val_main_v67_eq]
    exact ext2 fun n d => Cert.Merge.norms_of m c _ _ _ _ _ _ _ _ h0 h1 h2 h3 h4 h5 h6 h7 n d
  · obtain ⟨b7, b8, b9, b10, b11⟩ := Cert.Pre_bounded.Read.arrays _ _ _ _ _ _ _ _ _ _ _ _ (congrFun (hpre c) ix0)
    rw [(h c).2.2.1, Cert.ReferenceMergeIdeal.Read.val_main_v68_eq]
    exact ext2 fun n l => Cert.Merge.weights_of m c b7 b8 b9 b10 b11 _ _ _ _ _ _ _ _ _ _ _ _ h0 h1 h2 h3 h4 h5 h6 h7 h8 h9 h10 h11 n l

theorem algebraic_KernelMoeIdeal_ReferenceMoeIdeal : algebraic_KernelMoeIdeal_ReferenceMoeIdeal := by
  intro m ρ m' ρ' _ hagree
  refine ⟨_, Cert.KernelMoeIdeal.Value.run (F := Ideal) m ρ, ?_⟩
  refine (θ_run Cert.ReferenceMoeIdeal.defs _ _).mono (fun _ h c => ⟨?_, (h c).2⟩) (Cert.ReferenceMoeIdeal.Value.run (F := Ideal) m' ρ')
  rw [(h c).1, Cert.ReferenceMoeIdeal.Read.val_main_v68_eq]
  obtain ⟨h0, h1, h2, h3, h4, h5, h6⟩ := hagree c
  rw [h0, h1, h2, h3, h4, h5, h6]
  funext j
  obtain ⟨n, d, rfl⟩ : ∃ (n : Fin 16384) (d : Fin 1024), j = ix2 n d := ⟨j 0, j 1, by ext a; fin_cases a <;> rfl⟩
  exact (Cert.ReferenceMoeIdeal.Whole.whole _ _ _ _ _ _ _ n d).trans (Cert.KernelMoeIdeal.Body.result m c n d).symm

theorem claim : Cert.Claim := ⟨Cert.KernelProj.Gen.facts, Cert.KernelProjIdeal.Gen.facts, Cert.ReferenceProjIdeal.Gen.facts, Cert.KernelBias.Gen.facts, Cert.KernelBiasIdeal.Gen.facts, Cert.ReferenceBiasIdeal.Gen.facts, Cert.KernelAttn.Gen.facts, Cert.KernelAttnIdeal.Gen.facts, Cert.ReferenceAttnIdeal.Gen.facts, Cert.KernelRwkv.Gen.facts, Cert.KernelRwkvIdeal.Gen.facts, Cert.KernelMerge.Gen.facts, Cert.KernelMergeIdeal.Gen.facts, Cert.ReferenceMergeIdeal.Gen.facts, Cert.KernelMoe.Gen.facts, Cert.KernelMoeIdeal.Gen.facts, Cert.ReferenceMoeIdeal.Gen.facts, Cert.Pre_finite.Gen.facts, Cert.Pre_bounded.Gen.facts,
  fun m ρ _ => Cert.KernelProj.Gen.frame m ρ, fun m ρ _ => Cert.KernelProjIdeal.Gen.frame m ρ, quiescent_ReferenceProjIdeal, fun m ρ _ => Cert.KernelBias.Gen.frame m ρ, fun m ρ _ => Cert.KernelBiasIdeal.Gen.frame m ρ, quiescent_ReferenceBiasIdeal, fun m ρ _ => Cert.KernelAttn.Gen.frame m ρ, fun m ρ _ => Cert.KernelAttnIdeal.Gen.frame m ρ, fun m ρ _ => Cert.KernelAttnIdeal.Gen.frame m ρ, quiescent_ReferenceAttnIdeal, quiescent_ReferenceAttnIdeal_pre_finite, fun m ρ _ => Cert.KernelRwkv.Gen.frame m ρ, fun m ρ _ => Cert.KernelRwkvIdeal.Gen.frame m ρ, fun m ρ _ => Cert.KernelMerge.Gen.frame m ρ, fun m ρ _ => Cert.KernelMergeIdeal.Gen.frame m ρ, fun m ρ _ => Cert.KernelMergeIdeal.Gen.frame m ρ, quiescent_ReferenceMergeIdeal, quiescent_ReferenceMergeIdeal_pre_bounded, fun m ρ _ => Cert.KernelMoe.Gen.frame m ρ, fun m ρ _ => Cert.KernelMoeIdeal.Gen.frame m ρ, quiescent_ReferenceMoeIdeal,
  (trivial : preserves_KernelProj_KernelProjIdeal), algebraic_KernelProjIdeal_ReferenceProjIdeal, (trivial : preserves_KernelBias_KernelBiasIdeal), algebraic_KernelBiasIdeal_ReferenceBiasIdeal, (trivial : preserves_KernelAttn_KernelAttnIdeal), algebraic_KernelAttnIdeal_ReferenceAttnIdeal_pre_finite, (trivial : preserves_KernelRwkv_KernelRwkvIdeal), (trivial : preserves_KernelMerge_KernelMergeIdeal), algebraic_KernelMergeIdeal_ReferenceMergeIdeal_pre_bounded, (trivial : preserves_KernelMoe_KernelMoeIdeal), algebraic_KernelMoeIdeal_ReferenceMoeIdeal⟩

end Cert.Proof

end
